-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_swa_finite [hPre_swa_finite : Cert.Pre_swa_finite.Facts] (m : (ℓ : Loc Cert.KernelIdeal.nD Cert.KernelIdeal.τ Cert.KernelIdeal.sig) → Buf (Elt Ideal) ℓ) : Prop :=
  ∀ c : Dev Cert.KernelIdeal.nD,
    (Cert.Pre_swa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swa_finite [hPre_swa_finite : Cert.Pre_swa_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down [hPre_tables_in_range : Cert.Pre_tables_in_range.Facts] (m : (ℓ : Loc Cert.Down.nD Cert.Down.τ Cert.Down.sig) → Buf (Elt Bits) ℓ) : Prop :=
  ∀ c : Dev Cert.Down.nD,
    (Cert.Pre_tables_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_tables_in_range : Cert.Pre_tables_in_range.Facts] (m : (ℓ : Loc Cert.DownIdeal.nD Cert.DownIdeal.τ Cert.DownIdeal.sig) → Buf (Elt Ideal) ℓ) : Prop :=
  ∀ c : Dev Cert.DownIdeal.nD,
    (Cert.Pre_tables_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_tables_in_range [hPre_tables_in_range : Cert.Pre_tables_in_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_tables_in_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Up [hPre_up_tables_in_range : Cert.Pre_up_tables_in_range.Facts] (m : (ℓ : Loc Cert.Up.nD Cert.Up.τ Cert.Up.sig) → Buf (Elt Bits) ℓ) : Prop :=
  ∀ c : Dev Cert.Up.nD,
    (Cert.Pre_up_tables_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_up_tables_in_range : Cert.Pre_up_tables_in_range.Facts] (m : (ℓ : Loc Cert.UpIdeal.nD Cert.UpIdeal.τ Cert.UpIdeal.sig) → Buf (Elt Ideal) ℓ) : Prop :=
  ∀ c : Dev Cert.UpIdeal.nD,
    (Cert.Pre_up_tables_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_tables_in_range [hPre_up_tables_in_range : Cert.Pre_up_tables_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_tables_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_swa_finite [hKernelIdeal : Cert.KernelIdeal.Facts] [hPre_swa_finite : Cert.Pre_swa_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swa_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swa_finite [hReferenceIdeal : Cert.ReferenceIdeal.Facts] [hPre_swa_finite : Cert.Pre_swa_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swa_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Down [hDown : Cert.Down.Facts] [hPre_tables_in_range : Cert.Pre_tables_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_tables_in_range : Cert.Pre_tables_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_tables_in_range [hDownRefIdeal : Cert.DownRefIdeal.Facts] [hPre_tables_in_range : Cert.Pre_tables_in_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_tables_in_range m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] [hPre_up_tables_in_range : Cert.Pre_up_tables_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_up_tables_in_range : Cert.Pre_up_tables_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_up_tables_in_range [hUpRefIdeal : Cert.UpRefIdeal.Facts] [hPre_up_tables_in_range : Cert.Pre_up_tables_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_tables_in_range m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_swa_finite [hKernelIdeal : Cert.KernelIdeal.Facts] [hReferenceIdeal : Cert.ReferenceIdeal.Facts] [hPre_swa_finite : Cert.Pre_swa_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swa_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Down_DownIdeal : Prop :=
  True

def algebraic_DownIdeal_DownRefIdeal [hDownIdeal : Cert.DownIdeal.Facts] [hDownRefIdeal : Cert.DownRefIdeal.Facts] [hPre_tables_in_range : Cert.Pre_tables_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] [hPre_up_tables_in_range : Cert.Pre_up_tables_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v21) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hPre_swa_finite : Cert.Pre_swa_finite.Facts) (hPre_tables_in_range : Cert.Pre_tables_in_range.Facts) (hPre_up_tables_in_range : Cert.Pre_up_tables_in_range.Facts),
    quiescent_Kernel (hKernel := hKernel)
    ∧ quiescent_KernelIdeal (hKernelIdeal := hKernelIdeal)
    ∧ quiescent_KernelIdeal_pre_swa_finite (hKernelIdeal := hKernelIdeal) (hPre_swa_finite := hPre_swa_finite)
    ∧ quiescent_ReferenceIdeal (hReferenceIdeal := hReferenceIdeal)
    ∧ quiescent_ReferenceIdeal_pre_swa_finite (hReferenceIdeal := hReferenceIdeal) (hPre_swa_finite := hPre_swa_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown) (hPre_tables_in_range := hPre_tables_in_range)
    ∧ quiescent_DownIdeal (hDownIdeal := hDownIdeal) (hPre_tables_in_range := hPre_tables_in_range)
    ∧ quiescent_DownRefIdeal (hDownRefIdeal := hDownRefIdeal)
    ∧ quiescent_DownRefIdeal_pre_tables_in_range (hDownRefIdeal := hDownRefIdeal) (hPre_tables_in_range := hPre_tables_in_range)
    ∧ quiescent_Up (hUp := hUp) (hPre_up_tables_in_range := hPre_up_tables_in_range)
    ∧ quiescent_UpIdeal (hUpIdeal := hUpIdeal) (hPre_up_tables_in_range := hPre_up_tables_in_range)
    ∧ quiescent_UpRefIdeal (hUpRefIdeal := hUpRefIdeal)
    ∧ quiescent_UpRefIdeal_pre_up_tables_in_range (hUpRefIdeal := hUpRefIdeal) (hPre_up_tables_in_range := hPre_up_tables_in_range)
    ∧ preserves_Kernel_KernelIdeal
    ∧ algebraic_KernelIdeal_ReferenceIdeal_pre_swa_finite (hKernelIdeal := hKernelIdeal) (hReferenceIdeal := hReferenceIdeal) (hPre_swa_finite := hPre_swa_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal (hDownIdeal := hDownIdeal) (hDownRefIdeal := hDownRefIdeal) (hPre_tables_in_range := hPre_tables_in_range)
    ∧ preserves_Up_UpIdeal
    ∧ algebraic_UpIdeal_UpRefIdeal (hUpIdeal := hUpIdeal) (hUpRefIdeal := hUpRefIdeal) (hPre_up_tables_in_range := hPre_up_tables_in_range)
-- ==== Pre_swa_finite.lean ====
abbrev S8x2048x16216 : Shape := ⟨3, ![8, 2048, 16216]⟩
abbrev S16 : Shape := ⟨1, ![16]⟩
abbrev S_ : Shape := ⟨0, ![]⟩

class Facts : Prop where
  bcast_S_S8x2048x16216 : S_.BroadcastsInDim S8x2048x16216 (![] : Fin 0 → Fin S8x2048x16216.rank)
  reducesTo_S8x2048x16216_S_d0_1_2 : S8x2048x16216.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8x2048x16216 .f32) (main_arg1 : FVec F S16 .f32) : IVec S_ 1 :=
  let main_v0 : FVec F S8x2048x16216 .f32 := Host.absf main_arg0
  let main_cst : FVec F S_ .f32 := constant S_ .f32 0x7F800000#32
  let main_v1 : FVec F S8x2048x16216 .f32 := broadcastInDim S8x2048x16216 ![] bcast_S_S8x2048x16216 main_cst
  let main_v2 : IVec S8x2048x16216 1 := cmpf .olt main_v0 main_v1
  let main_c : IVec S_ 1 := constantI S_ 1 1#1
  let main_v3 : IVec S_ 1 := (fun x v => Host.reduce IntOp.andi x v reducesTo_S8x2048x16216_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Pre_tables_in_range.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x7168 .bf16) (main_arg1 : IVec S72 32) (main_arg2 : IVec S1 32) (main_arg3 : FVec F S8x7168x2048 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg1 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 72#32
  let main_v11 : IVec S1 32 := broadcastInDim S1 ![] bcast_S_S1 main_c_5
  let main_v12 : IVec S1 1 := cmpi .sle main_arg2 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Pre_up_tables_in_range.lean ====
abbrev S36864x2048 : Shape := ⟨2, ![36864, 2048]⟩
abbrev S72 : Shape := ⟨1, ![72]⟩
abbrev S1 : Shape := ⟨1, ![1]⟩
abbrev S8x2048x14336 : Shape := ⟨3, ![8, 2048, 14336]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x2048 .f32) (main_arg1 : IVec S72 32) (main_arg2 : IVec S1 32) (main_arg3 : FVec F S8x2048x14336 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg1 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 72#32
  let main_v11 : IVec S1 32 := broadcastInDim S1 ![] bcast_S_S1 main_c_5
  let main_v12 : IVec S1 1 := cmpi .sle main_arg2 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S8x2048x16216 : Shape := ⟨3, ![8, 2048, 16216]⟩
abbrev S16 : Shape := ⟨1, ![16]⟩
abbrev S8x2048x64 : Shape := ⟨3, ![8, 2048, 64]⟩
abbrev S8x2048x3072 : Shape := ⟨3, ![8, 2048, 3072]⟩
abbrev S8x2048x1024 : Shape := ⟨3, ![8, 2048, 1024]⟩
abbrev S8x2048x512 : Shape := ⟨3, ![8, 2048, 512]⟩
abbrev S8x2048x768 : Shape := ⟨3, ![8, 2048, 768]⟩
abbrev S8x2048x32 : Shape := ⟨3, ![8, 2048, 32]⟩
abbrev S_ : Shape := ⟨0, ![]⟩
abbrev S8x2048x128 : Shape := ⟨3, ![8, 2048, 128]⟩
abbrev S8x2048x8192 : Shape := ⟨3, ![8, 2048, 8192]⟩
abbrev S8x2048x16384 : Shape := ⟨3, ![8, 2048, 16384]⟩
abbrev S1x16 : Shape := ⟨2, ![1, 16]⟩
abbrev S1x128x1024 : Shape := ⟨3, ![1, 128, 1024]⟩
abbrev S1x128x256 : Shape := ⟨3, ![1, 128, 256]⟩
abbrev S256x256 : Shape := ⟨2, ![256, 256]⟩
abbrev S256x128 : Shape := ⟨2, ![256, 128]⟩
abbrev S1x128x128 : Shape := ⟨3, ![1, 128, 128]⟩
abbrev S128x128 : Shape := ⟨2, ![128, 128]⟩
abbrev S1x1 : Shape := ⟨2, ![1, 1]⟩
abbrev S256 : Shape := ⟨1, ![256]⟩
abbrev S256x1 : Shape := ⟨2, ![256, 1]⟩

abbrev nBuf : Space → Nat
  | .hbm => 21
  | .vmem => 13
  | .smem => 0
  | _ => 0

abbrev bufTy : (tb : Table) → Fin (tcTables nBuf tb) → BufTy
  | .hbm, ⟨0, _⟩ => ⟨S8x2048x16216, .f32⟩
  | .hbm, ⟨1, _⟩ => ⟨S16, .f32⟩
  | .hbm, ⟨2, _⟩ => ⟨S8x2048x64, .f32⟩
  | .hbm, ⟨3, _⟩ => ⟨S8x2048x3072, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x512, .f32⟩
  | .hbm, ⟨8, _⟩ => ⟨S8x2048x768, .f32⟩
  | .hbm, ⟨9, _⟩ => ⟨S8x2048x512, .f32⟩
  | .hbm, ⟨10, _⟩ => ⟨S8x2048x32, .f32⟩
  | .hbm, ⟨11, _⟩ => ⟨S8x2048x32, .f32⟩
  | .hbm, ⟨12, _⟩ => ⟨S8x2048x32, .f32⟩
  | .hbm, ⟨13, _⟩ => ⟨S8x2048x64, .f32⟩
  | .hbm, ⟨14, _⟩ => ⟨S_, .f32⟩
  | .hbm, ⟨15, _⟩ => ⟨S8x2048x128, .f32⟩
  | .hbm, ⟨16, _⟩ => ⟨S8x2048x8192, .f32⟩
  | .hbm, ⟨17, _⟩ => ⟨S8x2048x16384, .f32⟩
  | .hbm, ⟨18, _⟩ => ⟨S8x2048x16384, .bf16⟩
  | .hbm, ⟨19, _⟩ => ⟨S1x16, .f32⟩
  | .hbm, ⟨20, _⟩ => ⟨S8x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x16, .f32⟩
  | .local _ .vmem, ⟨11, _⟩ => ⟨S1x128x1024, .bf16⟩
  | .local _ .vmem, ⟨12, _⟩ => ⟨S1x128x1024, .bf16⟩
  | _, _ => ⟨S8x2048x16216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c29_i32 : BitVec 32 := 29#32
  let c0_i32 : BitVec 32 := 0#32
  ![arg0.toNat, arg1.toNat, c29_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c29_i32 : BitVec 32 := 29#32
  let c0_i32_0 : BitVec 32 := 0#32
  ![arg0.toNat, v1.toNat, c29_i32.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let c0_i32 : BitVec 32 := 0#32
  ![arg0.toNat, arg1.toNat, c30_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c30_i32 : BitVec 32 := 30#32
  let c0_i32_0 : BitVec 32 := 0#32
  ![arg0.toNat, v1.toNat, c30_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x2048x16216 : Shape := ⟨3, ![8, 2048, 16216]⟩
abbrev S16 : Shape := ⟨1, ![16]⟩
abbrev S8x2048x1024 : Shape := ⟨3, ![8, 2048, 1024]⟩
abbrev S8x2048x256 : Shape := ⟨3, ![8, 2048, 256]⟩
abbrev S8x2048x16x64 : Shape := ⟨4, ![8, 2048, 16, 64]⟩
abbrev S8x2048x4x64 : Shape := ⟨4, ![8, 2048, 4, 64]⟩
abbrev S8x16x128x4x4x64 : Shape := ⟨6, ![8, 16, 128, 4, 4, 64]⟩
abbrev S8x16x128x4x64 : Shape := ⟨5, ![8, 16, 128, 4, 64]⟩
abbrev S8x1x128x4x64 : Shape := ⟨5, ![8, 1, 128, 4, 64]⟩
abbrev S_ : Shape := ⟨0, ![]⟩
abbrev S8x15x128x4x64 : Shape := ⟨5, ![8, 15, 128, 4, 64]⟩
abbrev S8x16x256x4x64 : Shape := ⟨5, ![8, 16, 256, 4, 64]⟩
abbrev S8x16x4x256x128x4 : Shape := ⟨6, ![8, 16, 4, 256, 128, 4]⟩
abbrev S8x16x4x4x128x256 : Shape := ⟨6, ![8, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S8x16x4x4x128x1 : Shape := ⟨6, ![8, 16, 4, 4, 128, 1]⟩
abbrev S8x16x4x4x128x257 : Shape := ⟨6, ![8, 16, 4, 4, 128, 257]⟩
abbrev S8x16x4x4x128 : Shape := ⟨5, ![8, 16, 4, 4, 128]⟩
abbrev S8x16x4x64x4x128 : Shape := ⟨6, ![8, 16, 4, 64, 4, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x16216, .f32⟩
  | .hbm, ⟨1, _⟩ => ⟨S16, .f32⟩
  | .hbm, ⟨2, _⟩ => ⟨S8x2048x1024, .f32⟩
  | .hbm, ⟨3, _⟩ => ⟨S8x2048x256, .f32⟩
  | .hbm, ⟨4, _⟩ => ⟨S8x2048x256, .f32⟩
  | .hbm, ⟨5, _⟩ => ⟨S8x2048x16x64, .f32⟩
  | .hbm, ⟨6, _⟩ => ⟨S8x2048x4x64, .f32⟩
  | .hbm, ⟨7, _⟩ => ⟨S8x2048x4x64, .f32⟩
  | .hbm, ⟨8, _⟩ => ⟨S8x16x128x4x4x64, .f32⟩
  | .hbm, ⟨9, _⟩ => ⟨S8x16x128x4x64, .f32⟩
  | .hbm, ⟨10, _⟩ => ⟨S8x1x128x4x64, .f32⟩
  | .hbm, ⟨11, _⟩ => ⟨S_, .f32⟩
  | .hbm, ⟨12, _⟩ => ⟨S8x1x128x4x64, .f32⟩
  | .hbm, ⟨13, _⟩ => ⟨S8x15x128x4x64, .f32⟩
  | .hbm, ⟨14, _⟩ => ⟨S8x16x128x4x64, .f32⟩
  | .hbm, ⟨15, _⟩ => ⟨S8x16x256x4x64, .f32⟩
  | .hbm, ⟨16, _⟩ => ⟨S8x16x128x4x64, .f32⟩
  | .hbm, ⟨17, _⟩ => ⟨S8x1x128x4x64, .f32⟩
  | .hbm, ⟨18, _⟩ => ⟨S_, .f32⟩
  | .hbm, ⟨19, _⟩ => ⟨S8x1x128x4x64, .f32⟩
  | .hbm, ⟨20, _⟩ => ⟨S8x15x128x4x64, .f32⟩
  | .hbm, ⟨21, _⟩ => ⟨S8x16x128x4x64, .f32⟩
  | .hbm, ⟨22, _⟩ => ⟨S8x16x256x4x64, .f32⟩
  | .hbm, ⟨23, _⟩ => ⟨S8x16x4x256x128x4, .f32⟩
  | .hbm, ⟨24, _⟩ => ⟨S8x16x4x4x128x256, .f32⟩
  | .hbm, ⟨25, _⟩ => ⟨S_, .f32⟩
  | .hbm, ⟨26, _⟩ => ⟨S8x16x4x4x128x256, .f32⟩
  | .hbm, ⟨27, _⟩ => ⟨S8x16x4x4x128x256, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S128x256, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S16, .i32⟩
  | .hbm, ⟨46, _⟩ => ⟨S16x1x1, .i32⟩
  | .hbm, ⟨47, _⟩ => ⟨S_, .i32⟩
  | .hbm, ⟨48, _⟩ => ⟨S16x1x1, .i32⟩
  | .hbm, ⟨49, _⟩ => ⟨S16x1x1, .i32⟩
  | .hbm, ⟨50, _⟩ => ⟨S1x1x256, .i32⟩
  | .hbm, ⟨51, _⟩ => ⟨S16x1x256, .i32⟩
  | .hbm, ⟨52, _⟩ => ⟨S16x1x256, .i32⟩
  | .hbm, ⟨53, _⟩ => ⟨S16x1x256, .i32⟩
  | .hbm, ⟨54, _⟩ => ⟨S_, .i32⟩
  | .hbm, ⟨55, _⟩ => ⟨S16x1x256, .i32⟩
  | .hbm, ⟨56, _⟩ => ⟨S16x1x256, .i32⟩
  | .hbm, ⟨57, _⟩ => ⟨S_, .i32⟩
  | .hbm, ⟨58, _⟩ => ⟨S16x1x256, .i32⟩
  | .hbm, ⟨59, _⟩ => ⟨S16x1x256, .i1⟩
  | .hbm, ⟨60, _⟩ => ⟨S1x128x256, .i1⟩
  | .hbm, ⟨61, _⟩ => ⟨S16x128x256, .i1⟩
  | .hbm, ⟨62, _⟩ => ⟨S16x128x256, .i1⟩
  | .hbm, ⟨63, _⟩ => ⟨S16x128x256, .i1⟩
  | .hbm, ⟨64, _⟩ => ⟨S1x16x1x1x128x256, .i1⟩
  | .hbm, ⟨65, _⟩ => ⟨S_, .f32⟩
  | .hbm, ⟨66, _⟩ => ⟨S_, .f32⟩
  | .hbm, ⟨67, _⟩ => ⟨S8x16x4x4x128x256, .i1⟩
  | .hbm, ⟨68, _⟩ => ⟨S8x16x4x4x128x256, .f32⟩
  | .hbm, ⟨69, _⟩ => ⟨S8x16x4x4x128x256, .f32⟩
  | .hbm, ⟨70, _⟩ => ⟨S1x1x4x4x1x1, .f32⟩
  | .hbm, ⟨71, _⟩ => ⟨S8x16x4x4x128x1, .f32⟩
  | .hbm, ⟨72, _⟩ => ⟨S8x16x4x4x128x257, .f32⟩
  | .hbm, ⟨73, _⟩ => ⟨S_, .f32⟩
  | .hbm, ⟨74, _⟩ => ⟨S8x16x4x4x128, .f32⟩
  | .hbm, ⟨75, _⟩ => ⟨S_, .f32⟩
  | .hbm, ⟨76, _⟩ => ⟨S8x16x4x4x128, .f32⟩
  | .hbm, ⟨77, _⟩ => ⟨S8x16x4x4x128, .f32⟩
  | .hbm, ⟨78, _⟩ => ⟨S8x16x4x4x128x1, .f32⟩
  | .hbm, ⟨79, _⟩ => ⟨S8x16x4x4x128x257, .f32⟩
  | .hbm, ⟨80, _⟩ => ⟨S8x16x4x4x128x257, .f32⟩
  | .hbm, ⟨81, _⟩ => ⟨S8x16x4x4x128x257, .f32⟩
  | .hbm, ⟨82, _⟩ => ⟨S_, .f32⟩
  | .hbm, ⟨83, _⟩ => ⟨S8x16x4x4x128, .f32⟩
  | .hbm, ⟨84, _⟩ => ⟨S8x16x4x4x128x1, .f32⟩
  | .hbm, ⟨85, _⟩ => ⟨S8x16x4x4x128x257, .f32⟩
  | .hbm, ⟨86, _⟩ => ⟨S8x16x4x4x128x257, .f32⟩
  | .hbm, ⟨87, _⟩ => ⟨S8x16x4x4x128x256, .f32⟩
  | .hbm, ⟨88, _⟩ => ⟨S8x16x4x64x4x128, .f32⟩
  | .hbm, ⟨89, _⟩ => ⟨S8x16x128x4x4x64, .f32⟩
  | .hbm, ⟨90, _⟩ => ⟨S8x2048x1024, .f32⟩
  | .hbm, ⟨91, _⟩ => ⟨S8x2048x1024, .bf16⟩
  | _, _ => ⟨S8x2048x16216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_4 : Ref sig .tc := ⟨.hbm, 54, rfl⟩
abbrev main_v46 : Ref sig .tc := ⟨.hbm, 55, rfl⟩
abbrev main_v47 : Ref sig .tc := ⟨.hbm, 56, rfl⟩
abbrev main_c_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x14336 : Shape := ⟨2, ![2048, 14336]⟩
abbrev S7168x2048 : Shape := ⟨2, ![7168, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14336, .f32⟩
  | .hbm, ⟨3, _⟩ => ⟨S7168x2048, .f32⟩
  | .hbm, ⟨4, _⟩ => ⟨S2048x14336, .bf16⟩
  | .hbm, ⟨5, _⟩ => ⟨S7168x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x14336 : Shape := ⟨2, ![2048, 14336]⟩
abbrev S7168x2048 : Shape := ⟨2, ![7168, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14336 : Shape := ⟨2, ![16384, 14336]⟩
abbrev S16384x7168 : Shape := ⟨2, ![16384, 7168]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14336, .f32⟩
  | .hbm, ⟨3, _⟩ => ⟨S7168x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x14336, .f32⟩
  | .hbm, ⟨21, _⟩ => ⟨S16384x7168, .f32⟩
  | .hbm, ⟨22, _⟩ => ⟨S16384x7168, .f32⟩
  | .hbm, ⟨23, _⟩ => ⟨S16384x7168, .f32⟩
  | .hbm, ⟨24, _⟩ => ⟨S16384x7168, .f32⟩
  | .hbm, ⟨25, _⟩ => ⟨S_, .f32⟩
  | .hbm, ⟨26, _⟩ => ⟨S16384x7168, .f32⟩
  | .hbm, ⟨27, _⟩ => ⟨S16384x7168, .f32⟩
  | .hbm, ⟨28, _⟩ => ⟨S_, .f32⟩
  | .hbm, ⟨29, _⟩ => ⟨S16384x7168, .f32⟩
  | .hbm, ⟨30, _⟩ => ⟨S16384x7168, .f32⟩
  | .hbm, ⟨31, _⟩ => ⟨S16384x7168, .f32⟩
  | .hbm, ⟨32, _⟩ => ⟨S16384x7168, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2x16640x2048 : Shape := ⟨3, ![2, 16640, 2048]⟩
abbrev S1x2048 : Shape := ⟨2, ![1, 2048]⟩
abbrev S16384x16384 : Shape := ⟨2, ![16384, 16384]⟩
abbrev S16384x128 : Shape := ⟨2, ![16384, 128]⟩
abbrev S1024x2048 : Shape := ⟨2, ![1024, 2048]⟩
abbrev S1x2048x2048 : Shape := ⟨3, ![1, 2048, 2048]⟩
abbrev S1x128x2048 : Shape := ⟨3, ![1, 128, 2048]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x16640x2048, .bf16⟩
  | .hbm, ⟨3, _⟩ => ⟨S1x2048, .f32⟩
  | .hbm, ⟨4, _⟩ => ⟨S16384x16384, .bf16⟩
  | .hbm, ⟨5, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x128x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c128_i32 : BitVec 32 := 128#32
  let c0_i32_0 : BitVec 32 := 0#32
  let c0_i32_1 : BitVec 32 := 0#32
  ![c0_i32.toNat, c128_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S16384x2048 : Shape := ⟨2, ![16384, 2048]⟩
abbrev S2048 : Shape := ⟨1, ![2048]⟩
abbrev S2x16640x2048 : Shape := ⟨3, ![2, 16640, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x16640x2048 : Shape := ⟨3, ![1, 16640, 2048]⟩
abbrev S16640x2048 : Shape := ⟨2, ![16640, 2048]⟩
abbrev S2048x16384 : Shape := ⟨2, ![2048, 16384]⟩
abbrev S16384x16384 : Shape := ⟨2, ![16384, 16384]⟩
abbrev S128x2048 : Shape := ⟨2, ![128, 2048]⟩
abbrev S2048x128 : Shape := ⟨2, ![2048, 128]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x16640x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x16640x2048, .bf16⟩
  | .hbm, ⟨20, _⟩ => ⟨S16640x2048, .bf16⟩
  | .hbm, ⟨21, _⟩ => ⟨S16640x2048, .f32⟩
  | .hbm, ⟨22, _⟩ => ⟨S16384x2048, .f32⟩
  | .hbm, ⟨23, _⟩ => ⟨S2048x16384, .f32⟩
  | .hbm, ⟨24, _⟩ => ⟨S16384x16384, .f32⟩
  | .hbm, ⟨25, _⟩ => ⟨S16384x16384, .bf16⟩
  | .hbm, ⟨26, _⟩ => ⟨S128x2048, .f32⟩
  | .hbm, ⟨27, _⟩ => ⟨S2048x128, .f32⟩
  | .hbm, ⟨28, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Merge.lean ====
abbrev S16384x1024 : Shape := ⟨2, ![16384, 1024]⟩
abbrev S4x1024x2048 : Shape := ⟨3, ![4, 1024, 2048]⟩
abbrev S16384x16384 : Shape := ⟨2, ![16384, 16384]⟩
abbrev S16384x2048 : Shape := ⟨2, ![16384, 2048]⟩
abbrev S1024x1024 : Shape := ⟨2, ![1024, 1024]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x1024x2048, .f32⟩
  | .hbm, ⟨5, _⟩ => ⟨S16384x16384, .bf16⟩
  | .hbm, ⟨6, _⟩ => ⟨S4x1024x2048, .bf16⟩
  | .hbm, ⟨7, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x1024x512, .bf16⟩
  | .local _ .vmem, ⟨9, _⟩ => ⟨S4x1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x1024 : Shape := ⟨2, ![16384, 1024]⟩
abbrev S4x1024x2048 : Shape := ⟨3, ![4, 1024, 2048]⟩
abbrev S16384x16384 : Shape := ⟨2, ![16384, 16384]⟩
abbrev S16384x1x1024 : Shape := ⟨3, ![16384, 1, 1024]⟩
abbrev S16384x4x1024 : Shape := ⟨3, ![16384, 4, 1024]⟩
abbrev S16384x8192 : Shape := ⟨2, ![16384, 8192]⟩
abbrev S_ : Shape := ⟨0, ![]⟩
abbrev S16384x4x2048 : Shape := ⟨3, ![16384, 4, 2048]⟩
abbrev S4x2048x16384 : Shape := ⟨3, ![4, 2048, 16384]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x1024x2048, .f32⟩
  | .hbm, ⟨5, _⟩ => ⟨S16384x16384, .bf16⟩
  | .hbm, ⟨6, _⟩ => ⟨S16384x1x1024, .bf16⟩
  | .hbm, ⟨7, _⟩ => ⟨S16384x1x1024, .bf16⟩
  | .hbm, ⟨8, _⟩ => ⟨S16384x1x1024, .bf16⟩
  | .hbm, ⟨9, _⟩ => ⟨S16384x1x1024, .bf16⟩
  | .hbm, ⟨10, _⟩ => ⟨S16384x4x1024, .bf16⟩
  | .hbm, ⟨11, _⟩ => ⟨S16384x4x1024, .f32⟩
  | .hbm, ⟨12, _⟩ => ⟨S16384x8192, .bf16⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x4x2048, .f32⟩
  | .hbm, ⟨23, _⟩ => ⟨S4x2048x16384, .f32⟩
  | .hbm, ⟨24, _⟩ => ⟨S16384x4x2048, .f32⟩
  | .hbm, ⟨25, _⟩ => ⟨S16384x4x2048, .f32⟩
  | .hbm, ⟨26, _⟩ => ⟨S_, .f32⟩
  | .hbm, ⟨27, _⟩ => ⟨S16384x2048, .f32⟩
  | .hbm, ⟨28, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S72, .i32⟩
  | .local _ .smem, ⟨1, _⟩ => ⟨S1, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S72x512x7168 : Shape := ⟨3, ![72, 512, 7168]⟩
abbrev S_ : Shape := ⟨0, ![]⟩
abbrev S72x1 : Shape := ⟨2, ![72, 1]⟩
abbrev S72x7168x2048 : Shape := ⟨3, ![72, 7168, 2048]⟩
abbrev S72x512x2048 : Shape := ⟨3, ![72, 512, 2048]⟩
abbrev S72x1x1 : Shape := ⟨3, ![72, 1, 1]⟩
abbrev S36864x2048 : Shape := ⟨2, ![36864, 2048]⟩

abbrev nBuf : Space → Nat
  | .hbm => 27
  | .vmem => 0
  | .smem => 0
  | _ => 0

abbrev bufTy : (tb : Table) → Fin (tcTables nBuf tb) → BufTy
  | .hbm, ⟨0, _⟩ => ⟨S36864x7168, .bf16⟩
  | .hbm, ⟨1, _⟩ => ⟨S72, .i32⟩
  | .hbm, ⟨2, _⟩ => ⟨S1, .i32⟩
  | .hbm, ⟨3, _⟩ => ⟨S8x7168x2048, .f32⟩
  | .hbm, ⟨4, _⟩ => ⟨S36864x7168, .f32⟩
  | .hbm, ⟨5, _⟩ => ⟨S72x512x7168, .f32⟩
  | .hbm, ⟨6, _⟩ => ⟨S_, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72, .i32⟩
  | .hbm, ⟨13, _⟩ => ⟨S72x1, .i32⟩
  | .hbm, ⟨14, _⟩ => ⟨S72x7168x2048, .f32⟩
  | .hbm, ⟨15, _⟩ => ⟨S72x512x2048, .f32⟩
  | .hbm, ⟨16, _⟩ => ⟨S72, .i32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S72x1x1, .i1⟩
  | .hbm, ⟨21, _⟩ => ⟨S_, .f32⟩
  | .hbm, ⟨22, _⟩ => ⟨S_, .f32⟩
  | .hbm, ⟨23, _⟩ => ⟨S72x512x2048, .i1⟩
  | .hbm, ⟨24, _⟩ => ⟨S72x512x2048, .f32⟩
  | .hbm, ⟨25, _⟩ => ⟨S72x512x2048, .f32⟩
  | .hbm, ⟨26, _⟩ => ⟨S36864x2048, .f32⟩
  | _, _ => ⟨S36864x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Up.lean ====
abbrev S36864x2048 : Shape := ⟨2, ![36864, 2048]⟩
abbrev S72 : Shape := ⟨1, ![72]⟩
abbrev S1 : Shape := ⟨1, ![1]⟩
abbrev S8x2048x14336 : Shape := ⟨3, ![8, 2048, 14336]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 10
  | .smem => 2
  | _ => 0

abbrev bufTy : (tb : Table) → Fin (tcTables nBuf tb) → BufTy
  | .hbm, ⟨0, _⟩ => ⟨S36864x2048, .f32⟩
  | .hbm, ⟨1, _⟩ => ⟨S8x2048x14336, .f32⟩
  | .hbm, ⟨2, _⟩ => ⟨S36864x7168, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c7_i32 : BitVec 32 := 7#32
  let v2 : BitVec 32 := Scalar.addi arg0 c7_i32
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S36864x2048 : Shape := ⟨2, ![36864, 2048]⟩
abbrev S72 : Shape := ⟨1, ![72]⟩
abbrev S1 : Shape := ⟨1, ![1]⟩
abbrev S8x2048x14336 : Shape := ⟨3, ![8, 2048, 14336]⟩
abbrev S72x512x2048 : Shape := ⟨3, ![72, 512, 2048]⟩
abbrev S_ : Shape := ⟨0, ![]⟩
abbrev S72x1 : Shape := ⟨2, ![72, 1]⟩
abbrev S72x2048x14336 : Shape := ⟨3, ![72, 2048, 14336]⟩
abbrev S72x512x14336 : Shape := ⟨3, ![72, 512, 14336]⟩
abbrev S72x512x7168 : Shape := ⟨3, ![72, 512, 7168]⟩
abbrev S72x1x1 : Shape := ⟨3, ![72, 1, 1]⟩
abbrev S36864x7168 : Shape := ⟨2, ![36864, 7168]⟩

abbrev nBuf : Space → Nat
  | .hbm => 38
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S72, .i32⟩
  | .hbm, ⟨2, _⟩ => ⟨S1, .i32⟩
  | .hbm, ⟨3, _⟩ => ⟨S8x2048x14336, .f32⟩
  | .hbm, ⟨4, _⟩ => ⟨S72x512x2048, .f32⟩
  | .hbm, ⟨5, _⟩ => ⟨S_, .i32⟩
  | .hbm, ⟨6, _⟩ => ⟨S72, .i32⟩
  | .hbm, ⟨7, _⟩ => ⟨S72, .i1⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S72, .i32⟩
  | .hbm, ⟨12, _⟩ => ⟨S72x1, .i32⟩
  | .hbm, ⟨13, _⟩ => ⟨S72x2048x14336, .f32⟩
  | .hbm, ⟨14, _⟩ => ⟨S72x512x14336, .f32⟩
  | .hbm, ⟨15, _⟩ => ⟨S72x512x7168, .f32⟩
  | .hbm, ⟨16, _⟩ => ⟨S72x512x7168, .f32⟩
  | .hbm, ⟨17, _⟩ => ⟨S72x512x7168, .f32⟩
  | .hbm, ⟨18, _⟩ => ⟨S72x512x7168, .f32⟩
  | .hbm, ⟨19, _⟩ => ⟨S_, .f32⟩
  | .hbm, ⟨20, _⟩ => ⟨S72x512x7168, .f32⟩
  | .hbm, ⟨21, _⟩ => ⟨S72x512x7168, .f32⟩
  | .hbm, ⟨22, _⟩ => ⟨S_, .f32⟩
  | .hbm, ⟨23, _⟩ => ⟨S72x512x7168, .f32⟩
  | .hbm, ⟨24, _⟩ => ⟨S72x512x7168, .f32⟩
  | .hbm, ⟨25, _⟩ => ⟨S72x512x7168, .f32⟩
  | .hbm, ⟨26, _⟩ => ⟨S72x512x7168, .f32⟩
  | .hbm, ⟨27, _⟩ => ⟨S72x512x7168, .bf16⟩
  | .hbm, ⟨28, _⟩ => ⟨S72, .i32⟩
  | .hbm, ⟨29, _⟩ => ⟨S_, .i32⟩
  | .hbm, ⟨30, _⟩ => ⟨S72, .i32⟩
  | .hbm, ⟨31, _⟩ => ⟨S72, .i1⟩
  | .hbm, ⟨32, _⟩ => ⟨S72x1x1, .i1⟩
  | .hbm, ⟨33, _⟩ => ⟨S_, .bf16⟩
  | .hbm, ⟨34, _⟩ => ⟨S72x512x7168, .bf16⟩
  | .hbm, ⟨35, _⟩ => ⟨S72x512x7168, .i1⟩
  | .hbm, ⟨36, _⟩ => ⟨S72x512x7168, .bf16⟩
  | .hbm, ⟨37, _⟩ => ⟨S36864x7168, .bf16⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.FfnBody.lean ====
module

public import proofs.«01_k».proof.Proof.Gen.FfnIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Rms

/-- A row scaled to unit mean square, times the gains. -/
def norm (x g : Fin 2048 → EReal) (k : Fin 2048) : EReal :=
  x k * Ideal.rsqrt (Ideal.div (∑ l : Fin 2048, x l * x l) (Ideal.ofBits .f32 0x45000000#32) + Ideal.ofBits .f32 0x358637BD#32) * g k

theorem one_word : Ideal.ofBits .f32 0x3F800000#32 = 1 := by
  have h : ((8388608 : ℝ) : EReal) * (((2 ^ 23 : ℝ)⁻¹ : ℝ) : EReal) = 1 := by
    rw [← EReal.coe_mul]
    norm_num
  simpa [Ideal.ofBits, Ideal.ieee] using h

end Cert.Rms

namespace Cert.FfnIdeal.Ffn

open Cert.FfnIdeal Cert.FfnIdeal.Gen

/-- The gated unit: `a` times its logistic, times `b`. -/
def gate (a b : EReal) : EReal := a * Ideal.div 1 (1 + Ideal.exp (-a)) * b

theorem pay1_at (x : Vec Ideal S512x2048 .f32) (g : Vec Ideal S1x2048 .f32) (r : Fin 512) (k : Fin 2048) :
    k0_pay1 (F := Ideal) x g (ix2 r k) = Cert.Rms.norm (fun k => x (ix2 r k)) (fun k => g (ix2 0 k)) k := by
  unfold Cert.Rms.norm
  pointwise [k0_pay1]

theorem pay2_at (x : Vec Ideal S512x2048 .f32) (r : Fin 512) (k : Fin 2048) :
    k0_pay2 (F := Ideal) x (ix2 r k) = x (ix2 r k) := by
  pointwise [k0_pay2]

theorem pay3_at (x : Vec Ideal S512x2048 .bf16) (w1 w3 : Vec Ideal S2048x1024 .bf16) (a : Vec Ideal S512x2048 .f32) (w2 : Vec Ideal S1024x2048 .bf16)
    (r : Fin 512) (k : Fin 2048) :
    k0_pay3 (F := Ideal) x w1 w3 a w2 (ix2 r k) = a (ix2 r k) + ∑ l : Fin 1024,
      gate (∑ p : Fin 2048, x (ix2 r p) * w1 (ix2 p l)) (∑ p : Fin 2048, x (ix2 r p) * w3 (ix2 p l)) * w2 (ix2 l k) := by
  simp only [gate, ← Cert.Rms.one_word]
  pointwise [k0_pay3]
  simp only [zero_sub]

theorem hz : (![0, 0] : Fin 2 → ℕ) = fun _ => 0 := by decide

variable (m : (ℓ : Loc nD τ sig) → Buf (Elt Ideal) ℓ) (c : Dev nD)

theorem left_A (t : Fin cfg0.N) (h0 : t.val % 7 = 0) (h1 : ¬t.val % 7 = 6) :
    (outsAt0 m c t.val t.isLt).2 = (k0_pay1 (iblk m c 0 t) (iblk m c 1 t),
      k0_pay3 (k0_pay1 (iblk m c 0 t) (iblk m c 1 t)) (iblk m c 2 t) (iblk m c 3 t) (k0_pay2 (iblk m c 0 t)) (iblk m c 4 t)) := by
  rw [outsAt0_A m c t h0 h1]
  refine Prod.ext ?_ ?_
  · frame_out
  · frame_out

theorem left_B (t : Fin cfg0.N) (h0 : ¬t.val % 7 = 0) (h1 : ¬t.val % 7 = 6) :
    (outsAt0 m c t.val t.isLt).2 = ((outsAt0 m c (t.val - 1) (Nat.lt_of_le_of_lt (Nat.sub_le _ _) t.isLt)).2.1,
      k0_pay3 (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t)) := by
  rw [outsAt0_B m c t h0 h1]
  refine Prod.ext ?_ ?_
  · rfl
  · frame_out
    rw [read_unread_whole, read_unread_whole]

theorem left_C (t : Fin cfg0.N) (h0 : ¬t.val % 7 = 0) (h1 : t.val % 7 = 6) :
    (outsAt0 m c t.val t.isLt).1 =
      k0_pay3 (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t) := by
  rw [outsAt0_C m c t h0 h1]
  frame_out
  rw [read_unread_whole, read_unread_whole]

end Cert.FfnIdeal.Ffn
-- ==== Proof.FfnFinal.lean ====
module

public import proofs.«01_k».proof.Proof.FfnBody

@[expose] public section

set_option maxRecDepth 16384

noncomputable section

open Idealize.ShloMosaic Idealize.ShloMosaic.TcCoe Idealize.SL.Sem

namespace Cert.FfnIdeal.Ffn

open Cert.FfnIdeal Cert.FfnIdeal.Gen

theorem idx : ∀ t : Fin cfg0.N, win0_0.index t = ![t.val / 7, 0] ∧ win0_1.index t = ![0, 0] ∧
    win0_2.index t = ![0, t.val % 7] ∧ win0_3.index t = ![0, t.val % 7 + 7] ∧
    win0_4.index t = ![t.val % 7, 0] ∧ win0_5.index t = ![t.val / 7, 0] ∧ t.val / 7 < 32 :=
  (by decide +kernel : ∀ t : Fin grid0.N, _)

/-- The hidden unit `f` of a normed row `x`. -/
def hidden (x : Fin 2048 → EReal) (w : FVec Ideal S2048x14336 .f32) (f : ℕ) : EReal :=
  if h : f < 7168 then gate (∑ p : Fin 2048, x p * w (ix2 p ⟨f, by omega⟩)) (∑ p : Fin 2048, x p * w (ix2 p ⟨7168 + f, by omega⟩)) else 0

/-- The hidden unit `f` times its weight into column `k`. -/
def term (x : Fin 2048 → EReal) (w : FVec Ideal S2048x14336 .f32) (w2 : FVec Ideal S7168x2048 .f32) (k : Fin 2048) (f : ℕ) : EReal :=
  if h : f < 7168 then hidden x w f * w2 (ix2 ⟨f, h⟩ k) else 0

/-- Row `r` of the stream, normed. -/
def nrow (h : FVec Ideal S16384x2048 .f32) (g : FVec Ideal S2048 .f32) (r : Fin 16384) : Fin 2048 → EReal :=
  Cert.Rms.norm (fun k => h (ix2 r k)) (fun k => g (ix1 k))

/-- The result at row `r`, column `k`. -/
def result (h : FVec Ideal S16384x2048 .f32) (g : FVec Ideal S2048 .f32) (w : FVec Ideal S2048x14336 .f32) (w2 : FVec Ideal S7168x2048 .f32)
    (r : Fin 16384) (k : Fin 2048) : EReal :=
  h (ix2 r k) + ∑ f : Fin 7168, gate (∑ p : Fin 2048, nrow h g r p * w (ix2 p ⟨f.val, by omega⟩))
    (∑ p : Fin 2048, nrow h g r p * w (ix2 p ⟨7168 + f.val, by omega⟩)) * w2 (ix2 f k)

/-- The result with only the first `n` blocks of hidden units added. -/
def upto (h : FVec Ideal S16384x2048 .f32) (g : FVec Ideal S2048 .f32) (w : FVec Ideal S2048x14336 .f32) (w2 : FVec Ideal S7168x2048 .f32)
    (r : Fin 16384) (k : Fin 2048) (n : ℕ) : EReal :=
  h (ix2 r k) + ∑ s ∈ Finset.range n, ∑ l : Fin 1024, term (nrow h g r) w w2 k (s * 1024 + l.val)

theorem upto_one (h : FVec Ideal S16384x2048 .f32) (g : FVec Ideal S2048 .f32) (w : FVec Ideal S2048x14336 .f32) (w2 : FVec Ideal S7168x2048 .f32)
    (r : Fin 16384) (k : Fin 2048) :
    upto h g w w2 r k 1 = h (ix2 r k) + ∑ l : Fin 1024, term (nrow h g r) w w2 k (0 * 1024 + l.val) := by
  unfold upto
  rw [Finset.sum_range_one]

theorem upto_succ (h : FVec Ideal S16384x2048 .f32) (g : FVec Ideal S2048 .f32) (w : FVec Ideal S2048x14336 .f32) (w2 : FVec Ideal S7168x2048 .f32)
    (r : Fin 16384) (k : Fin 2048) (n : ℕ) :
    upto h g w w2 r k (n + 1) = upto h g w w2 r k n + ∑ l : Fin 1024, term (nrow h g r) w w2 k (n * 1024 + l.val) := by
  unfold upto
  rw [Finset.sum_range_succ, add_assoc]

theorem result_eq (h : FVec Ideal S16384x2048 .f32) (g : FVec Ideal S2048 .f32) (w : FVec Ideal S2048x14336 .f32) (w2 : FVec Ideal S7168x2048 .f32)
    (r : Fin 16384) (k : Fin 2048) :
    result h g w w2 r k = upto h g w w2 r k 7 := by
  unfold result upto
  refine congrArg (h (ix2 r k) + ·) ?_
  rw [Finset.sum_range]
  symm
  refine Fin.sum_mul_add_congr fun s l hl => ?_
  unfold term hidden
  rw [dif_pos hl, dif_pos hl]

variable (m : (ℓ : Loc nD τ sig) → Buf (Elt Ideal) ℓ) (c : Dev nD)

theorem up_eq : V m c main_v0 = (m ((c : Thread nD τ).loc main_arg2) : FVec Ideal S2048x14336 .f32) := rfl

theorem down_eq : V m c main_v1 = (m ((c : Thread nD τ).loc main_arg3) : FVec Ideal S7168x2048 .f32) := rfl

theorem gains_read (k : Fin 2048) : V m c main_v2 (ix2 0 k) = m ((c : Thread nD τ).loc main_arg1) (ix1 k) := by
  entry_read
  pointwise

theorem read_h (t : Fin cfg0.N) (r : Fin 512) (k : Fin 2048) (R : Fin 16384) (hR : R.val = t.val / 7 * 512 + r.val) :
    iblk m c 0 t (ix2 r k) = m ((c : Thread nD τ).loc main_arg0) (ix2 R k) := by
  obtain ⟨e0, e1, e2, e3, e4, e5, e6⟩ := idx t
  blk_ext [iblk, V, e0]

theorem read_g (t : Fin cfg0.N) (k : Fin 2048) : iblk m c 1 t (ix2 0 k) = m ((c : Thread nD τ).loc main_arg1) (ix1 k) := by
  obtain ⟨e0, e1, e2, e3, e4, e5, e6⟩ := idx t
  refine Eq.trans ?_ (gains_read m c k)
  blk_ext [iblk, e1]

theorem read_w1 (t : Fin cfg0.N) (p : Fin 2048) (l : Fin 1024) :
    iblk m c 2 t (ix2 p l) = m ((c : Thread nD τ).loc main_arg2) (ix2 p (⟨t.val % 7 * 1024 + l.val, by omega⟩ : Fin 14336)) := by
  obtain ⟨e0, e1, e2, e3, e4, e5, e6⟩ := idx t
  refine Eq.trans ?_ (congrFun (up_eq m c) _)
  blk_ext [iblk, e2]

theorem read_w3 (t : Fin cfg0.N) (p : Fin 2048) (l : Fin 1024) :
    iblk m c 3 t (ix2 p l) = m ((c : Thread nD τ).loc main_arg2) (ix2 p (⟨7168 + (t.val % 7 * 1024 + l.val), by omega⟩ : Fin 14336)) := by
  obtain ⟨e0, e1, e2, e3, e4, e5, e6⟩ := idx t
  refine Eq.trans ?_ (congrFun (up_eq m c) _)
  blk_ext [iblk, e3]

theorem read_w2 (t : Fin cfg0.N) (l : Fin 1024) (k : Fin 2048) :
    iblk m c 4 t (ix2 l k) = m ((c : Thread nD τ).loc main_arg3) (ix2 (⟨t.val % 7 * 1024 + l.val, by omega⟩ : Fin 7168) k) := by
  obtain ⟨e0, e1, e2, e3, e4, e5, e6⟩ := idx t
  refine Eq.trans ?_ (congrFun (down_eq m c) _)
  blk_ext [iblk, e4]

/-- The part one point adds to the sum, over a normed row `x`. -/
theorem part_eq (t : Fin cfg0.N) (x : Fin 2048 → EReal) (v : Vec Ideal S512x2048 .bf16) (a : Vec Ideal S512x2048 .f32) (r : Fin 512) (k : Fin 2048)
    (hv : ∀ p, v (ix2 r p) = x p) :
    k0_pay3 (F := Ideal) v (iblk m c 2 t) (iblk m c 3 t) a (iblk m c 4 t) (ix2 r k) = a (ix2 r k) + ∑ l : Fin 1024,
      term x (m ((c : Thread nD τ).loc main_arg2)) (m ((c : Thread nD τ).loc main_arg3)) k (t.val % 7 * 1024 + l.val) := by
  rw [pay3_at]
  refine congrArg (a (ix2 r k) + ·) (Finset.sum_congr rfl fun l _ => ?_)
  have hf : t.val % 7 * 1024 + l.val < 7168 := by omega
  unfold term hidden
  rw [dif_pos hf, dif_pos hf, read_w2]
  simp only [hv, read_w1, read_w3]

/-- What the two kept arrays hold after a point: the normed rows, and the rows plus the parts added so far. -/
theorem kept (n : ℕ) : ∀ hn : n < cfg0.N, ¬n % 7 = 6 → ∀ (r : Fin 512) (R : Fin 16384), R.val = n / 7 * 512 + r.val →
    (∀ p, (outsAt0 m c n hn).2.1 (ix2 r p) = nrow (m ((c : Thread nD τ).loc main_arg0)) (m ((c : Thread nD τ).loc main_arg1)) R p) ∧
    ∀ k : Fin 2048, (outsAt0 m c n hn).2.2 (ix2 r k) = upto (m ((c : Thread nD τ).loc main_arg0)) (m ((c : Thread nD τ).loc main_arg1)) (m ((c : Thread nD τ).loc main_arg2))
      (m ((c : Thread nD τ).loc main_arg3)) R k (n % 7 + 1) := by
  induction n with
  | zero =>
    intro hn h6 r R hR
    have hx : ∀ p, k0_pay1 (F := Ideal) (iblk m c 0 ⟨0, hn⟩) (iblk m c 1 ⟨0, hn⟩) (ix2 r p) =
        nrow (m ((c : Thread nD τ).loc main_arg0)) (m ((c : Thread nD τ).loc main_arg1)) R p := fun p => by
      rw [pay1_at]
      simp only [read_g, fun k => read_h m c ⟨0, hn⟩ r k R hR]
      rfl
    have e := left_A m c ⟨0, hn⟩ rfl (by simp)
    refine ⟨fun p => ?_, fun k => ?_⟩
    · rw [e]; exact hx p
    · rw [e]
      refine (part_eq m c ⟨0, hn⟩ _ _ _ r k hx).trans ?_
      rw [pay2_at, read_h m c ⟨0, hn⟩ r k R hR]
      exact (upto_one _ _ _ _ _ _).symm
  | succ n ih =>
    intro hn h6 r R hR
    by_cases h0 : (n + 1) % 7 = 0
    · have hx : ∀ p, k0_pay1 (F := Ideal) (iblk m c 0 ⟨n + 1, hn⟩) (iblk m c 1 ⟨n + 1, hn⟩) (ix2 r p) =
          nrow (m ((c : Thread nD τ).loc main_arg0)) (m ((c : Thread nD τ).loc main_arg1)) R p := fun p => by
        rw [pay1_at]
        simp only [read_g, fun k => read_h m c ⟨n + 1, hn⟩ r k R hR]
        rfl
      have e := left_A m c ⟨n + 1, hn⟩ h0 h6
      refine ⟨fun p => ?_, fun k => ?_⟩
      · rw [e]; exact hx p
      · rw [e]
        refine (part_eq m c ⟨n + 1, hn⟩ _ _ _ r k hx).trans ?_
        rw [pay2_at, read_h m c ⟨n + 1, hn⟩ r k R hR]
        rw [h0]
        exact (upto_one _ _ _ _ _ _).symm
    · have e := left_B m c ⟨n + 1, hn⟩ h0 h6
      have hd : n % 7 + 1 = (n + 1) % 7 := by omega
      obtain ⟨i1, i2⟩ := ih (by omega) (by omega) r R (by omega)
      refine ⟨fun p => ?_, fun k => ?_⟩
      · rw [e]; exact i1 p
      · rw [e]
        refine (part_eq m c ⟨n + 1, hn⟩ _ _ _ r k i1).trans ?_
        refine (congrArg (fun x : EReal => x + _) (i2 k)).trans ?_
        rw [hd]
        exact (upto_succ _ _ _ _ _ _ _).symm

/-- What the last point of a run leaves for the result. -/
theorem last (t : Fin cfg0.N) (h6 : t.val % 7 = 6) (r : Fin 512) (k : Fin 2048) (R : Fin 16384) (K : Fin 2048)
    (hR : R.val = t.val / 7 * 512 + r.val) (hK : K.val = k.val) : (outsAt0 m c t.val t.isLt).1 (ix2 r k) =
    result (m ((c : Thread nD τ).loc main_arg0)) (m ((c : Thread nD τ).loc main_arg1)) (m ((c : Thread nD τ).loc main_arg2))
      (m ((c : Thread nD τ).loc main_arg3)) R K := by
  obtain rfl := Fin.ext hK
  have h0 : ¬t.val % 7 = 0 := by omega
  obtain ⟨i1, i2⟩ := kept m c (t.val - 1) (Nat.lt_of_le_of_lt (Nat.sub_le _ _) t.isLt) (by omega) r R (by omega)
  rw [left_C m c t h0 h6, result_eq]
  refine (part_eq m c t _ _ _ r K i1).trans ?_
  refine (congrArg (fun x : EReal => x + _) (i2 K)).trans ?_
  rw [h6, show (t.val - 1) % 7 + 1 = 6 by omega]
  exact (upto_succ _ _ _ _ _ _ _).symm

theorem final : (dats m 0 c).arrAt 5 (cfgs 0).N =
    (fun y => result (m ((c : Thread nD τ).loc main_arg0)) (m ((c : Thread nD τ).loc main_arg1)) (m ((c : Thread nD τ).loc main_arg2))
      (m ((c : Thread nD τ).loc main_arg3)) (y 0) (y 1) : FVec Ideal S16384x2048 .f32) := by
  refine (dats m 0 c).arrAt_eq_of_covers 5 _ (by decide +kernel) fun t hf y => ?_
  blk_simp
  rw [after0_5]
  have e5 : win0_5.index t = ![t.val / 7, 0] := (idx t).2.2.2.2.2.1
  have f0 : (((cfg0.win 5).blk t).view.emb y 0).val = t.val / 7 * 512 + (y 0).val := by blk_simp [e5]
  have f1 : (((cfg0.win 5).blk t).view.emb y 1).val = (y 1).val := by blk_simp [e5]
  have hy : y = ix2 (y 0) (y 1) := (ix2_eta y).symm
  refine (congrArg (outsAt0 m c t.val t.isLt).1 hy).trans ?_
  exact last m c t ((flush0_5 t).mp hf) (y 0) (y 1) _ _ f0 f1

end Cert.FfnIdeal.Ffn
-- ==== Proof.FfnRef.lean ====
module

public import proofs.«01_k».proof.Proof.Gen.FfnRefIdeal.Run
public import proofs.«01_k».proof.Proof.FfnFinal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnRefIdeal.Rows

open Cert.FfnRefIdeal Cert.FfnRefIdeal.Gen

variable {F : FTy → Type} [FloatOps F]

/-- Every row scaled to unit mean square, times the gains. -/
def normed (h : FVec F S16384x2048 .f32) (g : FVec F S2048 .f32) : FVec F S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The normed rows times the doubled weight. -/
def up (h : FVec F S16384x2048 .f32) (g : FVec F S2048 .f32) (w : FVec F S2048x14336 .f32) : FVec F S16384x14336 .f32 := Host.dotGeneral dot_S16384x2048_S2048x14336_S16384x14336_1_0_0_1_n_n none (normed h g) w

/-- The hidden units. -/
def act (h : FVec F S16384x2048 .f32) (g : FVec F S2048 .f32) (w : FVec F S2048x14336 .f32) : FVec F S16384x7168 .f32 :=
  mulf (mulf (extractStridedSlice S16384x7168 ![0, 0] (up h g w) slices_S16384x14336_S16384x7168_0_0) (Host.divf (broadcastInDim S16384x7168 ![] bcast_S_S16384x7168 (constant S_ .f32 0x3F800000#32)) (addf (broadcastInDim S16384x7168 ![] bcast_S_S16384x7168 (constant S_ .f32 0x3F800000#32)) (Host.exp (Host.negf (extractStridedSlice S16384x7168 ![0, 0] (up h g w) slices_S16384x14336_S16384x7168_0_0)))))) (extractStridedSlice S16384x7168 ![0, 7168] (up h g w) slices_S16384x14336_S16384x7168_0_7168)

/-- The whole result. -/
def out (h : FVec F S16384x2048 .f32) (g : FVec F S2048 .f32) (w : FVec F S2048x14336 .f32) (w2 : FVec F S7168x2048 .f32) : FVec F S16384x2048 .f32 :=
  addf h (Host.dotGeneral dot_S16384x7168_S7168x2048_S16384x2048_1_0_0_1_n_n none (act h g w) w2)

theorem normed_at (h : FVec Ideal S16384x2048 .f32) (g : FVec Ideal S2048 .f32) (r : Fin 16384) (k : Fin 2048) :
    normed h g (ix2 r k) = Cert.Rms.norm (fun k => h (ix2 r k)) (fun k => g (ix1 k)) k := by
  unfold Cert.Rms.norm
  pointwise [normed]

theorem up_at (h : FVec Ideal S16384x2048 .f32) (g : FVec Ideal S2048 .f32) (w : FVec Ideal S2048x14336 .f32) (r : Fin 16384) (f : Fin 14336) :
    up h g w (ix2 r f) = ∑ p : Fin 2048, normed h g (ix2 r p) * w (ix2 p f) := by
  pointwise [up]

theorem act_at (h : FVec Ideal S16384x2048 .f32) (g : FVec Ideal S2048 .f32) (w : FVec Ideal S2048x14336 .f32) (r : Fin 16384) (f : Fin 7168) :
    act h g w (ix2 r f) = Cert.FfnIdeal.Ffn.gate (up h g w (ix2 r ⟨f.val, by omega⟩)) (up h g w (ix2 r ⟨7168 + f.val, by omega⟩)) := by
  unfold Cert.FfnIdeal.Ffn.gate
  simp only [← Cert.Rms.one_word]
  pointwise [act]

theorem out_at (h : FVec Ideal S16384x2048 .f32) (g : FVec Ideal S2048 .f32) (w : FVec Ideal S2048x14336 .f32) (w2 : FVec Ideal S7168x2048 .f32) (r : Fin 16384) (k : Fin 2048) :
    out h g w w2 (ix2 r k) = Cert.FfnIdeal.Ffn.result h g w w2 r k := by
  unfold Cert.FfnIdeal.Ffn.result Cert.FfnIdeal.Ffn.nrow
  simp only [← normed_at, ← up_at, ← act_at]
  pointwise [out]

theorem out_eq (h : FVec Ideal S16384x2048 .f32) (g : FVec Ideal S2048 .f32) (w : FVec Ideal S2048x14336 .f32) (w2 : FVec Ideal S7168x2048 .f32) :
    out h g w w2 = (fun y => Cert.FfnIdeal.Ffn.result h g w w2 (y 0) (y 1) : FVec Ideal S16384x2048 .f32) := by
  funext y
  idx_vars y
  exact out_at _ _ _ _ _ _

end Cert.FfnRefIdeal.Rows
-- ==== Proof.InProjIdealDat.lean ====
module

public import proofs.«01_k».proof.Proof.Gen.InProjIdeal.Frame
public import Idealize.ShloMosaic.Lib.Pipeline.ReadBack
public import Idealize.ShloMosaic.Lib.Pipeline.ValueKit
public import Idealize.ShloMosaic.Lib.VecWindow

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.InProjIdeal.Hand

open Cert.InProjIdeal Cert.InProjIdeal.Gen

variable {F : FTy → Type} [FloatOps F]

local notation "𝕄" => MT nD τ sig Unit (Elt F) ℕ (UR sig nD τ) ℕ

/-- The rows of a block, each divided by its root mean square and scaled by the gains. -/
def normed (h : Vec F S1024x2048 .f32) (g : Vec F S1x2048 .f32) : FVec F S1024x2048 .bf16 :=
  truncf .bf16 (mulf (mulf h (broadcastTo S1024x2048 (rsqrt (addf (divf (shapeCast S1024x1
      (multiReduction .add [1] S1024 (mulf h h) 0x00000000#32 reduces_S1024x2048_S1024 (.inl rfl) rfl) shapeCasts_S1024_S1024x1)
      (broadcast S1024x1 (Scalar.ofBits .f32 0x45000000#32 : F .f32))) (broadcast S1024x1 (Scalar.ofBits .f32 0x358637BD#32 : F .f32))))
      broadcasts_S1024x1_S1024x2048)) (broadcastTo S1024x2048 (shapeCast S1x2048 g shapeCasts_S1x2048_S1x2048) broadcasts_S1x2048_S1024x2048))
    bitsLt_bf16_f32

/-- The normed rows as the kernel keeps them. -/
def keptRows (h : Vec F S1024x2048 .f32) (g : Vec F S1x2048 .f32) : FVec F S1024x2048 .bf16 :=
  shapeCast S1024x2048 (normed h g) shapeCasts_S1024x2048_S1024x2048

/-- The normed rows against the weight rows of the narrow result. -/
def narrow (h : Vec F S1024x2048 .f32) (g : Vec F S1x2048 .f32) (w : Vec F S1x128x2048 .bf16) : FVec F S1024x128 .f32 :=
  matmul dot_S1024x2048_S128x2048_S1024x128_1_1_0_0_n_n none (normed h g) (shapeCast S128x2048 w shapeCasts_S1x128x2048_S128x2048)
    (constant S1024x128 .f32 0x00000000#32)

/-- Kept rows against a block of weight rows. -/
def wide (x : Vec F S1024x2048 .bf16) (w : Vec F S1x2048x2048 .bf16) : FVec F S1024x2048 .bf16 :=
  truncf .bf16 (matmul dot_S1024x2048_S2048x2048_S1024x2048_1_1_0_0_n_n none x (shapeCast S2048x2048 w shapeCasts_S1x2048x2048_S2048x2048)
    (constant S1024x2048 .f32 0x00000000#32)) bitsLt_bf16_f32

/-- The kernel's memory operations in order, over the values above. -/
def steps (i : grid0.Coords) (arg2 : Memref sig .tc .vmem S1024x2048 .f32) (harg2 : arg2.IsWhole) (arg3 : Memref sig .tc .vmem S1x2048 .f32)
    (harg3 : arg3.IsWhole) (arg4 : Memref sig .tc .vmem S1x2048x2048 .bf16) (harg4 : arg4.IsWhole) (arg5 : Memref sig .tc .vmem S1x128x2048 .bf16)
    (harg5 : arg5.IsWhole) (arg6 : Memref sig .tc .vmem S1024x2048 .bf16) (harg6 : arg6.IsWhole) (arg7 : Memref sig .tc .vmem S1024x128 .f32)
    (harg7 : arg7.IsWhole) (arg8 : Memref sig .tc .vmem S1024x2048 .bf16) (harg8 : arg8.IsWhole) :
    Prog (TpuEff nD τ sig (Elt F) Λ₀ .tc) PUnit := do
  if hc : k0_cond1 i = 1#1 then do
    let h : Vec F S1024x2048 .f32 ← Prog.lift (.load arg2 (Rect.unit (s := S1024x2048) ![0, 0] S1024x2048.size inb_S1024x2048_S1024x2048_0_0).toLoadRect (View.loadsAt_vmem h_S1024x2048))
    let g : Vec F S1x2048 .f32 ← Prog.lift (.load arg3 (Rect.unit (s := S1x2048) ![0, 0] S1x2048.size inb_S1x2048_S1x2048_0_0).toLoadRect (View.loadsAt_vmem h_S1x2048))
    let _old : Vec F S1024x2048 .bf16 ← Prog.lift (.load arg8 (Rect.unit (s := S1024x2048) ![0, 0] S1024x2048.size inb_S1024x2048_S1024x2048_0_0).toLoadRect (View.loadsAt_vmem h_S1024x2048))
    Prog.lift (.store arg8 (Rect.unit (s := S1024x2048) ![0, 0] S1024x2048.size inb_S1024x2048_S1024x2048_0_0) (keptRows h g) Finset.univ (View.stores_vmem h_S1024x2048 (harg8.storeExact_slice rfl _ packedbf16_S1024x2048_S1024x2048_0_0) (fun _ => rfl)) (.inl rfl))
    let w : Vec F S1x128x2048 .bf16 ← Prog.lift (.load arg5 (Rect.unit (s := S1x128x2048) ![0, 0, 0] S1x128x2048.size inb_S1x128x2048_S1x128x2048_0_0_0).toLoadRect (View.loadsAt_vmem h_S1x128x2048))
    let _old : Vec F S1024x128 .f32 ← Prog.lift (.load arg7 (Rect.unit (s := S1024x128) ![0, 0] S1024x128.size inb_S1024x128_S1024x128_0_0).toLoadRect (View.loadsAt_vmem h_S1024x128))
    Prog.lift (.store arg7 (Rect.unit (s := S1024x128) ![0, 0] S1024x128.size inb_S1024x128_S1024x128_0_0) (narrow h g w) Finset.univ (View.stores_vmem_bits_univ h_S1024x128 rfl) (.inl rfl))
    pure ⟨⟩
  else do
    pure ⟨⟩
  let x : Vec F S1024x2048 .bf16 ← Prog.lift (.load arg8 (Rect.unit (s := S1024x2048) ![0, 0] S1024x2048.size inb_S1024x2048_S1024x2048_0_0).toLoadRect (View.loadsAt_vmem h_S1024x2048))
  let w : Vec F S1x2048x2048 .bf16 ← Prog.lift (.load arg4 (Rect.unit (s := S1x2048x2048) ![0, 0, 0] S1x2048x2048.size inb_S1x2048x2048_S1x2048x2048_0_0_0).toLoadRect (View.loadsAt_vmem h_S1x2048x2048))
  let _old : Vec F S1024x2048 .bf16 ← Prog.lift (.load arg6 (Rect.unit (s := S1024x2048) ![0, 0] S1024x2048.size inb_S1024x2048_S1024x2048_0_0).toLoadRect (View.loadsAt_vmem h_S1024x2048))
  Prog.lift (.store arg6 (Rect.unit (s := S1024x2048) ![0, 0] S1024x2048.size inb_S1024x2048_S1024x2048_0_0) (wide x w) Finset.univ (View.stores_vmem h_S1024x2048 (harg6.storeExact_slice rfl _ packedbf16_S1024x2048_S1024x2048_0_0) (fun _ => rfl)) (.inl rfl))
  pure ⟨⟩

set_option maxRecDepth 65536 in
theorem kernel_eq : cc0__mm_kernel (F := F) = steps (F := F) := rfl

set_option maxHeartbeats 1000000 in
/-- A point that starts a block of rows: the normed rows are kept, the narrow result and a block of the wide one stored. -/
theorem run_first (c : Dev nD) (i : grid0.Coords) (arg2 : Memref sig .tc .vmem S1024x2048 .f32) (harg2 : arg2.IsWhole) (arg3 : Memref sig .tc .vmem S1x2048 .f32)
    (harg3 : arg3.IsWhole) (arg4 : Memref sig .tc .vmem S1x2048x2048 .bf16) (harg4 : arg4.IsWhole) (arg5 : Memref sig .tc .vmem S1x128x2048 .bf16)
    (harg5 : arg5.IsWhole) (arg6 : Memref sig .tc .vmem S1024x2048 .bf16) (harg6 : arg6.IsWhole) (arg7 : Memref sig .tc .vmem S1024x128 .f32)
    (harg7 : arg7.IsWhole) (arg8 : Memref sig .tc .vmem S1024x2048 .bf16) (harg8 : arg8.IsWhole) (hc : k0_cond1 i = 1#1)
    (h : Vec F S1024x2048 .f32) (g : Vec F S1x2048 .f32) (w : Vec F S1x2048x2048 .bf16) (ws : Vec F S1x128x2048 .bf16) (K : PUnit → sProp 𝕄) :
    iprop(owns (c : Thread nD τ) arg2 fullShare h ∗ owns (c : Thread nD τ) arg3 fullShare g ∗ owns (c : Thread nD τ) arg4 fullShare w
        ∗ owns (c : Thread nD τ) arg5 fullShare ws ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare h ∗ owns (c : Thread nD τ) arg3 fullShare g ∗ owns (c : Thread nD τ) arg4 fullShare w
            ∗ owns (c : Thread nD τ) arg5 fullShare ws ∗ owns (c : Thread nD τ) arg6 fullShare (wide (keptRows h g) w)
            ∗ owns (c : Thread nD τ) arg7 fullShare (narrow h g ws) ∗ owns (c : Thread nD τ) arg8 fullShare (keptRows h g)) -∗ K ⟨⟩))
      ⊢ wp frame (wpE (defs₀ (F := F)) Variants.none c none) Set.univ
          (cc0__mm_kernel i arg2 harg2 arg3 harg3 arg4 harg4 arg5 harg5 arg6 harg6 arg7 harg7 arg8 harg8) K := by
  simp only [kernel_eq]; unfold steps
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | sl_exact hc)
  sl_step
  have l2 := (View.readAt_full arg2.view (harg2.unread h) inb_S1024x2048_S1024x2048_0_0).trans (harg2.read_unread h)
  have l3 := (View.readAt_full arg3.view (harg3.unread g) inb_S1x2048_S1x2048_0_0).trans (harg3.read_unread g)
  have l4 := (View.readAt_full arg4.view (harg4.unread w) inb_S1x2048x2048_S1x2048x2048_0_0_0).trans (harg4.read_unread w)
  have l5 := (View.readAt_full arg5.view (harg5.unread ws) inb_S1x128x2048_S1x128x2048_0_0_0).trans (harg5.read_unread ws)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_full _ _ _ _ _).trans (congrArg₂ wide ?_ l4)
    delta run_first.sl.x run_first.sl.H8_1
    exact (View.readCov_unit_lit _ _ _ (by decide)).trans (congrArg₂ keptRows l2 l3)
  isplitl [H7]
  · iexists _; isplitr
    swap; · iexact H7
    ipureintro
    refine (View.read_writes_full _ _ _ _ _).trans ?_
    rw [l2, l3, l5]
  iexists _; isplitr
  swap; · iexact H8
  ipureintro
  exact (View.read_writes_full _ _ _ _ _).trans (congrArg₂ keptRows l2 l3)

set_option maxHeartbeats 1000000 in
/-- Any other point: the kept rows are used, one block of the wide result stored, the narrow result left alone. -/
theorem run_later (c : Dev nD) (i : grid0.Coords) (arg2 : Memref sig .tc .vmem S1024x2048 .f32) (harg2 : arg2.IsWhole) (arg3 : Memref sig .tc .vmem S1x2048 .f32)
    (harg3 : arg3.IsWhole) (arg4 : Memref sig .tc .vmem S1x2048x2048 .bf16) (harg4 : arg4.IsWhole) (arg5 : Memref sig .tc .vmem S1x128x2048 .bf16)
    (harg5 : arg5.IsWhole) (arg6 : Memref sig .tc .vmem S1024x2048 .bf16) (harg6 : arg6.IsWhole) (arg7 : Memref sig .tc .vmem S1024x128 .f32)
    (harg7 : arg7.IsWhole) (arg8 : Memref sig .tc .vmem S1024x2048 .bf16) (harg8 : arg8.IsWhole) (hc : ¬k0_cond1 i = 1#1)
    (w : Vec F S1x2048x2048 .bf16) (x : Vec F S1024x2048 .bf16) (K : PUnit → sProp 𝕄) :
    iprop(owns (c : Thread nD τ) arg4 fullShare w ∗ (∃ d, owns (c : Thread nD τ) arg6 fullShare d) ∗ owns (c : Thread nD τ) arg8 fullShare x
        ∗ (iprop(owns (c : Thread nD τ) arg4 fullShare w ∗ owns (c : Thread nD τ) arg6 fullShare (wide x w) ∗ owns (c : Thread nD τ) arg8 fullShare x) -∗ K ⟨⟩))
      ⊢ wp frame (wpE (defs₀ (F := F)) Variants.none c none) Set.univ
          (cc0__mm_kernel i arg2 harg2 arg3 harg3 arg4 harg4 arg5 harg5 arg6 harg6 arg7 harg7 arg8 harg8) K := by
  simp only [kernel_eq]; unfold steps
  unfold owns
  iintro ⟨⟨%f4, %hf4, H4⟩, ⟨%d6, %f6, -, H6⟩, ⟨%f8, %hf8, H8⟩, Hk⟩
  obtain rfl := harg4.eq_unread hf4; obtain rfl := harg8.eq_unread hf8
  sl_exec (disch := first | sl_exact hc)
  sl_step
  have l4 := (View.readAt_full arg4.view (harg4.unread w) inb_S1x2048x2048_S1x2048x2048_0_0_0).trans (harg4.read_unread w)
  have l8 := (View.readAt_full arg8.view (harg8.unread x) inb_S1024x2048_S1024x2048_0_0).trans (harg8.read_unread x)
  iapply Hk
  isplitl [H4]
  · iexists _; isplitr; · ipureintro; exact harg4.read_unread _
    iexact H4
  isplitl [H6]
  · iexists _; isplitr
    swap; · iexact H6
    ipureintro
    exact (View.read_writes_full _ _ _ _ _).trans (congrArg₂ wide l8 l4)
  iexists _; isplitr; · ipureintro; exact harg8.read_unread _
  iexact H8

/-! ## The points of a block of rows -/

/-- The point that starts the block of rows point `t` works on. -/
def start (t : Fin cfg0.N) : Fin cfg0.N := ⟨t.val - t.val % 8, Nat.lt_of_le_of_lt (Nat.sub_le _ _) t.isLt⟩

theorem start_of_first (t : Fin cfg0.N) (h : t.val % 8 = 0) : start t = t :=
  Fin.ext (show t.val - t.val % 8 = t.val by omega)

theorem start_pred (t : Fin cfg0.N) (h : ¬t.val % 8 = 0) (hp : t.val - 1 < cfg0.N) : start ⟨t.val - 1, hp⟩ = start t :=
  Fin.ext (show t.val - 1 - (t.val - 1) % 8 = t.val - t.val % 8 by omega)

theorem cond_iff : ∀ t : Fin cfg0.N, k0_cond1 (grid0.coords t) = 1#1 ↔ t.val % 8 = 0 :=
  (by decide +kernel : ∀ t : Fin grid0.N, _)

theorem idle_later : ∀ t : Fin cfg0.N, ¬t.val % 8 = 0 → cfg0.idle 5 (grid0.coords t) = true :=
  (by decide +kernel : ∀ t : Fin grid0.N, _)

theorem live_first : ∀ t : Fin cfg0.N, t.val % 8 = 0 → cfg0.idle 5 (grid0.coords t) = false :=
  (by decide +kernel : ∀ t : Fin grid0.N, _)

variable (m : (ℓ : Loc nD τ sig) → Buf (Elt F) ℓ) (ρ : Dev nD → PrngReg)

/-- The normed rows point `t` works with. -/
def rows (c : Dev nD) (t : Fin cfg0.N) : Vec F S1024x2048 .bf16 := keptRows (iblk m c 0 (start t)) (iblk m c 1 (start t))

/-- The narrow result's block at point `t`. -/
def side (c : Dev nD) (t : Fin cfg0.N) : Vec F S1024x128 .f32 :=
  narrow (iblk m c 0 (start t)) (iblk m c 1 (start t)) (iblk m c 3 (start t))

/-- The wide result's block at point `t`. -/
def part (c : Dev nD) (t : Fin cfg0.N) : Vec F S1024x2048 .bf16 := wide (rows m c t) (X0_2 m c t)

theorem rows_pred (c : Dev nD) (t : Fin cfg0.N) (h : ¬t.val % 8 = 0) (hp : t.val - 1 < cfg0.N) : rows m c ⟨t.val - 1, hp⟩ = rows m c t := by
  unfold rows; rw [start_pred t h hp]

theorem side_pred (c : Dev nD) (t : Fin cfg0.N) (h : ¬t.val % 8 = 0) (hp : t.val - 1 < cfg0.N) : side m c ⟨t.val - 1, hp⟩ = side m c t := by
  unfold side; rw [start_pred t h hp]

/-- The kept buffer. -/
abbrev keep : Memref sig .tc .vmem S1024x2048 .bf16 := Memref.whole cc0_scratch0

theorem rest_eq (c : Dev nD) :
    (Pipeline.ΦA spec0 c : sProp 𝕄) = iprop((∃ d, owns (c : Thread nD τ) keep fullShare d) ∗ (∃ r, prngReg c r)) := by
  unfold Pipeline.ΦA; rw [scopedRest0_eq]; simp only [keep, owns_whole]; try rfl

/-- Before point `n`: the kept buffer holds what the point before worked with; before the first point, anything. -/
def Held (c : Dev nD) : (n : ℕ) → n ≤ cfg0.N → sProp 𝕄
  | 0, _ => Pipeline.ΦA spec0 c
  | n + 1, hn => iprop(owns (c : Thread nD τ) keep fullShare (rows m c ⟨n, hn⟩) ∗ (∃ r, prngReg c r))

theorem Held_zero (c : Dev nD) (n : ℕ) (h : n ≤ cfg0.N) (hz : n = 0) : Held m c n h = Pipeline.ΦA spec0 c := by
  subst hz; rfl

theorem Held_succ (c : Dev nD) (n : ℕ) (hn : n < cfg0.N) :
    Held m c (n + 1) hn = iprop(owns (c : Thread nD τ) keep fullShare (rows m c ⟨n, hn⟩) ∗ (∃ r, prngReg c r)) := rfl

theorem Held_pos (c : Dev nD) (n : ℕ) (h : n ≤ cfg0.N) (hz : n ≠ 0) :
    Held m c n h = iprop(owns (c : Thread nD τ) keep fullShare (rows m c ⟨n - 1, by omega⟩) ∗ (∃ r, prngReg c r)) := by
  cases n with
  | zero => exact absurd rfl hz
  | succ n => rfl

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => part m c t
    | ⟨5, _⟩ => side m c t
  Φ t := Held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Held_castSucc (c : Dev nD) (t : Fin cfg0.N) :
    (dats m 0 c).Φ t.castSucc = Held m c t.val (Nat.le_of_lt t.isLt) := by
  dsimp only [dats]; exact Pipeline.Dat.Φ_castSucc (Held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = part m c t := by dsimp only [dats]
theorem after0_5 (c : Dev nD) (t : Fin cfg0.N) : (dats m 0 c).after 5 t = side m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the starting point of a block of rows the narrow result's buffer holds what that point stored. -/
theorem before_side (c : Dev nD) (n : ℕ) : ∀ (hn : n < cfg0.N), ¬n % 8 = 0 → ∀ d, (dats m 0 c).before 5 ⟨n, hn⟩ d = side m c ⟨n, hn⟩ := by
  induction n with
  | zero => intro hn h; exact absurd (Nat.zero_mod _) h
  | succ n ih =>
    intro hn h d
    have hp : n < cfg0.N := Nat.lt_of_succ_lt hn
    have hf : ¬(cfg0.win 5).flush ⟨n, hp⟩ = true := fun e => by
      have h7 : n % 8 = 7 := (flush0_5 ⟨n, hp⟩).mp e
      omega
    rw [← side_pred m c ⟨n + 1, hn⟩ h hp]
    refine (Dat.before_of_pos (dats m 0 c) 5 ⟨n + 1, hn⟩ (Nat.succ_ne_zero n) rfl d).trans ?_
    refine (if_neg hf).trans ?_
    show (dats m 0 c).left 5 ⟨n, hp⟩ d = side m c ⟨n, hp⟩
    unfold Dat.left
    by_cases h0 : n % 8 = 0
    · rw [live_first ⟨n, hp⟩ h0]
      exact after0_5 m c ⟨n, hp⟩
    · rw [idle_later ⟨n, hp⟩ h0]
      exact ih hp h0 d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The narrow result's buffer is left as the pipeline expects it at a point that does not store into it. -/
theorem leaves_side (c : Dev nD) (t : Fin cfg0.N) (h0 : ¬t.val % 8 = 0) (d) :
    owns (c : Thread nD τ) (st0_5 t) fullShare ((dats m 0 c).before 5 t d) ⊢ ((dats m 0 c).leavesExact 5 t : sProp 𝕄) := by
  by_cases h7 : (cfg0.win 5).flush t = true
  · unfold Dat.leavesExact
    rw [idle_later t h0, h7, after0_5, before_side m c t.val t.isLt h0 d]
  · rw [Dat.leavesExact_idle (dats m 0 c) 5 t (idle_later t h0) (Bool.eq_false_iff.mpr h7)]
    iintro H
    iexists _; iexact H

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Held m c (t.val + 1) t.isLt from rfl, Held_succ]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  by_cases h0 : t.val % 8 = 0
  · rw [show (dats m 0 c).leavesExact 5 t = owns (c : Thread nD τ) (st0_5 t) fullShare ((dats m 0 c).after 5 t) from by
      unfold Dat.leavesExact; rw [live_first t h0], after0_5]
    have er : rows m c t = keptRows (iblk m c 0 t) (iblk m c 1 t) := by unfold rows; rw [start_of_first t h0]
    have es : side m c t = narrow (iblk m c 0 t) (iblk m c 1 t) (iblk m c 3 t) := by unfold side; rw [start_of_first t h0]
    have ep : part m c t = wide (keptRows (iblk m c 0 t) (iblk m c 1 t)) (X0_2 m c t) := by unfold part; rw [er]
    rw [show rows m c ⟨t.val, t.isLt⟩ = rows m c t from rfl, er, es, ep, Held_castSucc m c t]
    have hany : Held m c t.val (Nat.le_of_lt t.isLt) ⊢ (iprop((∃ d, owns (c : Thread nD τ) keep fullShare d) ∗ (∃ r, prngReg c r)) : sProp 𝕄) := by
      by_cases hz : t.val = 0
      · rw [Held_zero m c _ _ hz, rest_eq]
      · rw [Held_pos m c _ _ hz]
        iintro ⟨HS, Hg⟩
        isplitl [HS]
        · iexists _; iexact HS
        iexact Hg
    iintro ⟨Hh, Ho, ⟨%d0, H0⟩, ⟨%d1, H1⟩, ⟨%d2, H2⟩, ⟨%d3, H3⟩, ⟨%d4, H4⟩, ⟨%d5, H5⟩⟩
    ihave Hh' := hany $$ Hh
    icases Hh' with ⟨HS, Hg⟩
    iapply (run_first c (grid0.coords t) _ _ _ _ _ _ _ _ _ _ _ _ _ _ ((cond_iff t).mpr h0) (iblk m c 0 t) (iblk m c 1 t) (X0_2 m c t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [show rows m c ⟨t.val, t.isLt⟩ = rows m c t from rfl, Held_castSucc m c t, Held_pos m c _ _ hz, rows_pred m c t h0]
    rw [show part m c t = wide (rows m c t) (X0_2 m c t) from rfl]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((cond_iff t).mp h)) (X0_2 m c t) (rows m c t) _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_side m c t h0 d5)
    iexact H5

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = Held m c 0 (Nat.zero_le _) from rfl, Held_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 128 := N_0; omega
  rw [show (dats m 0 c).Φ (Fin.last cfg0.N) = Held m c (Fin.last cfg0.N).val (Nat.le_of_lt_succ (Fin.last cfg0.N).isLt) from rfl, Held_pos m c _ _ hz, rest_eq]
  iintro ⟨HS, Hg⟩
  isplitl [HS]
  · iexists _; iexact HS
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InProjIdeal.Hand

end
-- ==== Proof.InProjFinal.lean ====
module

public import proofs.«01_k».proof.Proof.InProjIdealDat
public import proofs.«01_k».proof.Proof.FfnRef
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InProjIdeal.Proj

open Cert.InProjIdeal Cert.InProjIdeal.Gen Cert.InProjIdeal.Hand

/-- Row `r` of the stream, normed, against row `q` of the packed weight. -/
def entry (h : FVec Ideal S16384x2048 .f32) (g : FVec Ideal S2048 .f32) (w : FVec Ideal S2x16640x2048 .bf16) (r : Fin 16384) (q : Fin 16640) : EReal :=
  ∑ p : Fin 2048, Cert.Rms.norm (fun k => h (ix2 r k)) (fun k => g (ix1 k)) p * w (ix3 0 q p)

/-- The wide result at row `r`, column `k`. -/
def wideAt (h : FVec Ideal S16384x2048 .f32) (g : FVec Ideal S2048 .f32) (w : FVec Ideal S2x16640x2048 .bf16) (r k : Fin 16384) : EReal :=
  entry h g w r ⟨k.val, by omega⟩

/-- The narrow result at row `r`, column `k`. -/
def narrowAt (h : FVec Ideal S16384x2048 .f32) (g : FVec Ideal S2048 .f32) (w : FVec Ideal S2x16640x2048 .bf16) (r : Fin 16384) (k : Fin 128) : EReal :=
  entry h g w r ⟨16384 + k.val, by omega⟩

theorem normed_at (x : Vec Ideal S1024x2048 .f32) (g : Vec Ideal S1x2048 .f32) (r : Fin 1024) (k : Fin 2048) :
    Hand.normed (F := Ideal) x g (ix2 r k) = Cert.Rms.norm (fun k => x (ix2 r k)) (fun k => g (ix2 0 k)) k := by
  unfold Cert.Rms.norm
  pointwise [Hand.normed]

theorem keptRows_at (x : Vec Ideal S1024x2048 .f32) (g : Vec Ideal S1x2048 .f32) (r : Fin 1024) (k : Fin 2048) :
    keptRows (F := Ideal) x g (ix2 r k) = Cert.Rms.norm (fun k => x (ix2 r k)) (fun k => g (ix2 0 k)) k := by
  rw [← normed_at]
  pointwise [keptRows]

theorem narrow_at (x : Vec Ideal S1024x2048 .f32) (g : Vec Ideal S1x2048 .f32) (w : Vec Ideal S1x128x2048 .bf16) (r : Fin 1024) (k : Fin 128) :
    narrow (F := Ideal) x g w (ix2 r k) = ∑ p : Fin 2048, Hand.normed (F := Ideal) x g (ix2 r p) * w (ix3 0 k p) := by
  pointwise [narrow]

theorem wide_at (x : Vec Ideal S1024x2048 .bf16) (w : Vec Ideal S1x2048x2048 .bf16) (r : Fin 1024) (k : Fin 2048) :
    wide (F := Ideal) x w (ix2 r k) = ∑ p : Fin 2048, x (ix2 r p) * w (ix3 0 k p) := by
  pointwise [wide]

theorem idx : ∀ t : Fin cfg0.N, win0_0.index t = ![t.val / 8, 0] ∧ win0_1.index t = ![0, 0] ∧
    win0_2.index t = ![0, t.val % 8, 0] ∧ win0_3.index t = ![0, 128, 0] ∧
    win0_4.index t = ![t.val / 8, t.val % 8] ∧ win0_5.index t = ![t.val / 8, 0] ∧ t.val / 8 < 16 :=
  (by decide +kernel : ∀ t : Fin grid0.N, _)

variable (m : (ℓ : Loc nD τ sig) → Buf (Elt Ideal) ℓ) (c : Dev nD)

theorem gains_read (k : Fin 2048) : V m c main_v0 (ix2 0 k) = m ((c : Thread nD τ).loc main_arg1) (ix1 k) := by
  entry_read
  pointwise

theorem read_h (t : Fin cfg0.N) (r : Fin 1024) (k : Fin 2048) (R : Fin 16384) (hR : R.val = t.val / 8 * 1024 + r.val) :
    iblk m c 0 t (ix2 r k) = m ((c : Thread nD τ).loc main_arg0) (ix2 R k) := by
  obtain ⟨e0, e1, e2, e3, e4, e5, e6⟩ := idx t
  blk_ext [iblk, V, e0]

theorem read_g (t : Fin cfg0.N) (k : Fin 2048) : iblk m c 1 t (ix2 0 k) = m ((c : Thread nD τ).loc main_arg1) (ix1 k) := by
  obtain ⟨e0, e1, e2, e3, e4, e5, e6⟩ := idx t
  refine Eq.trans ?_ (gains_read m c k)
  blk_ext [iblk, e1]

theorem read_w (t : Fin cfg0.N) (q p : Fin 2048) :
    X0_2 m c t (ix3 0 q p) = m ((c : Thread nD τ).loc main_arg2) (ix3 0 (⟨t.val % 8 * 2048 + q.val, by omega⟩ : Fin 16640) p) := by
  obtain ⟨e0, e1, e2, e3, e4, e5, e6⟩ := idx t
  unfold X0_2 Pipeline.Window.fill
  rw [dif_pos (moved0_2 t _)]
  blk_ext [iblk, V, e2]

theorem read_ws (t : Fin cfg0.N) (q : Fin 128) (p : Fin 2048) :
    iblk m c 3 t (ix3 0 q p) = m ((c : Thread nD τ).loc main_arg2) (ix3 0 (⟨16384 + q.val, by omega⟩ : Fin 16640) p) := by
  obtain ⟨e0, e1, e2, e3, e4, e5, e6⟩ := idx t
  blk_ext [iblk, V, e3]

/-- The launch contents of the three arguments. -/
abbrev stream : FVec Ideal S16384x2048 .f32 := m ((c : Thread nD τ).loc main_arg0)
abbrev gains : FVec Ideal S2048 .f32 := m ((c : Thread nD τ).loc main_arg1)
abbrev weight : FVec Ideal S2x16640x2048 .bf16 := m ((c : Thread nD τ).loc main_arg2)

theorem start_div (t : Fin cfg0.N) : (start t).val / 8 = t.val / 8 := by
  show (t.val - t.val % 8) / 8 = t.val / 8
  omega

theorem rows_at (t : Fin cfg0.N) (r : Fin 1024) (p : Fin 2048) (R : Fin 16384) (hR : R.val = t.val / 8 * 1024 + r.val) :
    rows m c t (ix2 r p) = Cert.Rms.norm (fun k => stream m c (ix2 R k)) (fun k => gains m c (ix1 k)) p := by
  unfold rows
  rw [keptRows_at]
  simp only [read_g, fun k => read_h m c (start t) r k R (by rw [start_div]; exact hR)]

theorem part_at (t : Fin cfg0.N) (r : Fin 1024) (k : Fin 2048) (R K : Fin 16384) (hR : R.val = t.val / 8 * 1024 + r.val)
    (hK : K.val = t.val % 8 * 2048 + k.val) : part m c t (ix2 r k) = wideAt (stream m c) (gains m c) (weight m c) R K := by
  unfold part
  rw [wide_at]
  unfold wideAt entry
  refine Finset.sum_congr rfl fun p _ => ?_
  rw [rows_at m c t r p R hR, read_w]
  simp only [hK]

theorem side_at (t : Fin cfg0.N) (r : Fin 1024) (k : Fin 128) (R : Fin 16384) (K : Fin 128) (hR : R.val = t.val / 8 * 1024 + r.val)
    (hK : K.val = k.val) : side m c t (ix2 r k) = narrowAt (stream m c) (gains m c) (weight m c) R K := by
  obtain rfl := Fin.ext hK
  unfold side
  rw [narrow_at]
  unfold narrowAt entry
  refine Finset.sum_congr rfl fun p _ => ?_
  rw [normed_at, read_ws]
  simp only [read_g, fun k => read_h m c (start t) r k R (by rw [start_div]; exact hR)]

theorem final_wide : (dats m 0 c).arrAt 4 (cfgs 0).N =
    (fun y => wideAt (stream m c) (gains m c) (weight m c) (y 0) (y 1) : FVec Ideal S16384x16384 .bf16) := by
  refine (dats m 0 c).arrAt_eq_of_covers 4 _ (by decide +kernel) fun t hf y => ?_
  blk_simp
  rw [after0_4]
  have e4 : win0_4.index t = ![t.val / 8, t.val % 8] := (idx t).2.2.2.2.1
  have f0 : (((cfg0.win 4).blk t).view.emb y 0).val = t.val / 8 * 1024 + (y 0).val := by blk_simp [e4]
  have f1 : (((cfg0.win 4).blk t).view.emb y 1).val = t.val % 8 * 2048 + (y 1).val := by blk_simp [e4]
  have hy : y = ix2 (y 0) (y 1) := (ix2_eta y).symm
  refine (congrArg (part m c t) hy).trans ?_
  exact part_at m c t (y 0) (y 1) _ _ f0 f1

theorem final_narrow : (dats m 0 c).arrAt 5 (cfgs 0).N =
    (fun y => narrowAt (stream m c) (gains m c) (weight m c) (y 0) (y 1) : FVec Ideal S16384x128 .f32) := by
  refine (dats m 0 c).arrAt_eq_of_covers 5 _ (by decide +kernel) fun t hf y => ?_
  blk_simp
  rw [after0_5]
  have e5 : win0_5.index t = ![t.val / 8, 0] := (idx t).2.2.2.2.2.1
  have f0 : (((cfg0.win 5).blk t).view.emb y 0).val = t.val / 8 * 1024 + (y 0).val := by blk_simp [e5]
  have f1 : (((cfg0.win 5).blk t).view.emb y 1).val = (y 1).val := by blk_simp [e5]
  have hy : y = ix2 (y 0) (y 1) := (ix2_eta y).symm
  refine (congrArg (side m c t) hy).trans ?_
  exact side_at m c t (y 0) (y 1) _ _ f0 f1

/-- The launch ends with both results as described and the arguments as they were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun y => wideAt (stream m c) (gains m c) (weight m c) (y 0) (y 1) : FVec Ideal S16384x16384 .bf16)
      ∧ r.2.mem ((c.tc : Thread nD τ).loc main_v1_1) = (fun y => narrowAt (stream m c) (gains m c) (weight m c) (y 0) (y 1) : FVec Ideal S16384x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 4).trans (final_wide m c), ((h c).1 5).trans (final_narrow m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c)))⟩) (Hand.run_main m g)

end Cert.InProjIdeal.Proj

namespace Cert.InProjRefIdeal.Rows

open Cert.InProjRefIdeal Cert.InProjRefIdeal.Gen

variable {F : FTy → Type} [FloatOps F]

/-- Every row scaled to unit mean square, times the gains. -/
def normed (h : FVec F S16384x2048 .f32) (g : FVec F S2048 .f32) : FVec F S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The layer's page of the packed weight. -/
def page (w : FVec F S2x16640x2048 .bf16) : FVec F S16640x2048 .f32 :=
  extf .f32 (shapeCast _ (extractStridedSlice S1x16640x2048 ![0, 0, 0] w slices_S2x16640x2048_S1x16640x2048_0_0_0) shapeCasts_S1x16640x2048_S16640x2048) bitsLt_bf16_f32

/-- The wide result. -/
def wideOut (h : FVec F S16384x2048 .f32) (g : FVec F S2048 .f32) (w : FVec F S2x16640x2048 .bf16) : FVec F S16384x16384 .bf16 :=
  truncf .bf16 (Host.dotGeneral dot_S16384x2048_S2048x16384_S16384x16384_1_0_0_1_n_n none (normed h g) (transpose S2048x16384 [1, 0] (extractStridedSlice S16384x2048 ![0, 0] (page w) slices_S16640x2048_S16384x2048_0_0) transposes_S16384x2048_S2048x16384_1_0)) bitsLt_bf16_f32

/-- The narrow result. -/
def narrowOut (h : FVec F S16384x2048 .f32) (g : FVec F S2048 .f32) (w : FVec F S2x16640x2048 .bf16) : FVec F S16384x128 .f32 :=
  Host.dotGeneral dot_S16384x2048_S2048x128_S16384x128_1_0_0_1_n_n none (normed h g) (transpose S2048x128 [1, 0] (extractStridedSlice S128x2048 ![16384, 0] (page w) slices_S16640x2048_S128x2048_16384_0) transposes_S128x2048_S2048x128_1_0)

theorem normed_at (h : FVec Ideal S16384x2048 .f32) (g : FVec Ideal S2048 .f32) (r : Fin 16384) (k : Fin 2048) :
    normed h g (ix2 r k) = Cert.Rms.norm (fun k => h (ix2 r k)) (fun k => g (ix1 k)) k := by
  unfold Cert.Rms.norm
  pointwise [normed]

theorem page_at (w : FVec Ideal S2x16640x2048 .bf16) (q : Fin 16640) (p : Fin 2048) : page w (ix2 q p) = w (ix3 0 q p) := by
  pointwise [page]

theorem wide_eq (h : FVec Ideal S16384x2048 .f32) (g : FVec Ideal S2048 .f32) (w : FVec Ideal S2x16640x2048 .bf16) :
    wideOut h g w = (fun y => Cert.InProjIdeal.Proj.wideAt h g w (y 0) (y 1) : FVec Ideal S16384x16384 .bf16) := by
  funext y
  idx_vars y
  unfold Cert.InProjIdeal.Proj.wideAt Cert.InProjIdeal.Proj.entry
  simp only [← normed_at, ← page_at]
  pointwise [wideOut]

theorem narrow_eq (h : FVec Ideal S16384x2048 .f32) (g : FVec Ideal S2048 .f32) (w : FVec Ideal S2x16640x2048 .bf16) :
    narrowOut h g w = (fun y => Cert.InProjIdeal.Proj.narrowAt h g w (y 0) (y 1) : FVec Ideal S16384x128 .f32) := by
  funext y
  idx_vars y
  unfold Cert.InProjIdeal.Proj.narrowAt Cert.InProjIdeal.Proj.entry
  simp only [← normed_at, ← page_at]
  pointwise [narrowOut]

end Cert.InProjRefIdeal.Rows
-- ==== Proof.MergeFinal.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeIdeal.Mix

open Cert.MergeIdeal Cert.MergeIdeal.Gen

/-- The logistic of `a`, times `b`. -/
def lgate (a b : EReal) : EReal := Ideal.div 1 (1 + Ideal.exp (-a)) * b

theorem one_word : Ideal.ofBits .f32 0x3F800000#32 = 1 := by
  have h : ((8388608 : ℝ) : EReal) * (((2 ^ 23 : ℝ)⁻¹ : ℝ) : EReal) = 1 := by
    rw [← EReal.coe_mul]
    norm_num
  simpa [Ideal.ofBits, Ideal.ieee] using h

/-- One gated branch: branch `b` of the weight, its gates behind the first 8192 columns of the projection. -/
def branch (y : FVec Ideal S16384x1024 .bf16) (w : FVec Ideal S4x1024x2048 .f32) (u : FVec Ideal S16384x16384 .bf16) (b : Fin 4) (r : Fin 16384) (k : Fin 2048) : EReal :=
  lgate (u (ix2 r ⟨8192 + (b.val * 2048 + k.val), by omega⟩)) (∑ p : Fin 1024, y (ix2 r p) * w (ix3 b p k))

/-- The result at row `r`, column `k`. -/
def result (ya yb yc yd : FVec Ideal S16384x1024 .bf16) (w : FVec Ideal S4x1024x2048 .f32) (u : FVec Ideal S16384x16384 .bf16) (r : Fin 16384) (k : Fin 2048) : EReal :=
  branch ya w u 0 r k + branch yb w u 1 r k + branch yc w u 2 r k + branch yd w u 3 r k

theorem idx : ∀ t : Fin cfg0.N, (win0_0.index t = ![t.val / 4, 0] ∧ win0_1.index t = ![t.val / 4, 0] ∧ win0_2.index t = ![t.val / 4, 0] ∧
    win0_3.index t = ![t.val / 4, 0] ∧ win0_4.index t = ![0, 0, t.val % 4]) ∧ (win0_5.index t = ![t.val / 4, 16 + t.val % 4] ∧
    win0_6.index t = ![t.val / 4, 20 + t.val % 4] ∧ win0_7.index t = ![t.val / 4, 24 + t.val % 4] ∧ win0_8.index t = ![t.val / 4, 28 + t.val % 4] ∧
    win0_9.index t = ![t.val / 4, t.val % 4]) ∧ t.val / 4 < 16 :=
  (by decide +kernel : ∀ t : Fin grid0.N, _)

theorem out_at (x0 x1 x2 x3 : Vec Ideal S1024x1024 .bf16) (w : Vec Ideal S4x1024x512 .bf16) (u0 u1 u2 u3 : Vec Ideal S1024x512 .bf16) (r : Fin 1024) (k : Fin 512) :
    out0_9 (F := Ideal) x0 x1 x2 x3 w u0 u1 u2 u3 (ix2 r k) =
      lgate (u0 (ix2 r k)) (∑ p : Fin 1024, x0 (ix2 r p) * w (ix3 0 p k)) + lgate (u1 (ix2 r k)) (∑ p : Fin 1024, x1 (ix2 r p) * w (ix3 1 p k))
      + lgate (u2 (ix2 r k)) (∑ p : Fin 1024, x2 (ix2 r p) * w (ix3 2 p k)) + lgate (u3 (ix2 r k)) (∑ p : Fin 1024, x3 (ix2 r p) * w (ix3 3 p k)) := by
  simp only [lgate, ← one_word]
  frame_out
  pointwise [k0_pay1, k0_pay2, k0_pay3]
  simp only [zero_sub]

variable (m : (ℓ : Loc nD τ sig) → Buf (Elt Ideal) ℓ) (c : Dev nD)

theorem weight_eq : V m c main_v0 = (m ((c : Thread nD τ).loc main_arg4) : FVec Ideal S4x1024x2048 .f32) := rfl

theorem read_w (t : Fin cfg0.N) (b : Fin 4) (p : Fin 1024) (k : Fin 512) (K : Fin 2048) (hK : K.val = t.val % 4 * 512 + k.val) :
    iblk m c 4 t (ix3 b p k) = m ((c : Thread nD τ).loc main_arg4) (ix3 b p K) := by
  obtain ⟨⟨e0, e1, e2, e3, e4⟩, ⟨e5, e6, e7, e8, e9⟩, e⟩ := idx t
  refine Eq.trans ?_ (congrFun (weight_eq m c) _)
  blk_ext [iblk, e4]

theorem read_y0 (t : Fin cfg0.N) (r p : Fin 1024) (R : Fin 16384) (hR : R.val = t.val / 4 * 1024 + r.val) :
    iblk m c 0 t (ix2 r p) = m ((c : Thread nD τ).loc main_arg0) (ix2 R p) := by
  obtain ⟨⟨e0, e1, e2, e3, e4⟩, ⟨e5, e6, e7, e8, e9⟩, e⟩ := idx t
  blk_ext [iblk, V, e0]

theorem read_u0 (t : Fin cfg0.N) (r : Fin 1024) (k : Fin 512) (R : Fin 16384) (K : Fin 2048) (hR : R.val = t.val / 4 * 1024 + r.val) (hK : K.val = t.val % 4 * 512 + k.val) :
    iblk m c 5 t (ix2 r k) = m ((c : Thread nD τ).loc main_arg5) (ix2 R (⟨8192 + (0 * 2048 + K.val), by omega⟩ : Fin 16384)) := by
  obtain ⟨⟨e0, e1, e2, e3, e4⟩, ⟨e5, e6, e7, e8, e9⟩, e⟩ := idx t
  blk_ext [iblk, V, e5]

theorem read_y1 (t : Fin cfg0.N) (r p : Fin 1024) (R : Fin 16384) (hR : R.val = t.val / 4 * 1024 + r.val) :
    iblk m c 1 t (ix2 r p) = m ((c : Thread nD τ).loc main_arg1) (ix2 R p) := by
  obtain ⟨⟨e0, e1, e2, e3, e4⟩, ⟨e5, e6, e7, e8, e9⟩, e⟩ := idx t
  blk_ext [iblk, V, e1]

theorem read_u1 (t : Fin cfg0.N) (r : Fin 1024) (k : Fin 512) (R : Fin 16384) (K : Fin 2048) (hR : R.val = t.val / 4 * 1024 + r.val) (hK : K.val = t.val % 4 * 512 + k.val) :
    iblk m c 6 t (ix2 r k) = m ((c : Thread nD τ).loc main_arg5) (ix2 R (⟨8192 + (1 * 2048 + K.val), by omega⟩ : Fin 16384)) := by
  obtain ⟨⟨e0, e1, e2, e3, e4⟩, ⟨e5, e6, e7, e8, e9⟩, e⟩ := idx t
  blk_ext [iblk, V, e6]

theorem read_y2 (t : Fin cfg0.N) (r p : Fin 1024) (R : Fin 16384) (hR : R.val = t.val / 4 * 1024 + r.val) :
    iblk m c 2 t (ix2 r p) = m ((c : Thread nD τ).loc main_arg2) (ix2 R p) := by
  obtain ⟨⟨e0, e1, e2, e3, e4⟩, ⟨e5, e6, e7, e8, e9⟩, e⟩ := idx t
  blk_ext [iblk, V, e2]

theorem read_u2 (t : Fin cfg0.N) (r : Fin 1024) (k : Fin 512) (R : Fin 16384) (K : Fin 2048) (hR : R.val = t.val / 4 * 1024 + r.val) (hK : K.val = t.val % 4 * 512 + k.val) :
    iblk m c 7 t (ix2 r k) = m ((c : Thread nD τ).loc main_arg5) (ix2 R (⟨8192 + (2 * 2048 + K.val), by omega⟩ : Fin 16384)) := by
  obtain ⟨⟨e0, e1, e2, e3, e4⟩, ⟨e5, e6, e7, e8, e9⟩, e⟩ := idx t
  blk_ext [iblk, V, e7]

theorem read_y3 (t : Fin cfg0.N) (r p : Fin 1024) (R : Fin 16384) (hR : R.val = t.val / 4 * 1024 + r.val) :
    iblk m c 3 t (ix2 r p) = m ((c : Thread nD τ).loc main_arg3) (ix2 R p) := by
  obtain ⟨⟨e0, e1, e2, e3, e4⟩, ⟨e5, e6, e7, e8, e9⟩, e⟩ := idx t
  blk_ext [iblk, V, e3]

theorem read_u3 (t : Fin cfg0.N) (r : Fin 1024) (k : Fin 512) (R : Fin 16384) (K : Fin 2048) (hR : R.val = t.val / 4 * 1024 + r.val) (hK : K.val = t.val % 4 * 512 + k.val) :
    iblk m c 8 t (ix2 r k) = m ((c : Thread nD τ).loc main_arg5) (ix2 R (⟨8192 + (3 * 2048 + K.val), by omega⟩ : Fin 16384)) := by
  obtain ⟨⟨e0, e1, e2, e3, e4⟩, ⟨e5, e6, e7, e8, e9⟩, e⟩ := idx t
  blk_ext [iblk, V, e8]

theorem block (t : Fin cfg0.N) (r : Fin 1024) (k : Fin 512) (R : Fin 16384) (K : Fin 2048) (hR : R.val = t.val / 4 * 1024 + r.val) (hK : K.val = t.val % 4 * 512 + k.val) :
    out0_9 (F := Ideal) (iblk m c 0 t) (iblk m c 1 t) (iblk m c 2 t) (iblk m c 3 t) (iblk m c 4 t) (iblk m c 5 t) (iblk m c 6 t) (iblk m c 7 t) (iblk m c 8 t) (ix2 r k) =
      result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R K := by
  rw [out_at]
  simp only [fun b p => read_w m c t b p k K hK, fun p => read_y0 m c t r p R hR, fun p => read_y1 m c t r p R hR, fun p => read_y2 m c t r p R hR,
    fun p => read_y3 m c t r p R hR, read_u0 m c t r k R K hR hK, read_u1 m c t r k R K hR hK, read_u2 m c t r k R K hR hK, read_u3 m c t r k R K hR hK]
  rfl

theorem final : (dats m 0 c).arrAt 9 (cfgs 0).N =
    (fun y => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) : FVec Ideal S16384x2048 .bf16) := by
  refine (dats m 0 c).arrAt_eq_of_covers 9 _ (by decide +kernel) fun t hf y => ?_
  blk_simp
  rw [after0_9]
  have e9 : win0_9.index t = ![t.val / 4, t.val % 4] := (idx t).2.1.2.2.2.2
  have f0 : (((cfg0.win 9).blk t).view.emb y 0).val = t.val / 4 * 1024 + (y 0).val := by blk_simp [e9]
  have f1 : (((cfg0.win 9).blk t).view.emb y 1).val = t.val % 4 * 512 + (y 1).val := by blk_simp [e9]
  have hy : y = ix2 (y 0) (y 1) := (ix2_eta y).symm
  refine (congrArg (out0_9 (F := Ideal) (iblk m c 0 t) (iblk m c 1 t) (iblk m c 2 t) (iblk m c 3 t) (iblk m c 4 t) (iblk m c 5 t) (iblk m c 6 t) (iblk m c 7 t) (iblk m c 8 t)) hy).trans ?_
  exact block m c t (y 0) (y 1) _ _ f0 f1

end Cert.MergeIdeal.Mix

namespace Cert.MergeRefIdeal.Rows

open Cert.MergeRefIdeal Cert.MergeRefIdeal.Gen

/-- The logistic of the gates, one row of 2048 for every branch. -/
def gates (u : FVec Ideal S16384x16384 .bf16) : FVec Ideal S16384x4x2048 .f32 :=
  shapeCast S16384x4x2048 (Host.divf (broadcastInDim S16384x8192 ![] bcast_S_S16384x8192 (constant S_ .f32 0x3F800000#32)) (addf (broadcastInDim S16384x8192 ![] bcast_S_S16384x8192 (constant S_ .f32 0x3F800000#32)) (Host.exp (Host.negf (extf .f32 (extractStridedSlice S16384x8192 ![0, 8192] u slices_S16384x16384_S16384x8192_0_8192) bitsLt_bf16_f32))))) shapeCasts_S16384x8192_S16384x4x2048

/-- The four branches' rows side by side. -/
def rows (ya yb yc yd : FVec Ideal S16384x1024 .bf16) : FVec Ideal S16384x4x1024 .bf16 :=
  (concatenate S16384x4x1024 1 [⟨S16384x1x1024, ((broadcastInDim S16384x1x1024 ![0, 2] bcast_S16384x1024_S16384x1x1024_0_2 ya) : (⟨S16384x1x1024, .bf16⟩ : BufTy).Contents (Elt Ideal))⟩, ⟨S16384x1x1024, ((broadcastInDim S16384x1x1024 ![0, 2] bcast_S16384x1024_S16384x1x1024_0_2 yb) : (⟨S16384x1x1024, .bf16⟩ : BufTy).Contents (Elt Ideal))⟩, ⟨S16384x1x1024, ((broadcastInDim S16384x1x1024 ![0, 2] bcast_S16384x1024_S16384x1x1024_0_2 yc) : (⟨S16384x1x1024, .bf16⟩ : BufTy).Contents (Elt Ideal))⟩, ⟨S16384x1x1024, ((broadcastInDim S16384x1x1024 ![0, 2] bcast_S16384x1024_S16384x1x1024_0_2 yd) : (⟨S16384x1x1024, .bf16⟩ : BufTy).Contents (Elt Ideal))⟩] concatenates_S16384x1x1024_S16384x1x1024_S16384x1x1024_S16384x1x1024_S16384x4x1024_d1 : (⟨S16384x4x1024, .bf16⟩ : BufTy).Contents (Elt Ideal))

/-- Every branch's rows through its weight. -/
def parts (ya yb yc yd : FVec Ideal S16384x1024 .bf16) (w : FVec Ideal S4x1024x2048 .f32) : FVec Ideal S16384x4x2048 .f32 :=
  transpose S16384x4x2048 [2, 0, 1] (Host.dotGeneral dot_S4x1024x2048_S16384x4x1024_S4x2048x16384_1_2_2_0_0_1 none w (extf .f32 (rows ya yb yc yd) bitsLt_bf16_f32)) transposes_S4x2048x16384_S16384x4x2048_2_0_1

/-- The whole result. -/
def out (ya yb yc yd : FVec Ideal S16384x1024 .bf16) (w : FVec Ideal S4x1024x2048 .f32) (u : FVec Ideal S16384x16384 .bf16) : FVec Ideal S16384x2048 .bf16 :=
  truncf .bf16 (Host.reduceAdd (mulf (gates u) (parts ya yb yc yd w)) (constant S_ .f32 0x00000000#32) reducesTo_S16384x4x2048_S16384x2048_d1 h_S_) bitsLt_bf16_f32

/-- The rows of branch `b`. -/
def pick (ya yb yc yd : FVec Ideal S16384x1024 .bf16) (b : Fin 4) : FVec Ideal S16384x1024 .bf16 :=
  match b with
  | 0 => ya
  | 1 => yb
  | 2 => yc
  | 3 => yd

theorem gates_at (u : FVec Ideal S16384x16384 .bf16) (r : Fin 16384) (b : Fin 4) (k : Fin 2048) :
    gates u (ix3 r b k) = Ideal.div 1 (1 + Ideal.exp (-u (ix2 r ⟨8192 + (b.val * 2048 + k.val), by omega⟩))) := by
  simp only [← Cert.MergeIdeal.Mix.one_word]
  pointwise [gates]

theorem rows_at (ya yb yc yd : FVec Ideal S16384x1024 .bf16) (r : Fin 16384) (b : Fin 4) (p : Fin 1024) : rows ya yb yc yd (ix3 r b p) = pick ya yb yc yd b (ix2 r p) := by
  fin_cases b <;> pointwise [rows, pick]

theorem parts_at (ya yb yc yd : FVec Ideal S16384x1024 .bf16) (w : FVec Ideal S4x1024x2048 .f32) (r : Fin 16384) (b : Fin 4) (k : Fin 2048) :
    parts ya yb yc yd w (ix3 r b k) = ∑ p : Fin 1024, pick ya yb yc yd b (ix2 r p) * w (ix3 b p k) := by
  simp only [← rows_at]
  pointwise [parts]
  exact Finset.sum_congr rfl fun p _ => mul_comm _ _

theorem out_at (ya yb yc yd : FVec Ideal S16384x1024 .bf16) (w : FVec Ideal S4x1024x2048 .f32) (u : FVec Ideal S16384x16384 .bf16) (r : Fin 16384) (k : Fin 2048) :
    out ya yb yc yd w u (ix2 r k) = Cert.MergeIdeal.Mix.result ya yb yc yd w u r k := by
  have e : out ya yb yc yd w u (ix2 r k) = ∑ b : Fin 4, gates u (ix3 r b k) * parts ya yb yc yd w (ix3 r b k) := by
    pointwise [out]
  rw [e, Fin.sum_univ_four]
  simp only [gates_at, parts_at]
  rfl

theorem out_eq (ya yb yc yd : FVec Ideal S16384x1024 .bf16) (w : FVec Ideal S4x1024x2048 .f32) (u : FVec Ideal S16384x16384 .bf16) :
    out ya yb yc yd w u = (fun y => Cert.MergeIdeal.Mix.result ya yb yc yd w u (y 0) (y 1) : FVec Ideal S16384x2048 .bf16) := by
  funext y
  idx_vars y
  exact out_at _ _ _ _ _ _ _ _

end Cert.MergeRefIdeal.Rows
-- ==== Proof.OutProjFinal.lean ====
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutProjIdeal.Proj

open Cert.OutProjIdeal Cert.OutProjIdeal.Gen

/-- The result at row `r`, column `k`. -/
def result (x : FVec Ideal S16384x2048 .bf16) (w : FVec Ideal S2048x2048 .f32) (h : FVec Ideal S16384x2048 .f32) (r : Fin 16384) (k : Fin 2048) : EReal :=
  h (ix2 r k) + ∑ p : Fin 2048, x (ix2 r p) * w (ix2 p k)

theorem pay1_at (x : Vec Ideal S512x2048 .bf16) (w : Vec Ideal S2048x2048 .bf16) (h : Vec Ideal S512x2048 .f32) (r : Fin 512) (k : Fin 2048) :
    k0_pay1 (F := Ideal) x w h (ix2 r k) = h (ix2 r k) + ∑ p : Fin 2048, x (ix2 r p) * w (ix2 p k) := by
  rw [add_comm (h (ix2 r k))]
  pointwise [k0_pay1]

theorem idx : ∀ t : Fin cfg0.N, win0_0.index t = ![t.val, 0] ∧ win0_1.index t = ![0, 0] ∧
    win0_2.index t = ![t.val, 0] ∧ win0_3.index t = ![t.val, 0] ∧ t.val < 32 :=
  (by decide +kernel : ∀ t : Fin grid0.N, _)

variable (m : (ℓ : Loc nD τ sig) → Buf (Elt Ideal) ℓ) (c : Dev nD)

theorem weight_eq : V m c main_v0 = (m ((c : Thread nD τ).loc main_arg1) : FVec Ideal S2048x2048 .f32) := rfl

theorem read_x (t : Fin cfg0.N) (r : Fin 512) (k : Fin 2048) (R : Fin 16384) (hR : R.val = t.val * 512 + r.val) :
    iblk m c 0 t (ix2 r k) = m ((c : Thread nD τ).loc main_arg0) (ix2 R k) := by
  obtain ⟨e0, e1, e2, e3, e4⟩ := idx t
  blk_ext [iblk, V, e0]

theorem read_w (t : Fin cfg0.N) (p k : Fin 2048) : iblk m c 1 t (ix2 p k) = m ((c : Thread nD τ).loc main_arg1) (ix2 p k) := by
  obtain ⟨e0, e1, e2, e3, e4⟩ := idx t
  refine Eq.trans ?_ (congrFun (weight_eq m c) _)
  blk_ext [iblk, e1]

theorem read_h (t : Fin cfg0.N) (r : Fin 512) (k : Fin 2048) (R : Fin 16384) (hR : R.val = t.val * 512 + r.val) :
    iblk m c 2 t (ix2 r k) = m ((c : Thread nD τ).loc main_arg2) (ix2 R k) := by
  obtain ⟨e0, e1, e2, e3, e4⟩ := idx t
  blk_ext [iblk, V, e2]

theorem block (t : Fin cfg0.N) (r : Fin 512) (k : Fin 2048) (R : Fin 16384) (K : Fin 2048) (hR : R.val = t.val * 512 + r.val) (hK : K.val = k.val) :
    k0_pay1 (F := Ideal) (iblk m c 0 t) (iblk m c 1 t) (iblk m c 2 t) (ix2 r k) =
      result (m ((c : Thread nD τ).loc main_arg0)) (m ((c : Thread nD τ).loc main_arg1)) (m ((c : Thread nD τ).loc main_arg2)) R K := by
  obtain rfl := Fin.ext hK
  rw [pay1_at, read_h m c t r K R hR]
  simp only [read_w, fun p => read_x m c t r p R hR]
  rfl

theorem final : (dats m 0 c).arrAt 3 (cfgs 0).N =
    (fun y => result (m ((c : Thread nD τ).loc main_arg0)) (m ((c : Thread nD τ).loc main_arg1)) (m ((c : Thread nD τ).loc main_arg2)) (y 0) (y 1) :
      FVec Ideal S16384x2048 .f32) := by
  refine (dats m 0 c).arrAt_eq_of_covers 3 _ (by decide +kernel) fun t hf y => ?_
  blk_simp
  rw [after0_3]
  frame_out
  have e3 : win0_3.index t = ![t.val, 0] := (idx t).2.2.2.1
  have f0 : (((cfg0.win 3).blk t).view.emb y 0).val = t.val * 512 + (y 0).val := by blk_simp [e3]
  have f1 : (((cfg0.win 3).blk t).view.emb y 1).val = (y 1).val := by blk_simp [e3]
  have hy : y = ix2 (y 0) (y 1) := (ix2_eta y).symm
  refine (congrArg (k0_pay1 (F := Ideal) (iblk m c 0 t) (iblk m c 1 t) (iblk m c 2 t)) hy).trans ?_
  exact block m c t (y 0) (y 1) _ _ f0 f1

end Cert.OutProjIdeal.Proj

namespace Cert.OutProjRefIdeal.Rows

open Cert.OutProjRefIdeal Cert.OutProjRefIdeal.Gen

theorem out_eq (x : FVec Ideal S16384x2048 .bf16) (w : FVec Ideal S2048x2048 .f32) (h : FVec Ideal S16384x2048 .f32) :
    addf h (Host.dotGeneral dot_S16384x2048_S2048x2048_S16384x2048_1_0_0_1_n_n none (extf .f32 x bitsLt_bf16_f32) w) =
      (fun y => Cert.OutProjIdeal.Proj.result x w h (y 0) (y 1) : FVec Ideal S16384x2048 .f32) := by
  funext y
  idx_vars y
  unfold Cert.OutProjIdeal.Proj.result
  pointwise

end Cert.OutProjRefIdeal.Rows
-- ==== Proof.DownBody.lean ====
module

public import proofs.«01_k».proof.Proof.Gen.DownIdeal.Skeleton
public import proofs.«01_k».proof.Proof.Gen.DownIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Exec
public import Idealize.ShloMosaic.Lib.Tactic
public import Idealize.ShloMosaic.Adequacy
public import Idealize.ShloMosaic.Init

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

/-! ## The words read from the two tables -/

abbrev tabE : Memref sig .tc .smem S72 .i32 := Memref.whole main_arg1
abbrev tabN : Memref sig .tc .smem S1 .i32 := Memref.whole main_arg2
abbrev keep : Memref sig .tc .vmem S7168x512 .bf16 := Memref.whole cc0_scratch0

/-- The number of tiles in use. -/
abbrev count (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- The expert of the point's tile, and that of the tile before it. -/
abbrev expert (T0 : S72.Idx → Elt F .i32) (i : grid0.Coords) : BitVec 32 :=
  View.readAt (Elt F) tabE.view (Rect.unit (s := S72) (k0_off1 i) S1.size (k0_off1_inb i)).toLoadRect T0 (Shape.Idx.first (numel1_S1.symm ▸ Nat.one_pos))
abbrev before (T0 : S72.Idx → Elt F .i32) (i : grid0.Coords) : BitVec 32 :=
  View.readAt (Elt F) tabE.view (Rect.unit (s := S72) (k0_off2 i) S1.size (k0_off2_inb i)).toLoadRect T0 (Shape.Idx.first (numel1_S1.symm ▸ Nat.one_pos))

/-- Whether the point keeps a new block of weights: its tile is in use, and it is the first or has another expert. -/
abbrev renews (T0 : S72.Idx → Elt F .i32) (T1 : S1.Idx → Elt F .i32) (i : grid0.Coords) : BitVec 1 :=
  Scalar.cmpi .ne (Scalar.extui (Scalar.andi (Scalar.cmpi .slt (BitVec.ofNat 32 (i 1).val) (count T1))
    (Scalar.ori (Scalar.cmpi .eq (BitVec.ofNat 32 (i 1).val) 0#32) (Scalar.cmpi .ne (expert T0 i) (before T0 i))))) 0#32

/-- Whether the point's tile is in use. -/
abbrev inUse (T1 : S1.Idx → Elt F .i32) (i : grid0.Coords) : Prop := k0_cond2 i (count T1) = 1#1

theorem cond3_iff (i : grid0.Coords) (v : BitVec 32) : k0_cond3 i v = 1#1 ↔ ¬k0_cond2 i v = 1#1 := by
  dsimp only [k0_cond3, k0_cond2]
  generalize Scalar.cmpi .slt (BitVec.ofNat 32 (i 1).val) v = b
  revert b; decide

theorem cond2_iff (i : grid0.Coords) (v : BitVec 32) : k0_cond2 i v = 1#1 ↔ Scalar.cmpi .slt (BitVec.ofNat 32 (i 1).val) v = 1#1 := by
  dsimp only [k0_cond2]
  generalize Scalar.cmpi .slt (BitVec.ofNat 32 (i 1).val) v = b
  revert b; decide

theorem inUse_of_renews (T0 : S72.Idx → Elt F .i32) (T1 : S1.Idx → Elt F .i32) (i : grid0.Coords) (h : renews T0 T1 i = 1#1) : inUse T1 i := by
  refine (cond2_iff i _).mpr ?_
  revert h
  unfold renews
  generalize Scalar.cmpi .slt (BitVec.ofNat 32 (i 1).val) (count T1) = b
  generalize Scalar.ori _ _ = d
  revert b d; decide

/-- A tile in use for which nothing new is kept is not the first, and its expert is that of the tile before. -/
theorem same_of_not_renews (T0 : S72.Idx → Elt F .i32) (T1 : S1.Idx → Elt F .i32) (i : grid0.Coords) (h : ¬renews T0 T1 i = 1#1) (hu : inUse T1 i) :
    ¬Scalar.cmpi .eq (BitVec.ofNat 32 (i 1).val) 0#32 = 1#1 ∧ ¬Scalar.cmpi .ne (expert T0 i) (before T0 i) = 1#1 := by
  have hu' := (cond2_iff i _).mp hu
  revert h hu'
  unfold renews
  generalize Scalar.cmpi .slt (BitVec.ofNat 32 (i 1).val) (count T1) = b
  generalize Scalar.cmpi .eq (BitVec.ofNat 32 (i 1).val) 0#32 = p
  generalize Scalar.cmpi .ne (expert T0 i) (before T0 i) = q
  revert b p q; decide

/-! ## The body's runs -/

set_option maxHeartbeats 2000000 in
/-- A point that keeps a new block of weights: it is rounded and kept, then used. -/
theorem run_new (c : Dev nD) (i : grid0.Coords) (arg4 : Memref sig .tc .vmem S512x7168 .bf16) (harg4 : arg4.IsWhole)
    (arg5 : Memref sig .tc .vmem S1x7168x512 .f32) (harg5 : arg5.IsWhole) (arg6 : Memref sig .tc .vmem S512x512 .f32) (harg6 : arg6.IsWhole)
    (T0 : S72.Idx → Elt F .i32) (T1 : S1.Idx → Elt F .i32) (hc : renews T0 T1 i = 1#1) (h2 : k0_cond2 i (count T1) = 1#1) (h3 : ¬k0_cond3 i (count T1) = 1#1)
    (x : Vec F S512x7168 .bf16) (w : Vec F S1x7168x512 .f32) (K : PUnit → sProp 𝕄) :
    iprop(owns (c : Thread nD τ) arg4 fullShare x ∗ owns (c : Thread nD τ) arg5 fullShare w
        ∗ (tabE.view.loc (c : Thread nD τ) ↦{fullShare.right} T0) ∗ (tabN.view.loc (c : Thread nD τ) ↦{fullShare.right} T1)
        ∗ (∃ d, owns (c : Thread nD τ) arg6 fullShare d) ∗ (∃ d, owns (c : Thread nD τ) keep fullShare d)
        ∗ (iprop(owns (c : Thread nD τ) arg4 fullShare x ∗ owns (c : Thread nD τ) arg5 fullShare w
            ∗ (tabE.view.loc (c : Thread nD τ) ↦{fullShare.right} T0) ∗ (tabN.view.loc (c : Thread nD τ) ↦{fullShare.right} T1)
            ∗ owns (c : Thread nD τ) arg6 fullShare (k0_pay2 x (k0_pay1 w)) ∗ owns (c : Thread nD τ) keep fullShare (k0_pay1 w)) -∗ K ⟨⟩))
      ⊢ wp frame (wpE (defs₀ (F := F)) Variants.none c none) Set.univ
          (cc0__moe_down_kernel i tabE (Memref.isWhole_whole _) tabN (Memref.isWhole_whole _) arg4 harg4 arg5 harg5 arg6 harg6 keep (Memref.isWhole_whole _)) K := by
  have hk : keep.IsWhole := Memref.isWhole_whole _
  have hE : tabE.IsWhole := Memref.isWhole_whole _
  have hN : tabN.IsWhole := Memref.isWhole_whole _
  rw [cc0__moe_down_kernel_eq_skeleton]; unfold cc0__moe_down_kernel_skel
  unfold owns
  iintro ⟨⟨%f4, %hf4, H4⟩, ⟨%f5, %hf5, H5⟩, HE, HN, ⟨%d6, %f6, -, H6⟩, ⟨%d8, %f8, -, H8⟩, Hk⟩
  obtain rfl := harg4.eq_unread hf4; obtain rfl := harg5.eq_unread hf5
  sl_exec (disch := first | sl_exact hc | sl_exact h2 | sl_exact h3)
  sl_step
  have l4 := (View.readAt_full arg4.view (harg4.unread x) inb_S512x7168_S512x7168_0_0).trans (harg4.read_unread x)
  have l5 := (View.readAt_full arg5.view (harg5.unread w) inb_S1x7168x512_S1x7168x512_0_0_0).trans (harg5.read_unread w)
  iapply Hk
  isplitl [H4]
  · iexists _; isplitr; · ipureintro; exact harg4.read_unread _
    iexact H4
  isplitl [H5]
  · iexists _; isplitr; · ipureintro; exact harg5.read_unread _
    iexact H5
  isplitl [HE]; · iexact HE
  isplitl [HN]; · iexact HN
  isplitl [H6]
  · iexists _; isplitr
    swap; · iexact H6
    ipureintro
    refine (View.read_writes_full _ _ _ _ _).trans (congrArg₂ k0_pay2 l4 ?_)
    exact (View.readCov_unit_lit _ _ _ (by decide)).trans (congrArg k0_pay1 l5)
  iexists _; isplitr
  swap; · iexact H8
  ipureintro
  exact (View.read_writes_full _ _ _ _ _).trans (congrArg k0_pay1 l5)

set_option maxHeartbeats 2000000 in
/-- A point whose tile is in use and has the expert of the tile before: the kept block is used again. -/
theorem run_same (c : Dev nD) (i : grid0.Coords) (arg4 : Memref sig .tc .vmem S512x7168 .bf16) (harg4 : arg4.IsWhole)
    (arg5 : Memref sig .tc .vmem S1x7168x512 .f32) (harg5 : arg5.IsWhole) (arg6 : Memref sig .tc .vmem S512x512 .f32) (harg6 : arg6.IsWhole)
    (T0 : S72.Idx → Elt F .i32) (T1 : S1.Idx → Elt F .i32) (hc : ¬renews T0 T1 i = 1#1) (h2 : k0_cond2 i (count T1) = 1#1) (h3 : ¬k0_cond3 i (count T1) = 1#1)
    (x : Vec F S512x7168 .bf16) (k : Vec F S7168x512 .bf16) (K : PUnit → sProp 𝕄) :
    iprop(owns (c : Thread nD τ) arg4 fullShare x
        ∗ (tabE.view.loc (c : Thread nD τ) ↦{fullShare.right} T0) ∗ (tabN.view.loc (c : Thread nD τ) ↦{fullShare.right} T1)
        ∗ (∃ d, owns (c : Thread nD τ) arg6 fullShare d) ∗ owns (c : Thread nD τ) keep fullShare k
        ∗ (iprop(owns (c : Thread nD τ) arg4 fullShare x
            ∗ (tabE.view.loc (c : Thread nD τ) ↦{fullShare.right} T0) ∗ (tabN.view.loc (c : Thread nD τ) ↦{fullShare.right} T1)
            ∗ owns (c : Thread nD τ) arg6 fullShare (k0_pay2 x k) ∗ owns (c : Thread nD τ) keep fullShare k) -∗ K ⟨⟩))
      ⊢ wp frame (wpE (defs₀ (F := F)) Variants.none c none) Set.univ
          (cc0__moe_down_kernel i tabE (Memref.isWhole_whole _) tabN (Memref.isWhole_whole _) arg4 harg4 arg5 harg5 arg6 harg6 keep (Memref.isWhole_whole _)) K := by
  have hk : keep.IsWhole := Memref.isWhole_whole _
  have hE : tabE.IsWhole := Memref.isWhole_whole _
  have hN : tabN.IsWhole := Memref.isWhole_whole _
  rw [cc0__moe_down_kernel_eq_skeleton]; unfold cc0__moe_down_kernel_skel
  unfold owns
  iintro ⟨⟨%f4, %hf4, H4⟩, HE, HN, ⟨%d6, %f6, -, H6⟩, ⟨%f8, %hf8, H8⟩, Hk⟩
  obtain rfl := harg4.eq_unread hf4; obtain rfl := hk.eq_unread hf8
  sl_exec (disch := first | sl_exact hc | sl_exact h2 | sl_exact h3)
  sl_step
  have l4 := (View.readAt_full arg4.view (harg4.unread x) inb_S512x7168_S512x7168_0_0).trans (harg4.read_unread x)
  have l8 := (View.readAt_full keep.view (hk.unread k) inb_S7168x512_S7168x512_0_0).trans (hk.read_unread k)
  iapply Hk
  isplitl [H4]
  · iexists _; isplitr; · ipureintro; exact harg4.read_unread _
    iexact H4
  isplitl [HE]; · iexact HE
  isplitl [HN]; · iexact HN
  isplitl [H6]
  · iexists _; isplitr
    swap; · iexact H6
    ipureintro
    exact (View.read_writes_full _ _ _ _ _).trans (congrArg₂ k0_pay2 l4 l8)
  iexists _; isplitr; · ipureintro; exact hk.read_unread _
  iexact H8

set_option maxHeartbeats 2000000 in
/-- A point whose tile is not in use: zeros are stored. -/
theorem run_idle (c : Dev nD) (i : grid0.Coords) (arg4 : Memref sig .tc .vmem S512x7168 .bf16) (harg4 : arg4.IsWhole)
    (arg5 : Memref sig .tc .vmem S1x7168x512 .f32) (harg5 : arg5.IsWhole) (arg6 : Memref sig .tc .vmem S512x512 .f32) (harg6 : arg6.IsWhole)
    (T0 : S72.Idx → Elt F .i32) (T1 : S1.Idx → Elt F .i32) (hc : ¬renews T0 T1 i = 1#1) (h2 : ¬k0_cond2 i (count T1) = 1#1) (h3 : k0_cond3 i (count T1) = 1#1)
    (K : PUnit → sProp 𝕄) :
    iprop((tabE.view.loc (c : Thread nD τ) ↦{fullShare.right} T0) ∗ (tabN.view.loc (c : Thread nD τ) ↦{fullShare.right} T1)
        ∗ (∃ d, owns (c : Thread nD τ) arg6 fullShare d)
        ∗ (iprop((tabE.view.loc (c : Thread nD τ) ↦{fullShare.right} T0) ∗ (tabN.view.loc (c : Thread nD τ) ↦{fullShare.right} T1)
            ∗ owns (c : Thread nD τ) arg6 fullShare (k0_pay3 (F := F))) -∗ K ⟨⟩))
      ⊢ wp frame (wpE (defs₀ (F := F)) Variants.none c none) Set.univ
          (cc0__moe_down_kernel i tabE (Memref.isWhole_whole _) tabN (Memref.isWhole_whole _) arg4 harg4 arg5 harg5 arg6 harg6 keep (Memref.isWhole_whole _)) K := by
  have hE : tabE.IsWhole := Memref.isWhole_whole _
  have hN : tabN.IsWhole := Memref.isWhole_whole _
  rw [cc0__moe_down_kernel_eq_skeleton]; unfold cc0__moe_down_kernel_skel
  unfold owns
  iintro ⟨HE, HN, ⟨%d6, %f6, -, H6⟩, Hk⟩
  sl_exec (disch := first | sl_exact hc | sl_exact h2 | sl_exact h3)
  sl_step
  iapply Hk
  isplitl [HE]; · iexact HE
  isplitl [HN]; · iexact HN
  iexists _; isplitr
  swap; · iexact H6
  ipureintro
  exact View.read_writes_full _ _ _ _ _

end Cert.DownIdeal.Hand
-- ==== Proof.DownDat.lean ====
module

public import proofs.«01_k».proof.Proof.DownBody

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

/-- The experts of the tiles and the number of tiles in use. -/
abbrev experts : S72.Idx → Elt F .i32 := a.1 0
abbrev counts : S1.Idx → Elt F .i32 := a.1 1

abbrev crd (t : Fin (cfgA a).N) : grid0.Coords := (cfgA a).grid.coords t

theorem crd_val : ∀ t : Fin grid0.N, (grid0.coords t 0).val = t.val / 72 ∧ (grid0.coords t 1).val = t.val % 72 := by decide +kernel

theorem crd0 (t : Fin (cfgA a).N) : (crd a t 0).val = t.val / 72 := (crd_val t).1
theorem crd1 (t : Fin (cfgA a).N) : (crd a t 1).val = t.val % 72 := (crd_val t).2

theorem points (t : Fin (cfgA a).N) : t.val < 288 := Nat.lt_of_lt_of_eq t.isLt (show grid0.N = 288 from N_0)

/-- A word of the experts' table where a point reads it. -/
theorem expert_eq (T : S72.Idx → Elt F .i32) (i : grid0.Coords) (k : Fin 72) (hk : k.val = (i 1).val) : expert T i = T (ix1 k) := by
  have h : ∀ i : grid0.Coords, k0_off1 i 0 = (i 1).val := by decide +kernel
  refine congrArg T (funext fun e => ?_)
  fin_cases e
  refine Fin.ext ?_
  show k0_off1 i 0 + _ = k.val
  rw [h i, hk]; rfl

theorem before_eq (T : S72.Idx → Elt F .i32) (i : grid0.Coords) (k : Fin 72) (hk : k.val = (i 1).val - 1) : before T i = T (ix1 k) := by
  have h : ∀ i : grid0.Coords, k0_off2 i 0 = (i 1).val - 1 := by decide +kernel
  refine congrArg T (funext fun e => ?_)
  fin_cases e
  refine Fin.ext ?_
  show k0_off2 i 0 + _ = k.val
  rw [h i, hk]; rfl

theorem count_eq (T : S1.Idx → Elt F .i32) : count T = T (ix1 0) := by
  refine congrArg T (funext fun e => ?_)
  fin_cases e; rfl

/-- The block of weights a point fetches: its tile's expert, its block of columns. -/
theorem index1 (t : Fin (cfgA a).N) : ((cfgA a).win 1).index t = ![(expert (experts a) (crd a t)).toNat, 0, (crd a t 0).val] := by
  have h : ∀ i : grid0.Coords, (BitVec.ofNat 32 (i 0).val).toNat = (i 0).val := by decide +kernel
  show cc0_transform_1 k0_off1_inb numel1_S1 a.1 (crd a t) = _
  unfold cc0_transform_1
  dsimp only
  rw [h]
  rfl

theorem index2 (t : Fin (cfgA a).N) : ((cfgA a).win 2).index t = ![t.val % 72, t.val / 72] := by
  have h : ∀ t : Fin grid0.N, cc0_transform_2 (grid0.coords t) = ![t.val % 72, t.val / 72] := by decide +kernel
  exact h t

variable (m : (ℓ : Loc nD τ sig) → Buf (Elt F) ℓ) (ρ : Dev nD → PrngReg)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- Two points with the same block index fetch the same weights. -/
theorem iblk1_congr (c : Dev nD) (t t' : Fin (cfgA a).N) (h : ((cfgA a).win 1).index t = ((cfgA a).win 1).index t') :
    (iblk a m c 1 t : S1x7168x512.Idx → Elt F .f32) = iblk a m c 1 t' := by
  funext y
  refine congrArg (m (((cfgA a).win 1).arr.view.loc (c : Thread nD τ))) (funext fun e => Fin.ext ?_)
  show ((cfgA a).win 1).index t e * _ + _ = ((cfgA a).win 1).index t' e * _ + _
  rw [h]; rfl

/-- The block of the result at point `t`. -/
def part (c : Dev nD) (t : Fin (cfgA a).N) : Vec F S512x512 .f32 :=
  if inUse (counts a) (crd a t) then k0_pay2 (iblk a m c 0 t) (k0_pay1 (iblk a m c 1 t)) else k0_pay3

/-- The staging buffers at a point. -/
abbrev st0 (t : Fin (cfgA a).N) : Memref sig .tc .vmem S512x7168 .bf16 := spec0_0.stage ((cfgA a).slots t (0 : Fin 3))
abbrev hst0 (t : Fin (cfgA a).N) : (st0 a t).IsWhole := hstage0_0 (((cfgA a).slots t (0 : Fin 3)).cast nbuf0_0)
abbrev st1 (t : Fin (cfgA a).N) : Memref sig .tc .vmem S1x7168x512 .f32 := spec0_1.stage ((cfgA a).slots t (1 : Fin 3))
abbrev hst1 (t : Fin (cfgA a).N) : (st1 a t).IsWhole := hstage0_1 (((cfgA a).slots t (1 : Fin 3)).cast nbuf0_1)
abbrev st2 (t : Fin (cfgA a).N) : Memref sig .tc .vmem S512x512 .f32 := spec0_2.stage ((cfgA a).slots t (2 : Fin 3))
abbrev hst2 (t : Fin (cfgA a).N) : (st2 a t).IsWhole := hstage0_2 (((cfgA a).slots t (2 : Fin 3)).cast nbuf0_2)

/-- No point leaves the result's block unwritten. -/
theorem live (t : Fin (cfgA a).N) (w : Fin 3) : (cfgA a).idle w ((cfgA a).grid.coords t) = false := by
  match w with
  | 0 => rfl
  | 1 => rfl
  | 2 =>
    show (!(k0_cond2 (crd a t) (a.1.atD 1 ![0]) == 1#1) && !(k0_cond3 (crd a t) (a.1.atD 1 ![0]) == 1#1)) = false
    have h := cond3_iff (crd a t) (a.1.atD 1 ![0])
    by_cases h2 : k0_cond2 (crd a t) (a.1.atD 1 ![0]) = 1#1
    · rw [h2]; rfl
    · rw [h.mpr h2]; simp

/-! ## What is kept between points -/

/-- What the kept block is known to be before point `n`: if the point before worked on a tile in use, its weights, rounded. -/
def Known (c : Dev nD) (n : ℕ) (k : Vec F S7168x512 .bf16) : Prop :=
  ∀ (h : n - 1 < (cfgA a).N), n ≠ 0 → inUse (counts a) (crd a ⟨n - 1, h⟩) → k = k0_pay1 (iblk a m c 1 ⟨n - 1, h⟩)

def Held (c : Dev nD) (n : ℕ) : sProp 𝕄 :=
  iprop((∃ k, ⌜Known a m c n k⌝ ∗ owns (c : Thread nD τ) keep fullShare k)
    ∗ (tabE.view.loc (c : Thread nD τ) ↦{fullShare.right} experts a) ∗ (tabN.view.loc (c : Thread nD τ) ↦{fullShare.right} counts a))

/-- The proof data of the pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => part a m c t
  Φ t := Held a m c t.val
  q _ := fullShare
  owed _ := 0

theorem after0 (c : Dev nD) (t : Fin (cfgA a).N) : (dats a m 0 c).after (0 : Fin 3) t = iblk a m c (0 : Fin 3) t := rfl
theorem after1 (c : Dev nD) (t : Fin (cfgA a).N) : (dats a m 0 c).after (1 : Fin 3) t = iblk a m c (1 : Fin 3) t := rfl
theorem after2 (c : Dev nD) (t : Fin (cfgA a).N) : (dats a m 0 c).after (2 : Fin 3) t = part a m c t := rfl

theorem before0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after1]; unfold Dat.blockOf iblk; rfl) t d).trans
    (by unfold Dat.fetched Dat.blockOf iblk; rfl)

end Cert.DownIdeal.Hand
-- ==== Proof.DownSame.lean ====
module

public import proofs.«01_k».proof.Proof.DownDat

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

theorem ne_word (x y : BitVec 32) (h : x ≠ y) : Scalar.cmpi .ne x y = 1#1 := by
  show BitVec.ofBool (x != y) = 1#1
  rw [bne_iff_ne.mpr h]; rfl

theorem slt_word (x y : BitVec 32) : Scalar.cmpi .slt x y = 1#1 ↔ x.toInt < y.toInt := by
  show BitVec.ofBool (x.slt y) = 1#1 ↔ _
  rw [← BitVec.slt_iff_toInt_lt]
  cases x.slt y <;> decide

/-- A number below two to the thirty-one, as a word, read back. -/
theorem toInt_word (q : ℕ) (h : q < 2 ^ 31) : (BitVec.ofNat 32 q).toInt = (q : ℤ) := by
  rw [BitVec.toInt_eq_toNat_of_lt (by rw [BitVec.toNat_ofNat]; omega), BitVec.toNat_ofNat]; omega

/-- At a tile in use that keeps nothing new, the kept block is that of the point's own weights. -/
theorem known_same (c : Dev nD) (t : Fin (cfgA a).N) (k : Vec F S7168x512 .bf16) (hk : Known a m c t.val k)
    (hr : ¬renews (experts a) (counts a) (crd a t) = 1#1) (hu : inUse (counts a) (crd a t)) : k = k0_pay1 (iblk a m c 1 t) := by
  obtain ⟨h1, h2⟩ := same_of_not_renews _ _ _ hr hu
  have hlt := points a t
  have hm : t.val % 72 ≠ 0 := fun e => h1 (by rw [crd1 a t, e]; rfl)
  have hp : t.val - 1 < (cfgA a).N := Nat.lt_of_le_of_lt (Nat.sub_le _ _) t.isLt
  have hprev : inUse (counts a) (crd a ⟨t.val - 1, hp⟩) := by
    have z := (cond2_iff _ _).mp hu
    refine (cond2_iff _ _).mpr ?_
    rw [crd1] at z ⊢
    have hq : (t.val - 1) % 72 = t.val % 72 - 1 := by omega
    show Scalar.cmpi .slt (BitVec.ofNat 32 ((t.val - 1) % 72)) _ = 1#1
    rw [hq]
    have hb : t.val % 72 < 72 := Nat.mod_lt _ (by decide)
    revert z
    generalize t.val % 72 = q at *
    generalize count (counts a) = v
    intro z
    rw [slt_word, toInt_word _ (by omega)] at *
    omega
  rw [hk hp (fun e => hm (by rw [e])) hprev]
  refine congrArg k0_pay1 (iblk1_congr a m c _ t ?_)
  rw [index1, index1]
  have e0 : (crd a ⟨t.val - 1, hp⟩ 0).val = (crd a t 0).val := by
    rw [crd0, crd0]; show (t.val - 1) / 72 = t.val / 72; omega
  have ee : expert (experts a) (crd a ⟨t.val - 1, hp⟩) = expert (experts a) (crd a t) := by
    have hbt : before (experts a) (crd a t) = expert (experts a) (crd a t) := by
      by_contra hn
      exact h2 (ne_word _ _ fun e => hn e.symm)
    rw [← hbt, expert_eq (experts a) (crd a ⟨t.val - 1, hp⟩) ⟨t.val % 72 - 1, by omega⟩ (by rw [crd1]; show t.val % 72 - 1 = (t.val - 1) % 72; omega),
      before_eq (experts a) (crd a t) ⟨t.val % 72 - 1, by omega⟩ (by rw [crd1])]
  rw [e0, ee]

end Cert.DownIdeal.Hand
-- ==== Proof.DownOk.lean ====
module

public import proofs.«01_k».proof.Proof.DownSame

@[expose] public section

set_option maxRecDepth 16384
set_option synthInstance.maxSize 4096

noncomputable section

open Idealize.ShloMosaic Idealize.ShloMosaic.TcCoe Idealize.SL.Sem

namespace Cert.DownIdeal.Hand

open Cert.DownIdeal Cert.DownIdeal.Gen

variable {F : FTy → Type} [FloatOps F]

/-- The row block a point fetches: its tile, or the last tile in use if that comes earlier. -/
theorem minsi_word (q : ℕ) (v : BitVec 32) (hq : q < 72) (h1 : 1 ≤ v.toNat) (h72 : v.toNat ≤ 72) :
    (Scalar.minsi (BitVec.ofNat 32 q) (Scalar.subi v 1#32)).toNat = min q (v.toNat - 1) := by
  have hs : (Scalar.subi v 1#32 : BitVec 32).toNat = v.toNat - 1 := by
    show (v - 1#32).toNat = _
    rw [BitVec.toNat_sub]
    simp only [BitVec.toNat_ofNat]
    omega
  have hs' : (Scalar.subi v 1#32 : BitVec 32) = BitVec.ofNat 32 (v.toNat - 1) := by
    apply BitVec.eq_of_toNat_eq
    rw [hs, BitVec.toNat_ofNat]; omega
  rw [hs']
  generalize hn : v.toNat - 1 = n
  have hlt : n < 72 := by omega
  show (if (BitVec.ofNat 32 q).slt (BitVec.ofNat 32 n) then BitVec.ofNat 32 q else BitVec.ofNat 32 n).toNat = min q n
  have hc : (BitVec.ofNat 32 q).slt (BitVec.ofNat 32 n) = true ↔ q < n := by
    rw [BitVec.slt_iff_toInt_lt, toInt_word _ (by omega), toInt_word _ (by omega)]; omega
  split
  · rename_i h
    rw [hc] at h
    rw [BitVec.toNat_ofNat]; omega
  · rename_i h
    rw [hc] at h
    rw [BitVec.toNat_ofNat]; omega

/-- Tables in range keep every block inside its array. -/
theorem ok_of_range (pf : pre0.Contents (Elt F)) (hE : ∀ i : S72.Idx, (pf 0 i : BitVec 32).toNat < 8)
    (hN : ∀ i : S1.Idx, 1 ≤ (pf 1 i : BitVec 32).toNat ∧ (pf 1 i : BitVec 32).toNat ≤ 72) : ok0 pf := by
  have hi : ∀ i : grid0.Coords, (i 0).val < 4 ∧ (i 1).val < 72 := fun i => ⟨(i 0).isLt, (i 1).isLt⟩
  refine ⟨fun i => ?_, fun i => ?_⟩
  · have h : ∀ a, (cc0_transform_0 inb_S1_S1_0 numel1_S1 pf i a + 1) * S512x7168.size a ≤ S36864x7168.size a := by
      intro a
      match a with
      | ⟨0, _⟩ =>
        have e : cc0_transform_0 inb_S1_S1_0 numel1_S1 pf i 0 = min (i 1).val ((pf.at 1 (Rect.unit (s := S1) ![0] S1.size inb_S1_S1_0) numel1_S1 : BitVec 32).toNat - 1) :=
          minsi_word _ _ (hi i).2 (hN _).1 (hN _).2
        show (cc0_transform_0 inb_S1_S1_0 numel1_S1 pf i 0 + 1) * 512 ≤ 36864
        have := (hi i).2
        rw [e]; omega
      | ⟨1, _⟩ => show (0 + 1) * 7168 ≤ 7168; omega
    exact ⟨h, .inr (Affine.block_words_dvd (s := S36864x7168) (p := EltTy.packing .bf16) (by decide) (by decide))⟩
  · have h : ∀ a, (cc0_transform_1 k0_off1_inb numel1_S1 pf i a + 1) * S1x7168x512.size a ≤ S8x7168x2048.size a := by
      intro a
      match a with
      | ⟨0, _⟩ =>
        show ((pf.at 0 (Rect.unit (s := S72) (k0_off1 i) S1.size (k0_off1_inb i)) numel1_S1 : BitVec 32).toNat + 1) * 1 ≤ 8
        have : (expert (pf 0) i : BitVec 32).toNat < 8 := hE _
        exact (Nat.mul_one _).le.trans this
      | ⟨1, _⟩ => show (0 + 1) * 7168 ≤ 7168; omega
      | ⟨2, _⟩ =>
        show ((BitVec.ofNat 32 (i 0).val).toNat + 1) * 512 ≤ 2048
        have := (hi i).1
        rw [BitVec.toNat_ofNat]; omega
    exact ⟨h, .inl rfl⟩

end Cert.DownIdeal.Hand
-- ==== Proof.DownStep.lean ====
module

public import proofs.«01_k».proof.Proof.DownBody

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

/-- The body at a point, whatever the memrefs: each of its three paths in one statement. -/
theorem step (c : Dev nD) (i : grid0.Coords) (arg4 : Memref sig .tc .vmem S512x7168 .bf16) (harg4 : arg4.IsWhole)
    (arg5 : Memref sig .tc .vmem S1x7168x512 .f32) (harg5 : arg5.IsWhole) (arg6 : Memref sig .tc .vmem S512x512 .f32) (harg6 : arg6.IsWhole)
    (T0 : S72.Idx → Elt F .i32) (T1 : S1.Idx → Elt F .i32) (x : Vec F S512x7168 .bf16) (w : Vec F S1x7168x512 .f32) (out : Vec F S512x512 .f32)
    (P P' : Vec F S7168x512 .bf16 → Prop)
    (hsame : ¬renews T0 T1 i = 1#1 → inUse T1 i → ∀ k, P k → k = k0_pay1 w)
    (hout : inUse T1 i → out = k0_pay2 x (k0_pay1 w)) (hzero : ¬inUse T1 i → out = k0_pay3)
    (hkept : inUse T1 i → P' (k0_pay1 w)) (hany : ¬inUse T1 i → ∀ k, P' k) (K : PUnit → sProp 𝕄) :
    iprop(((∃ k, ⌜P k⌝ ∗ owns (c : Thread nD τ) keep fullShare k)
          ∗ (tabE.view.loc (c : Thread nD τ) ↦{fullShare.right} T0) ∗ (tabN.view.loc (c : Thread nD τ) ↦{fullShare.right} T1))
        ∗ owns (c : Thread nD τ) arg4 fullShare x ∗ owns (c : Thread nD τ) arg5 fullShare w
        ∗ (∃ d, owns (c : Thread nD τ) arg6 fullShare d)
        ∗ (iprop(((∃ k, ⌜P' k⌝ ∗ owns (c : Thread nD τ) keep fullShare k)
              ∗ (tabE.view.loc (c : Thread nD τ) ↦{fullShare.right} T0) ∗ (tabN.view.loc (c : Thread nD τ) ↦{fullShare.right} T1))
            ∗ owns (c : Thread nD τ) arg4 fullShare x ∗ owns (c : Thread nD τ) arg5 fullShare w
            ∗ owns (c : Thread nD τ) arg6 fullShare out) -∗ K ⟨⟩))
      ⊢ wp frame (wpE (defs₀ (F := F)) Variants.none c none) Set.univ
          (cc0__moe_down_kernel i tabE (Memref.isWhole_whole _) tabN (Memref.isWhole_whole _) arg4 harg4 arg5 harg5 arg6 harg6 keep (Memref.isWhole_whole _)) K := by
  by_cases hu : inUse T1 i
  · have h3 : ¬k0_cond3 i (count T1) = 1#1 := fun h => (cond3_iff _ _).mp h hu
    rw [hout hu]
    by_cases hr : renews T0 T1 i = 1#1
    · iintro ⟨⟨⟨%k, -, HS⟩, HE, HN⟩, H0, H1, H2, Hk⟩
      iapply (run_new c i arg4 harg4 arg5 harg5 arg6 harg6 T0 T1 hr hu h3 x w K)
      isplitl [H0]; · iexact H0
      isplitl [H1]; · iexact H1
      isplitl [HE]; · iexact HE
      isplitl [HN]; · iexact HN
      isplitl [H2]; · iexact H2
      isplitl [HS]; · iexists _; iexact HS
      iintro ⟨H0, H1, HE, HN, H2, HS⟩
      iapply Hk
      isplitl [HS HE HN]
      · isplitl [HS]
        · iexists _; isplitr; swap
          · iexact HS
          · ipureintro; exact hkept hu
        isplitl [HE]; · iexact HE
        iexact HN
      isplitl [H0]; · iexact H0
      isplitl [H1]; · iexact H1
      iexact H2
    · iintro ⟨⟨⟨%k, %hk, HS⟩, HE, HN⟩, H0, H1, H2, Hk⟩
      obtain rfl := hsame hr hu k hk
      iapply (run_same c i arg4 harg4 arg5 harg5 arg6 harg6 T0 T1 hr hu h3 x (k0_pay1 w) K)
      isplitl [H0]; · iexact H0
      isplitl [HE]; · iexact HE
      isplitl [HN]; · iexact HN
      isplitl [H2]; · iexact H2
      isplitl [HS]; · iexact HS
      iintro ⟨H0, HE, HN, H2, HS⟩
      iapply Hk
      isplitl [HS HE HN]
      · isplitl [HS]
        · iexists _; isplitr; swap
          · iexact HS
          · ipureintro; exact hkept hu
        isplitl [HE]; · iexact HE
        iexact HN
      isplitl [H0]; · iexact H0
      isplitl [H1]; · iexact H1
      iexact H2
  · have h3 : k0_cond3 i (count T1) = 1#1 := (cond3_iff _ _).mpr hu
    have hr : ¬renews T0 T1 i = 1#1 := fun h => hu (inUse_of_renews _ _ _ h)
    rw [hzero hu]
    iintro ⟨⟨⟨%k, -, HS⟩, HE, HN⟩, H0, H1, H2, Hk⟩
    iapply (run_idle c i arg4 harg4 arg5 harg5 arg6 harg6 T0 T1 hr hu h3 K)
    isplitl [HE]; · iexact HE
    isplitl [HN]; · iexact HN
    isplitl [H2]; · iexact H2
    iintro ⟨HE, HN, H2⟩
    iapply Hk
    isplitl [HS HE HN]
    · isplitl [HS]
      · iexists _; isplitr; swap
        · iexact HS
        · ipureintro; exact hany hu k
      isplitl [HE]; · iexact HE
      iexact HN
    isplitl [H0]; · iexact H0
    isplitl [H1]; · iexact H1
    iexact H2

end Cert.DownIdeal.Hand
-- ==== Proof.DownPoint.lean ====
module

public import proofs.«01_k».proof.Proof.DownSame
public import proofs.«01_k».proof.Proof.DownStep

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-! ## The body at a point -/

abbrev bodyAt0 (t : Fin (cfgA a).N) : Prog (TpuEff nD τ sig (Elt F) Λ₀ .tc) PUnit :=
  cc0__moe_down_kernel (crd a t) tabE (Memref.isWhole_whole _) tabN (Memref.isWhole_whole _) (st0 a t) (hst0 a t) (st1 a t) (hst1 a t) (st2 a t) (hst2 a t) keep (Memref.isWhole_whole _)

def bodyPre (c : Dev nD) (t : Fin (cfgA a).N) : sProp 𝕄 :=
  iprop((dats a m 0 c).Φ t.castSucc ∗ (dats a m 0 c).owesAt () t.castSucc
    ∗ (∃ d, owns (c : Thread nD τ) (st0 a t) fullShare ((dats a m 0 c).before (0 : Fin 3) t d))
    ∗ (∃ d, owns (c : Thread nD τ) (st1 a t) fullShare ((dats a m 0 c).before (1 : Fin 3) t d))
    ∗ (∃ d, owns (c : Thread nD τ) (st2 a t) fullShare ((dats a m 0 c).before (2 : Fin 3) t d)))

def bodyPost (c : Dev nD) (t : Fin (cfgA a).N) : sProp 𝕄 :=
  iprop((dats a m 0 c).Φ t.succ ∗ (dats a m 0 c).owesAt () t.succ
    ∗ (dats a m 0 c).leavesExact (0 : Fin 3) t ∗ (dats a m 0 c).leavesExact (1 : Fin 3) t ∗ (dats a m 0 c).leavesExact (2 : Fin 3) t)

theorem leaves (c : Dev nD) (t : Fin (cfgA a).N) (w : Fin 3) : (dats a m 0 c).leavesExact w t
    = owns (c : Thread nD τ) (((cfgA a).win w).stage ((cfgA a).slots t w)) fullShare ((dats a m 0 c).after w t) := by
  unfold Dat.leavesExact; rw [live a t w]

/-- The body at a point, from the resources as the pipeline states them. -/
theorem sound_step (c : Dev nD) (t : Fin (cfgA a).N) (R : sProp 𝕄) :
    iprop(Held a m c t.val ∗ R
        ∗ owns (c : Thread nD τ) (st0 a t) fullShare (iblk a m c 0 t) ∗ owns (c : Thread nD τ) (st1 a t) fullShare (iblk a m c 1 t)
        ∗ (∃ d, owns (c : Thread nD τ) (st2 a t) fullShare d))
      ⊢ wp frame (wpE (defs₀ (F := F)) Variants.none c none) Set.univ (bodyAt0 a t) (fun _ => iprop(Held a m c (t.val + 1) ∗ R
        ∗ owns (c : Thread nD τ) (st0 a t) fullShare (iblk a m c 0 t) ∗ owns (c : Thread nD τ) (st1 a t) fullShare (iblk a m c 1 t)
        ∗ owns (c : Thread nD τ) (st2 a t) fullShare (part a m c t))) := by
  unfold Held
  iintro ⟨HH, Ho, H0, H1, H2⟩
  iapply (step c (crd a t) (st0 a t) (hst0 a t) (st1 a t) (hst1 a t) (st2 a t) (hst2 a t) (experts a) (counts a)
    (iblk a m c 0 t) (iblk a m c 1 t) (part a m c t) (Known a m c t.val) (Known a m c (t.val + 1))
    (fun hr hu k hk => known_same a m c t k hk hr hu) (fun hu => if_pos hu) (fun hu => if_neg hu)
    (fun _ _ _ _ => rfl) (fun hu _ _ _ h => absurd h hu) _)
  isplitl [HH]; · iexact HH
  isplitl [H0]; · iexact H0
  isplitl [H1]; · iexact H1
  isplitl [H2]; · iexact H2
  iintro ⟨HH, H0, H1, H2⟩
  isplitl [HH]; · iexact HH
  isplitl [Ho]; · iexact Ho
  isplitl [H0]; · iexact H0
  isplitl [H1]; · iexact H1
  iexact H2

theorem held_at (c : Dev nD) (n : Fin ((cfgA a).N + 1)) : (dats a m 0 c).Φ n = Held a m c n.val := rfl

theorem owes_at (c : Dev nD) (n n' : Fin ((cfgA a).N + 1)) : (dats a m 0 c).owesAt () n = (dats a m 0 c).owesAt () n' := rfl

theorem pre_of (c : Dev nD) (t : Fin (cfgA a).N) : bodyPre a m c t ⊢ iprop(Held a m c t.val ∗ (dats a m 0 c).owesAt () t.castSucc
        ∗ owns (c : Thread nD τ) (st0 a t) fullShare (iblk a m c 0 t) ∗ owns (c : Thread nD τ) (st1 a t) fullShare (iblk a m c 1 t)
        ∗ (∃ d, owns (c : Thread nD τ) (st2 a t) fullShare d)) := by
  unfold bodyPre
  simp only [before0, before1]
  rw [held_at, Fin.val_castSucc]
  iintro ⟨HH, Ho, ⟨%d0, H0⟩, ⟨%d1, H1⟩, ⟨%d2, H2⟩⟩
  isplitl [HH]; · iexact HH
  isplitl [Ho]; · iexact Ho
  isplitl [H0]; · iexact H0
  isplitl [H1]; · iexact H1
  iexists _; iexact H2

theorem post_eq (c : Dev nD) (t : Fin (cfgA a).N) : bodyPost a m c t = iprop(Held a m c (t.val + 1) ∗ (dats a m 0 c).owesAt () t.castSucc
        ∗ owns (c : Thread nD τ) (st0 a t) fullShare (iblk a m c 0 t) ∗ owns (c : Thread nD τ) (st1 a t) fullShare (iblk a m c 1 t)
        ∗ owns (c : Thread nD τ) (st2 a t) fullShare (part a m c t)) := by
  unfold bodyPost
  rw [leaves, leaves, leaves, after0, after1, after2, held_at, Fin.val_succ, owes_at a m c t.succ t.castSucc]

theorem sound_body (c : Dev nD) (t : Fin (cfgA a).N) :
    bodyPre a m c t ⊢ wp frame (wpE (defs₀ (F := F)) Variants.none c none) Set.univ (bodyAt0 a t) (fun _ => bodyPost a m c t) := by
  rw [post_eq]
  exact (pre_of a m c t).trans (sound_step a m c t _)

theorem row_eq (t : Fin (cfgA a).N) : defs₀ (F := F) .tc (cfgA a).body ((cfgA a).bodyArgs t ((cfgA a).slots t)) = bodyAt0 a t := by
  unfold defs₀; rw [Defs.onTc_tc]

theorem body_obligation (c : Dev nD) : BodyObligation (dats (F := F) a m 0 c) (defs₀ (F := F)) Variants.none () Set.univ := fun t => by
  rw [bigSep_W0, bigSep_W0, row_eq]
  exact triple_restated (sound_body a m c t) rfl .rfl fun _ => .rfl

end Cert.DownIdeal.Hand
-- ==== Proof.DownRun.lean ====
module

public import proofs.«01_k».proof.Proof.DownPoint

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownIdeal.Hand

open Cert.DownIdeal Cert.DownIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-! ## The launch -/

abbrev EP : Emb (UR sig nD τ) 𝕄 := emb₁

def u₀ : UR sig nD τ :=
  initOf (Pipeline.cells (pcs a) ((launch0 (F := F)).cellOf_inj fun _ => a)) (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Held a m c 0 from rfl]
  unfold Held
  simp only [owns_whole]
  iintro ⟨-, ⟨HE, HN⟩, ⟨%k, HS⟩⟩
  isplitl [HS]
  · iexists k; isplitr; swap
    · iexact HS
    · ipureintro; exact fun _ h => absurd rfl h
  isplitl [HE]; · iexact HE
  iexact HN

theorem held_exit (c : Dev nD) : (dats a m 0 c).Φ (Fin.last (cfgA a).N) ⊢ iprop(BI.emp ∗ Pipeline.scopedRest spec0 c) := by
  rw [scopedRest0_eq, show (dats a m 0 c).Φ (Fin.last (cfgA a).N) = Held a m c (cfgA a).N from rfl]
  unfold Held
  simp only [owns_whole]
  iintro ⟨⟨%k, -, HS⟩, -, -⟩
  isplitr; · iempintro
  iexists k; iexact HS

/-- What memory holds at the end: every array as computed, every table as it was. -/
def Ends : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- Launched with admissible tables, the program terminates with the arrays as computed and every counter at zero. -/
theorem run_main (hpf : ∀ (c : Dev nD) j, m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hpf)
    (X := fun _ => iprop(emp)) (Y := fun _ => iprop(emp)) (Z := fun _ => iprop(emp))
    (hX := fun c => by rw [unscopedRestP0_eq]; iintro -; isplitr <;> iempintro)
    (hin := held_intro a m)
    (hout := held_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.DownIdeal.Hand
-- ==== Proof.DownFinal.lean ====
module

public import proofs.«01_k».proof.Proof.DownOk
public import proofs.«01_k».proof.Proof.DownRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownIdeal.Tiles

open Cert.DownIdeal Cert.DownIdeal.Gen Cert.DownIdeal.Hand

/-- The tile of a row, and the expert a word names. -/
def tileOf (r : Fin 36864) : Fin 72 := ⟨r.val / 512, by omega⟩
def named (v : BitVec 32) : Fin 8 := ⟨v.toNat % 8, Nat.mod_lt _ (by decide)⟩

/-- The result at row `r`, column `k`: the row against its tile's expert's column if the tile is in use, 0 otherwise. -/
def result (x : FVec Ideal S36864x7168 .bf16) (te : IVec S72 32) (nt : IVec S1 32) (w : FVec Ideal S8x7168x2048 .f32) (r : Fin 36864) (k : Fin 2048) : EReal :=
  if r.val / 512 < (nt (ix1 0)).toNat then ∑ p : Fin 7168, x (ix2 r p) * w (ix3 (named (te (ix1 (tileOf r)))) p k) else 0

theorem pay2_at (x : Vec Ideal S512x7168 .bf16) (w : Vec Ideal S1x7168x512 .f32) (r k : Fin 512) :
    k0_pay2 (F := Ideal) x (k0_pay1 w) (ix2 r k) = ∑ p : Fin 7168, x (ix2 r p) * w (ix3 0 p k) := by
  pointwise [k0_pay2, k0_pay1]

theorem pay3_at (r k : Fin 512) : k0_pay3 (F := Ideal) (ix2 r k) = 0 := by
  pointwise [k0_pay3]

/-- Below the number of tiles in use, as words and as numbers. -/
theorem slt_count (q : ℕ) (v : BitVec 32) (hq : q < 72) (hv : v.toNat ≤ 72) : Scalar.cmpi .slt (BitVec.ofNat 32 q) v = 1#1 ↔ q < v.toNat := by
  rw [slt_word, toInt_word _ (by omega), BitVec.toInt_eq_toNat_of_lt (by omega)]
  omega

variable (a : (pcfg0 (F := Ideal)).Adm)
variable (hE : ∀ i : S72.Idx, (experts a i : BitVec 32).toNat < 8)
variable (hN : ∀ i : S1.Idx, 1 ≤ (counts a i : BitVec 32).toNat ∧ (counts a i : BitVec 32).toNat ≤ 72)
variable (m : (ℓ : Loc nD τ sig) → Buf (Elt Ideal) ℓ) (c : Dev nD)

/-- The windows' block indices at a point. -/
def place0 (t : Fin (cfgA a).N) : Fin 2 → ℕ := ((cfgA a).win 0).index t
def place1 (t : Fin (cfgA a).N) : Fin 3 → ℕ := ((cfgA a).win 1).index t
def place2 (t : Fin (cfgA a).N) : Fin 2 → ℕ := ((cfgA a).win 2).index t

include hN in
theorem inUse_iff (t : Fin (cfgA a).N) : inUse (counts a) (crd a t) ↔ t.val % 72 < (counts a (ix1 0) : BitVec 32).toNat := by
  refine (cond2_iff _ _).trans ?_
  rw [crd1, count_eq]
  exact slt_count _ _ (Nat.mod_lt _ (by decide)) (hN _).2

include hN in
theorem read_x (t : Fin (cfgA a).N) (hu : t.val % 72 < (counts a (ix1 0) : BitVec 32).toNat) (r : Fin 512) (p : Fin 7168) (R : Fin 36864)
    (hR : R.val = t.val % 72 * 512 + r.val) : (iblk a m c 0 t : Vec Ideal S512x7168 .bf16) (ix2 r p) = m ((c : Thread nD τ).loc main_arg0) (ix2 R p) := by
  have e0 : place0 a t 0 = t.val % 72 := by
    have h := minsi_word (t.val % 72) (counts a (ix1 0)) (Nat.mod_lt _ (by decide)) (hN _).1 (hN _).2
    refine Eq.trans ?_ (h.trans (by omega))
    rw [← crd1 a t, ← count_eq (counts a)]
    rfl
  have e1 : place0 a t 1 = 0 := rfl
  refine congrArg (m ((c : Thread nD τ).loc main_arg0)) (funext fun e => Fin.ext ?_)
  match e with
  | ⟨0, _⟩ =>
    show place0 a t 0 * 512 + 1 * r.val = R.val
    rw [e0]; omega
  | ⟨1, _⟩ =>
    show place0 a t 1 * 7168 + 1 * p.val = p.val
    rw [e1]; omega

include hE in
theorem read_w (t : Fin (cfgA a).N) (p : Fin 7168) (q : Fin 512) (T : Fin 72) (K : Fin 2048) (hT : T.val = t.val % 72)
    (hK : K.val = t.val / 72 * 512 + q.val) :
    (iblk a m c 1 t : Vec Ideal S1x7168x512 .f32) (ix3 0 p q) = m ((c : Thread nD τ).loc main_arg3) (ix3 (named (experts a (ix1 T))) p K) := by
  have e : place1 a t = _ := index1 a t
  rw [expert_eq (experts a) (crd a t) T (by rw [crd1]; exact hT), crd0] at e
  refine congrArg (m ((c : Thread nD τ).loc main_arg3)) (funext fun x => Fin.ext ?_)
  match x with
  | ⟨0, _⟩ =>
    show place1 a t 0 * 1 + 1 * 0 = (experts a (ix1 T) : BitVec 32).toNat % 8
    rw [e, Nat.mod_eq_of_lt (hE _)]
    show (experts a (ix1 T) : BitVec 32).toNat * 1 + 1 * 0 = _
    omega
  | ⟨1, _⟩ =>
    show place1 a t 1 * 7168 + 1 * p.val = p.val
    rw [e]; show 0 * 7168 + 1 * p.val = p.val; omega
  | ⟨2, _⟩ =>
    show place1 a t 2 * 512 + 1 * q.val = K.val
    rw [e]; show t.val / 72 * 512 + 1 * q.val = K.val; omega

include hE hN in
theorem part_at (t : Fin (cfgA a).N) (r k : Fin 512) (R : Fin 36864) (K : Fin 2048) (hR : R.val = t.val % 72 * 512 + r.val)
    (hK : K.val = t.val / 72 * 512 + k.val) :
    part a m c t (ix2 r k) = result (m ((c : Thread nD τ).loc main_arg0)) (experts a) (counts a) (m ((c : Thread nD τ).loc main_arg3)) R K := by
  have hd : R.val / 512 = t.val % 72 := by omega
  unfold part result
  rw [hd]
  by_cases h : t.val % 72 < (counts a (ix1 0) : BitVec 32).toNat
  · rw [if_pos ((inUse_iff a hN t).mpr h), if_pos h]
    refine (pay2_at _ _ r k).trans (Finset.sum_congr rfl fun p _ => ?_)
    rw [read_x a hN m c t h r p R hR, read_w a hE m c t p k (tileOf R) K hd hK]
  · rw [if_neg fun z => h ((inUse_iff a hN t).mp z), if_neg h]
    exact pay3_at r k

theorem flushes : ∀ t : Fin grid0.N, Pipeline.Window.flushOf grid0 true cc0_transform_2 t = true := by decide +kernel

theorem onto (p : Fin 72) (q : Fin 4) : ∃ t : Fin grid0.N, cc0_transform_2 (grid0.coords t) 0 = p.val ∧ cc0_transform_2 (grid0.coords t) 1 = q.val := by
  revert p q; decide +kernel

theorem covers : ((cfgA a).win 2).Covers := by
  refine ⟨fun x => ?_, fun β => ?_⟩
  · match x with
    | ⟨0, _⟩ => show 0 < 512; decide
    | ⟨1, _⟩ => show 0 < 512; decide
  · have h0 : (β (0 : Fin 2)).val < (36864 + 512 - 1) / 512 := (β (0 : Fin 2)).isLt
    have h1 : (β (1 : Fin 2)).val < (2048 + 512 - 1) / 512 := (β (1 : Fin 2)).isLt
    obtain ⟨t, ht⟩ := onto ⟨(β (0 : Fin 2)).val, by omega⟩ ⟨(β (1 : Fin 2)).val, by omega⟩
    refine ⟨t, flushes t, fun x => ⟨?_, Or.inl rfl⟩⟩
    match x with
    | ⟨0, _⟩ => exact ht.1
    | ⟨1, _⟩ => exact ht.2

include hE hN in
/-- What a point leaves at an entry of its block is the result at the entry of the array the block places it at. -/
theorem point (t : Fin (cfgA a).N) (y : S512x512.Idx) : part a m c t y
    = result (m ((c : Thread nD τ).loc main_arg0)) (experts a) (counts a) (m ((c : Thread nD τ).loc main_arg3))
        ((((((cfgA a).win 2).blk t).view.emb y : S36864x2048.Idx)) (0 : Fin 2)) ((((((cfgA a).win 2).blk t).view.emb y : S36864x2048.Idx)) (1 : Fin 2)) := by
  have e2 : place2 a t = _ := index2 a t
  have hy : y = ix2 (y 0) (y 1) := (ix2_eta y).symm
  refine (congrArg (part a m c t) hy).trans (part_at a hE hN m c t (y 0) (y 1) _ _ ?_ ?_)
  · show place2 a t 0 * 512 + 1 * (y 0).val = _
    rw [e2]; show t.val % 72 * 512 + 1 * (y 0).val = _; omega
  · show place2 a t 1 * 512 + 1 * (y 1).val = _
    rw [e2]; show t.val / 72 * 512 + 1 * (y 1).val = _; omega

include hE hN in
theorem final : (dats a m 0 c).arrAt 2 (cfgA a).N =
    (fun y => result (m ((c : Thread nD τ).loc main_arg0)) (experts a) (counts a) (m ((c : Thread nD τ).loc main_arg3)) (y 0) (y 1) :
      FVec Ideal S36864x2048 .f32) := by
  refine (dats a m 0 c).arrAt_eq_of_covers 2 _ (covers a) (fun t hf y => ?_) (Memref.isWhole_whole _)
  exact point a hE hN m c t y

end Cert.DownIdeal.Tiles
-- ==== Proof.DownRef.lean ====
module

public import proofs.«01_k».proof.Proof.DownFinal
public import proofs.«01_k».proof.Proof.Gen.DownRefIdeal.Run
public import Idealize.ShloMosaic.Lib.StackMember

@[expose] public section

set_option maxRecDepth 16384

noncomputable section

open Idealize.ShloMosaic Idealize.ShloMosaic.TcCoe Idealize.SL.Sem

namespace Cert.DownRefIdeal.Tiles

open Cert.DownRefIdeal Cert.DownRefIdeal.Gen

variable {F : FTy → Type} [FloatOps F]

/-- The weights of every tile: its expert's page. -/
def pages (te : IVec S72 32) (w : FVec F S8x7168x2048 .f32) : FVec F S72x7168x2048 .f32 :=
  Host.gather gather_S8x7168x2048_S72x1_S72x7168x2048_12_0_n_n_0_1_171682048 w (broadcastInDim S72x1 ![0] bcast_S72_S72x1_0 (select (cmpi .slt te (broadcastInDim S72 ![] bcast_S_S72 (constantI S_ 32 0#32))) (addi te (broadcastInDim S72 ![] bcast_S_S72 (constantI S_ 32 8#32))) te))

/-- The products, tile by tile. -/
def products (x : FVec F S36864x7168 .bf16) (te : IVec S72 32) (w : FVec F S8x7168x2048 .f32) : FVec F S72x512x2048 .f32 :=
  Host.dotGeneral dot_S72x512x7168_S72x7168x2048_S72x512x2048_2_1_1_2_0_0 none (shapeCast _ (extf .f32 x bitsLt_bf16_f32) shapeCasts_S36864x7168_S72x512x7168) (pages te w)

/-- The products of the tiles in use, 0 elsewhere. -/
def kept (x : FVec F S36864x7168 .bf16) (te : IVec S72 32) (nt : IVec S1 32) (w : FVec F S8x7168x2048 .f32) : FVec F S72x512x2048 .f32 :=
  select (broadcastInDim S72x512x2048 ![0, 1, 2] bcast_S72x1x1_S72x512x2048_0_1_2 (broadcastInDim S72x1x1 ![0] bcast_S72_S72x1x1_0 (cmpi .slt (iotaInDim S72 32 0) (broadcastInDim S72 ![] bcast_S_S72 (shapeCast _ nt shapeCasts_S1_S_))))) (products x te w) (broadcastInDim S72x512x2048 ![] bcast_S_S72x512x2048 (id (constant S_ .f32 0x00000000#32)))

def out (x : FVec F S36864x7168 .bf16) (te : IVec S72 32) (nt : IVec S1 32) (w : FVec F S8x7168x2048 .f32) : FVec F S36864x2048 .f32 :=
  shapeCast _ (kept x te nt w) shapeCasts_S72x512x2048_S36864x2048

theorem pages_at (te : IVec S72 32) (w : FVec F S8x7168x2048 .f32) (g : Fin 72) (p : Fin 7168) (k : Fin 2048) (hE : (te (ix1 g)).toNat < 8) :
    pages te w (ix3 g p k) = w (ix3 (Cert.DownIdeal.Tiles.named (te (ix1 g))) p k) := by
  unfold pages
  generalize hidx : (broadcastInDim S72x1 ![0] bcast_S72_S72x1_0 (select (cmpi .slt te (broadcastInDim S72 ![] bcast_S_S72 (constantI S_ 32 0#32))) (addi te (broadcastInDim S72 ![] bcast_S_S72 (constantI S_ 32 8#32))) te) : IVec S72x1 32) = idx
  have hi : idx (ix2 g 0) = te (ix1 g) := by
    subst hidx
    have hb : ∀ v : BitVec 32, v.toNat < 8 → Scalar.select (Scalar.cmpi .slt v 0#32) (v + 8#32) v = v := by
      intro v hv
      have : ¬ Scalar.cmpi .slt v 0#32 = 1#1 := by
        rw [Cert.DownIdeal.Hand.slt_word, BitVec.toInt_eq_toNat_of_lt (by omega)]
        have : (0#32 : BitVec 32).toInt = 0 := by decide
        omega
      simp [Scalar.select, this]
    refine Eq.trans ?_ (hb (te (ix1 g)) hE)
    pointwise
    rfl
  unfold Host.gather
  refine congrArg w (funext fun b => Fin.ext ?_)
  match b with
  | ⟨0, _⟩ =>
    show GatherDims.start _ (ix3 g p k) idx 0 + GatherDims.batchCoord _ (ix3 g p k) 0 + GatherDims.offCoord _ (ix3 g p k) 0 = (te (ix1 g)).toNat % 8
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S8x7168x2048_S72x1_S72x7168x2048_12_0_n_n_0_1_171682048.startIndexMap from List.mem_singleton.mpr rfl)]
    have hs : ∀ h, GatherDims.siIdx gather_S8x7168x2048_S72x1_S72x7168x2048_12_0_n_n_0_1_171682048 (ix3 g p k) ⟨List.idxOf (0 : Fin 3) [0], h⟩ = ix2 g 0 := by
      intro h
      funext e; refine Fin.ext ?_
      match e with
      | ⟨0, _⟩ => rfl
      | ⟨1, _⟩ => rfl
    refine Eq.trans (congrArg (fun z => min (idx z).toInt.toNat 7 + 0 + 0) (hs _)) ?_
    show min (idx (ix2 g 0)).toInt.toNat 7 + 0 + 0 = _
    rw [hi, BitVec.toInt_eq_toNat_of_lt (by omega)]
    omega
  | ⟨1, _⟩ =>
    show GatherDims.start _ (ix3 g p k) idx 1 + GatherDims.batchCoord _ (ix3 g p k) 1 + GatherDims.offCoord _ (ix3 g p k) 1 = p.val
    rw [GatherDims.batchCoord_eq_zero _ _ _ List.not_mem_nil]
    unfold GatherDims.start
    rw [dif_neg (by decide)]
    simp only [Nat.zero_add]
    rfl
  | ⟨2, _⟩ =>
    show GatherDims.start _ (ix3 g p k) idx 2 + GatherDims.batchCoord _ (ix3 g p k) 2 + GatherDims.offCoord _ (ix3 g p k) 2 = k.val
    rw [GatherDims.batchCoord_eq_zero _ _ _ List.not_mem_nil]
    unfold GatherDims.start
    rw [dif_neg (by decide)]
    simp only [Nat.zero_add]
    rfl

theorem rows_at (x : FVec Ideal S36864x7168 .bf16) (g : Fin 72) (s : Fin 512) (p : Fin 7168) (R : Fin 36864) (hR : R.val = g.val * 512 + s.val) :
    (shapeCast S72x512x7168 (extf .f32 x bitsLt_bf16_f32 : FVec Ideal S36864x7168 .f32) shapeCasts_S36864x7168_S72x512x7168 : FVec Ideal S72x512x7168 .f32) (ix3 g s p) = x (ix2 R p) := by
  refine (shapeCast_apply _ _ (ix3 g s p) (ix2 R p) ?_).trans rfl
  rw [Shape.rowMajor_val_two, Shape.rowMajor_val_three]
  show R.val * 7168 + p.val = (g.val * 512 + s.val) * 7168 + p.val
  rw [hR]

theorem products_at (x : FVec Ideal S36864x7168 .bf16) (te : IVec S72 32) (w : FVec Ideal S8x7168x2048 .f32) (g : Fin 72) (s : Fin 512) (k : Fin 2048) (R : Fin 36864)
    (hR : R.val = g.val * 512 + s.val) (hE : (te (ix1 g)).toNat < 8) :
    products x te w (ix3 g s k) = ∑ p : Fin 7168, x (ix2 R p) * w (ix3 (Cert.DownIdeal.Tiles.named (te (ix1 g))) p k) := by
  unfold products
  refine (Idealize.ShloMosaic.StackMember.dotGeneral_stack_apply _ none _ _ g s k).trans (Finset.sum_congr rfl fun p _ => ?_)
  exact congrArg₂ (· * ·) (rows_at x g s p R hR) (pages_at te w g p k hE)

theorem kept_at (x : FVec Ideal S36864x7168 .bf16) (te : IVec S72 32) (nt : IVec S1 32) (w : FVec Ideal S8x7168x2048 .f32) (g : Fin 72) (s : Fin 512) (k : Fin 2048)
    (hN : (nt (ix1 0)).toNat ≤ 72) : kept x te nt w (ix3 g s k) = if g.val < (nt (ix1 0)).toNat then products x te w (ix3 g s k) else 0 := by
  have h1 : kept x te nt w (ix3 g s k) = Scalar.select (Scalar.cmpi .slt (BitVec.ofNat 32 g.val) (nt (ix1 0))) (products x te w (ix3 g s k)) 0 := by
    unfold kept
    generalize products x te w = P
    dsimp only [id]
    pointwise
    rfl
  rw [h1]
  have h2 := Cert.DownIdeal.Tiles.slt_count g.val (nt (ix1 0)) g.isLt hN
  by_cases h : g.val < (nt (ix1 0)).toNat
  · rw [if_pos h, h2.mpr h]; rfl
  · rw [if_neg h]
    have : ¬ Scalar.cmpi .slt (BitVec.ofNat 32 g.val) (nt (ix1 0)) = 1#1 := fun z => h (h2.mp z)
    simp [Scalar.select, this]

/-- The reference, entry by entry. -/
theorem out_eq (x : FVec Ideal S36864x7168 .bf16) (te : IVec S72 32) (nt : IVec S1 32) (w : FVec Ideal S8x7168x2048 .f32)
    (hE : ∀ i, (te i).toNat < 8) (hN : (nt (ix1 0)).toNat ≤ 72) :
    out x te nt w = (fun y => Cert.DownIdeal.Tiles.result x te nt w (y 0) (y 1) : FVec Ideal S36864x2048 .f32) := by
  funext y
  obtain ⟨r, k, rfl⟩ : ∃ (r : Fin 36864) (k : Fin 2048), y = ix2 r k := ⟨y 0, y 1, (ix2_eta y).symm⟩
  have hr := r.isLt
  show out x te nt w (ix2 r k) = Cert.DownIdeal.Tiles.result x te nt w r k
  unfold out
  rw [shapeCast_apply (kept x te nt w) _ (ix2 r k) (ix3 (Cert.DownIdeal.Tiles.tileOf r) (⟨r.val % 512, Nat.mod_lt _ (by decide)⟩ : Fin 512) k) (by
    rw [Shape.rowMajor_val_two, Shape.rowMajor_val_three]
    show (r.val / 512 * 512 + r.val % 512) * 2048 + k.val = r.val * 2048 + k.val
    omega)]
  rw [kept_at x te nt w _ _ k hN]
  unfold Cert.DownIdeal.Tiles.result
  rw [products_at x te w _ _ k r (by show r.val = r.val / 512 * 512 + r.val % 512; omega) (hE _)]
  rfl

end Cert.DownRefIdeal.Tiles
-- ==== Proof.DownPre.lean ====
module

public import proofs.«01_k».proof.Defs
public import proofs.«01_k».proof.Proof.Gen.Pre_tables_in_range
public import Idealize.ShloMosaic.Lib.ReduceAll
public import Idealize.ShloMosaic.PureOps.Ideal

@[expose] public section

noncomputable section

open Idealize.ShloMosaic Idealize.ShloMosaic.TcCoe Idealize.SL.Sem

namespace Cert.Down.Range

/-- A word that is at least 0 and below 8 names one of the eight experts. -/
theorem below_eight (v : BitVec 32) (h0 : BitVec.ofBool ((0#32).sle v) = 1#1) (h8 : BitVec.ofBool (v.slt 8#32) = 1#1) : v.toNat < 8 := by
  revert v
  intro v h0 h8
  have a : (0#32).sle v = true := by
    revert h0; cases (0#32).sle v <;> decide
  have b : v.slt 8#32 = true := by
    revert h8; cases v.slt 8#32 <;> decide
  rw [BitVec.sle_iff_toInt_le] at a
  rw [BitVec.slt_iff_toInt_lt] at b
  have h := BitVec.toInt_eq_toNat_cond v
  have e8 : (8#32 : BitVec 32).toInt = 8 := by decide
  have e0 : (0#32 : BitVec 32).toInt = 0 := by decide
  split at h <;> omega

/-- A word from 1 to 72 counts that many tiles. -/
theorem in_tiles (v : BitVec 32) (h1 : BitVec.ofBool ((1#32).sle v) = 1#1) (h72 : BitVec.ofBool (v.sle 72#32) = 1#1) : 1 ≤ v.toNat ∧ v.toNat ≤ 72 := by
  have a : (1#32).sle v = true := by
    revert h1; cases (1#32).sle v <;> decide
  have b : v.sle 72#32 = true := by
    revert h72; cases v.sle 72#32 <;> decide
  rw [BitVec.sle_iff_toInt_le] at a b
  have h := BitVec.toInt_eq_toNat_cond v
  have e1 : (1#32 : BitVec 32).toInt = 1 := by decide
  have e72 : (72#32 : BitVec 32).toInt = 72 := by decide
  split at h <;> omega

variable {F : FTy → Type} [FloatOps F]

/-- The precondition says that every tile's expert is one of eight and that 1 to 72 tiles are in use. -/
theorem ranges (x : FVec F Cert.Pre_tables_in_range.S36864x7168 .bf16) (te : IVec Cert.Pre_tables_in_range.S72 32) (nt : IVec Cert.Pre_tables_in_range.S1 32)
    (w : FVec F Cert.Pre_tables_in_range.S8x7168x2048 .f32) (j : Cert.Pre_tables_in_range.S_.Idx)
    (h : (Cert.Pre_tables_in_range.fn x te nt w : IVec Cert.Pre_tables_in_range.S_ 1) j = 1#1) :
    (∀ i, (te i).toNat < 8) ∧ ∀ i, 1 ≤ (nt i).toNat ∧ (nt i).toNat ≤ 72 := by
  dsimp only [Cert.Pre_tables_in_range.fn] at h
  obtain ⟨h12, h4⟩ := IntOp.andi_eq_one.1 h
  obtain ⟨h6, h3⟩ := IntOp.andi_eq_one.1 h12
  obtain ⟨h1, h2⟩ := IntOp.andi_eq_one.1 h6
  haveI : Subsingleton Cert.Pre_tables_in_range.S_.Idx := ⟨fun a b => funext fun k => k.elim0⟩
  exact ⟨fun i => below_eight _ (Host.reduce_andi_all _ _ _ _ j h1 i) (Host.reduce_andi_all _ _ _ _ j h2 i),
    fun i => in_tiles _ (Host.reduce_andi_all _ _ _ _ j h3 i) (Host.reduce_andi_all _ _ _ _ j h4 i)⟩

end Cert.Down.Range
-- ==== Proof.DownClaim.lean ====
module

public import proofs.«01_k».proof.Proof.DownRef
public import proofs.«01_k».proof.Proof.DownPre
public import proofs.«01_k».proof.Proof.Gen.Down
public import Idealize.ShloMosaic.Lib.Quiescent
public import Idealize.ShloMosaic.PureOps.BitExact

@[expose] public section

set_option maxRecDepth 16384

noncomputable section

open Idealize.ShloMosaic Idealize.ShloMosaic.TcCoe Idealize.SL.Sem

namespace Cert.DownIdeal.Hand

open Cert.DownIdeal Cert.DownIdeal.Gen

variable {F : FTy → Type} [FloatOps F]
variable (m : (ℓ : Loc nD τ sig) → Buf (Elt F) ℓ) (ρ : Dev nD → PrngReg)

/-- The one core there is. -/
def core : Dev nD := ⟨0, by decide⟩

theorem core_eq (c : Dev nD) : c = core := by
  have h : c.val < 1 := c.isLt
  exact Fin.ext (by show c.val = 0; omega)

/-- The tables in memory are in range. -/
def InRange : Prop :=
  (∀ i : S72.Idx, (m ((core : Thread nD τ).loc main_arg1) i : BitVec 32).toNat < 8)
    ∧ ∀ i : S1.Idx, 1 ≤ (m ((core : Thread nD τ).loc main_arg2) i : BitVec 32).toNat ∧ (m ((core : Thread nD τ).loc main_arg2) i : BitVec 32).toNat ≤ 72

variable (h : InRange m)

/-- The tables in memory, as the pipeline takes them. -/
def tables : (pcfg0 (F := F)).Adm := ⟨fun j => m ((core : Thread nD τ).loc (pre0.ref j)), ok_of_range _ h.1 h.2⟩

/-- From tables in range the program ends with its result as computed, its arguments as they were and every counter at zero. -/
theorem run : θ_run (defs (F := F)) (onTc (τ := τ) (main (F := F))) ⟨m, fun _ => 0, ρ⟩ (fun r => (∀ c : Dev nD,
      r.2.mem ((c : Thread nD τ).loc main_v0) = (dats (tables m h) m 0 c).arrAt 2 (cfgA (tables m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  have hpf : ∀ (c : Dev nD) j, m ((c : Thread nD τ).loc (pre0.ref j)) = (tables m h).1 j := fun c j => by
    obtain rfl := core_eq c; rfl
  refine (θ_run defs _ _).mono (fun r e => ⟨fun c => ?_, e.2⟩) (run_main (tables m h) m ρ hpf)
  obtain ⟨e1, e2⟩ := e.1 c
  exact ⟨e1 (2 : Fin 3), (e1 (0 : Fin 3)).trans ((dats (tables m h) m 0 c).arrAt_in (0 : Fin 3) rfl _),
    (e2 0).trans (hpf c 0).symm, (e2 1).trans (hpf c 1).symm,
    (e1 (1 : Fin 3)).trans ((dats (tables m h) m 0 c).arrAt_in (1 : Fin 3) rfl _)⟩

end Cert.DownIdeal.Hand

namespace Cert.Down.Range

theorem range_ideal (m : (ℓ : Loc Cert.DownIdeal.nD Cert.DownIdeal.τ Cert.DownIdeal.sig) → Buf (Elt Ideal) ℓ) (h : Cert.Pre_DownIdeal m) :
    Cert.DownIdeal.Hand.InRange m :=
  ranges _ _ _ _ (fun a => a.elim0) (congrFun (h Cert.DownIdeal.Hand.core) _)

theorem range_bits (m : (ℓ : Loc Cert.Down.nD Cert.Down.τ Cert.Down.sig) → Buf (Elt Bits) ℓ) (h : Cert.Pre_Down m) :
    Cert.DownIdeal.Hand.InRange (F := Bits) m :=
  ranges _ _ _ _ (fun a => a.elim0) (congrFun (h Cert.DownIdeal.Hand.core) _)

/-- The kernel on ideal numbers. -/
theorem frame_i : Cert.quiescent_DownIdeal := fun m g h =>
  (θ_run Cert.DownIdeal.defs _ _).mono (fun _ e => ⟨fun c => (e.1 c).2, e.2⟩) (Cert.DownIdeal.Hand.run m g (range_ideal m h))

/-- A run of the reference leaves its arguments as they were and every counter at zero. -/
theorem frame_r : Cert.quiescent_DownRefIdeal := fun m ρ _ =>
  (θ_run Cert.DownRefIdeal.defs _ _).mono
    (fun r h => And.intro (fun c => (h c).2) (sem_eq_zero_of_no_sems (by decide) r.2))
    (Cert.DownRefIdeal.Value.run m ρ)

/-- The second product of the experts of the kernel and of the reference end with the same array, for tables in range. -/
theorem value : Cert.algebraic_DownIdeal_DownRefIdeal := by
  intro m g m' g' hpre hagree
  have h := range_ideal m hpre
  refine ⟨fun c => (fun y => Cert.DownIdeal.Tiles.result (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (y 0) (y 1) : FVec Ideal Cert.DownIdeal.S36864x2048 .f32), ?_, ?_⟩
  · refine (θ_run Cert.DownIdeal.defs _ _).mono (fun r e c => ⟨(e.1 c).1.trans ?_, (e.1 c).2⟩) (Cert.DownIdeal.Hand.run m g h)
    obtain rfl := Cert.DownIdeal.Hand.core_eq c
    exact Cert.DownIdeal.Tiles.final (Cert.DownIdeal.Hand.tables m h) h.1 h.2 m _
  · refine (θ_run Cert.DownRefIdeal.defs _ _).mono (fun r e c => ⟨(e c).1.trans ?_, (e c).2⟩) (Cert.DownRefIdeal.Value.run m' g')
    obtain rfl := Cert.DownIdeal.Hand.core_eq c
    rw [(hagree _).1, (hagree _).2.1, (hagree _).2.2.1, (hagree _).2.2.2]
    exact Cert.DownRefIdeal.Tiles.out_eq _ _ _ _ h.1 (h.2 _).2

end Cert.Down.Range
-- ==== Proof.DownKernel.lean ====
module

public import proofs.«01_k».proof.Proof.DownClaim

@[expose] public section

set_option maxRecDepth 16384

noncomputable section

open Idealize.ShloMosaic Idealize.ShloMosaic.TcCoe Idealize.SL.Sem

namespace Cert.Down.Range

/-- The kernel and its ideal form have the same bodies. -/
theorem bodies_eq : Cert.Down.defs₀ (F := Bits) = Cert.DownIdeal.defs₀ (F := Bits) := by
  unfold Cert.Down.defs₀ Cert.DownIdeal.defs₀
  refine congrArg Defs.onTc ?_
  funext l a
  obtain ⟨l, hl⟩ := l
  obtain _ | l := l
  · rfl
  · exact absurd hl (Nat.not_lt.2 (Nat.le_add_left _ _))

theorem defs_eq : Cert.Down.defs (F := Bits) = Cert.DownIdeal.defs (F := Bits) :=
  congrArg (Pipeline.defs (Cert.Down.pcfgs (F := Bits))) bodies_eq

/-- The kernel as it runs leaves its arguments as they were and every counter at zero. -/
theorem frame_k : Cert.quiescent_Down := by
  intro m g h
  have e := (θ_run Cert.DownIdeal.defs _ _).mono (fun _ e => And.intro (fun c => (e.1 c).2) e.2)
    (Cert.DownIdeal.Hand.run (F := Bits) m g (range_bits m h))
  rw [defs_eq]
  exact e

end Cert.Down.Range
-- ==== Proof.UpBody.lean ====
module

public import proofs.«01_k».proof.Proof.Gen.UpIdeal.Skeleton
public import proofs.«01_k».proof.Proof.Gen.UpIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Exec
public import Idealize.ShloMosaic.Lib.Tactic
public import Idealize.ShloMosaic.Adequacy
public import Idealize.ShloMosaic.Init

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

/-! ## The words read from the two tables -/

abbrev tabE : Memref sig .tc .smem S72 .i32 := Memref.whole main_arg1
abbrev tabN : Memref sig .tc .smem S1 .i32 := Memref.whole main_arg2
abbrev keep : Memref sig .tc .vmem S2048x1024 .bf16 := Memref.whole cc0_scratch0
abbrev keepB : Memref sig .tc .vmem S2048x1024 .bf16 := Memref.whole cc0_scratch1

/-- The number of tiles in use. -/
abbrev count (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- The expert of the point's tile, and that of the tile before it. -/
abbrev expert (T0 : S72.Idx → Elt F .i32) (i : grid0.Coords) : BitVec 32 :=
  View.readAt (Elt F) tabE.view (Rect.unit (s := S72) (k0_off1 i) S1.size (k0_off1_inb i)).toLoadRect T0 (Shape.Idx.first (numel1_S1.symm ▸ Nat.one_pos))
abbrev before (T0 : S72.Idx → Elt F .i32) (i : grid0.Coords) : BitVec 32 :=
  View.readAt (Elt F) tabE.view (Rect.unit (s := S72) (k0_off2 i) S1.size (k0_off2_inb i)).toLoadRect T0 (Shape.Idx.first (numel1_S1.symm ▸ Nat.one_pos))

/-- Whether the point keeps a new block of weights: its tile is in use, and it is the first or has another expert. -/
abbrev renews (T0 : S72.Idx → Elt F .i32) (T1 : S1.Idx → Elt F .i32) (i : grid0.Coords) : BitVec 1 :=
  Scalar.cmpi .ne (Scalar.extui (Scalar.andi (Scalar.cmpi .slt (BitVec.ofNat 32 (i 1).val) (count T1))
    (Scalar.ori (Scalar.cmpi .eq (BitVec.ofNat 32 (i 1).val) 0#32) (Scalar.cmpi .ne (expert T0 i) (before T0 i))))) 0#32

/-- Whether the point's tile is in use. -/
abbrev inUse (T1 : S1.Idx → Elt F .i32) (i : grid0.Coords) : Prop := k0_cond2 i (count T1) = 1#1

theorem cond3_iff (i : grid0.Coords) (v : BitVec 32) : k0_cond3 i v = 1#1 ↔ ¬k0_cond2 i v = 1#1 := by
  dsimp only [k0_cond3, k0_cond2]
  generalize Scalar.cmpi .slt (BitVec.ofNat 32 (i 1).val) v = b
  revert b; decide

theorem cond2_iff (i : grid0.Coords) (v : BitVec 32) : k0_cond2 i v = 1#1 ↔ Scalar.cmpi .slt (BitVec.ofNat 32 (i 1).val) v = 1#1 := by
  dsimp only [k0_cond2]
  generalize Scalar.cmpi .slt (BitVec.ofNat 32 (i 1).val) v = b
  revert b; decide

theorem inUse_of_renews (T0 : S72.Idx → Elt F .i32) (T1 : S1.Idx → Elt F .i32) (i : grid0.Coords) (h : renews T0 T1 i = 1#1) : inUse T1 i := by
  refine (cond2_iff i _).mpr ?_
  revert h
  unfold renews
  generalize Scalar.cmpi .slt (BitVec.ofNat 32 (i 1).val) (count T1) = b
  generalize Scalar.ori _ _ = d
  revert b d; decide

/-- A tile in use for which nothing new is kept is not the first, and its expert is that of the tile before. -/
theorem same_of_not_renews (T0 : S72.Idx → Elt F .i32) (T1 : S1.Idx → Elt F .i32) (i : grid0.Coords) (h : ¬renews T0 T1 i = 1#1) (hu : inUse T1 i) :
    ¬Scalar.cmpi .eq (BitVec.ofNat 32 (i 1).val) 0#32 = 1#1 ∧ ¬Scalar.cmpi .ne (expert T0 i) (before T0 i) = 1#1 := by
  have hu' := (cond2_iff i _).mp hu
  revert h hu'
  unfold renews
  generalize Scalar.cmpi .slt (BitVec.ofNat 32 (i 1).val) (count T1) = b
  generalize Scalar.cmpi .eq (BitVec.ofNat 32 (i 1).val) 0#32 = p
  generalize Scalar.cmpi .ne (expert T0 i) (before T0 i) = q
  revert b p q; decide

/-! ## The body's runs -/

theorem pay3_congr {x x' : Vec F S512x2048 .f32} {k k' l l' : Vec F S2048x1024 .bf16} (hx : x = x') (hk : k = k') (hl : l = l') : k0_pay3 x k l = k0_pay3 x' k' l' := by
  rw [hx, hk, hl]

set_option maxHeartbeats 2000000 in
/-- A point that keeps a new block of weights: it is rounded and kept, then used. -/
theorem run_new (c : Dev nD) (i : grid0.Coords) (arg4 : Memref sig .tc .vmem S512x2048 .f32) (harg4 : arg4.IsWhole)
    (arg5 : Memref sig .tc .vmem S1x2048x1024 .f32) (harg5 : arg5.IsWhole) (arg6 : Memref sig .tc .vmem S1x2048x1024 .f32) (harg6 : arg6.IsWhole)
    (arg7 : Memref sig .tc .vmem S512x1024 .bf16) (harg7 : arg7.IsWhole)
    (T0 : S72.Idx → Elt F .i32) (T1 : S1.Idx → Elt F .i32) (hc : renews T0 T1 i = 1#1) (h2 : k0_cond2 i (count T1) = 1#1) (h3 : ¬k0_cond3 i (count T1) = 1#1)
    (x : Vec F S512x2048 .f32) (w v : Vec F S1x2048x1024 .f32) (K : PUnit → sProp 𝕄) :
    iprop(owns (c : Thread nD τ) arg4 fullShare x ∗ owns (c : Thread nD τ) arg5 fullShare w ∗ owns (c : Thread nD τ) arg6 fullShare v
        ∗ (tabE.view.loc (c : Thread nD τ) ↦{fullShare.right} T0) ∗ (tabN.view.loc (c : Thread nD τ) ↦{fullShare.right} T1)
        ∗ (∃ d, owns (c : Thread nD τ) arg7 fullShare d) ∗ (∃ d, owns (c : Thread nD τ) keep fullShare d) ∗ (∃ d, owns (c : Thread nD τ) keepB fullShare d)
        ∗ (iprop(owns (c : Thread nD τ) arg4 fullShare x ∗ owns (c : Thread nD τ) arg5 fullShare w ∗ owns (c : Thread nD τ) arg6 fullShare v
            ∗ (tabE.view.loc (c : Thread nD τ) ↦{fullShare.right} T0) ∗ (tabN.view.loc (c : Thread nD τ) ↦{fullShare.right} T1)
            ∗ owns (c : Thread nD τ) arg7 fullShare (k0_pay3 x (k0_pay1 w) (k0_pay2 v)) ∗ owns (c : Thread nD τ) keep fullShare (k0_pay1 w)
            ∗ owns (c : Thread nD τ) keepB fullShare (k0_pay2 v)) -∗ K ⟨⟩))
      ⊢ wp frame (wpE (defs₀ (F := F)) Variants.none c none) Set.univ
          (cc0__moe_up_kernel i tabE (Memref.isWhole_whole _) tabN (Memref.isWhole_whole _) arg4 harg4 arg5 harg5 arg6 harg6 arg7 harg7 keep (Memref.isWhole_whole _) keepB (Memref.isWhole_whole _)) K := by
  have hk : keep.IsWhole := Memref.isWhole_whole _
  have hl : keepB.IsWhole := Memref.isWhole_whole _
  have hE : tabE.IsWhole := Memref.isWhole_whole _
  have hN : tabN.IsWhole := Memref.isWhole_whole _
  rw [cc0__moe_up_kernel_eq_skeleton]; unfold cc0__moe_up_kernel_skel
  unfold owns
  iintro ⟨⟨%f4, %hf4, H4⟩, ⟨%f5, %hf5, H5⟩, ⟨%f6, %hf6, H6⟩, HE, HN, ⟨%d7, %f7, -, H7⟩, ⟨%d8, %f8, -, H8⟩, ⟨%d9, %f9, -, H9⟩, Hk⟩
  obtain rfl := harg4.eq_unread hf4; obtain rfl := harg5.eq_unread hf5; obtain rfl := harg6.eq_unread hf6
  sl_exec (disch := first | sl_exact hc | sl_exact h2 | sl_exact h3)
  sl_step
  have l4 := (View.readAt_full arg4.view (harg4.unread x) inb_S512x2048_S512x2048_0_0).trans (harg4.read_unread x)
  have l5 := (View.readAt_full arg5.view (harg5.unread w) inb_S1x2048x1024_S1x2048x1024_0_0_0).trans (harg5.read_unread w)
  have l6 := (View.readAt_full arg6.view (harg6.unread v) inb_S1x2048x1024_S1x2048x1024_0_0_0).trans (harg6.read_unread v)
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HE]; · iexact HE
  isplitl [HN]; · iexact HN
  isplitl [H7]
  · iexists _; isplitr
    swap; · iexact H7
    ipureintro
    refine (View.read_writes_full _ _ _ _ _).trans (pay3_congr l4 ?_ ?_)
    · exact (View.readCov_unit_lit _ _ _ (by decide)).trans (congrArg k0_pay1 l5)
    · exact (View.readCov_unit_lit _ _ _ (by decide)).trans (congrArg k0_pay2 l6)
  isplitl [H8]
  · iexists _; isplitr
    swap; · iexact H8
    ipureintro
    exact (View.read_writes_full _ _ _ _ _).trans (congrArg k0_pay1 l5)
  iexists _; isplitr
  swap; · iexact H9
  ipureintro
  exact (View.read_writes_full _ _ _ _ _).trans (congrArg k0_pay2 l6)

set_option maxHeartbeats 2000000 in
/-- A point whose tile is in use and has the expert of the tile before: the kept block is used again. -/
theorem run_same (c : Dev nD) (i : grid0.Coords) (arg4 : Memref sig .tc .vmem S512x2048 .f32) (harg4 : arg4.IsWhole)
    (arg5 : Memref sig .tc .vmem S1x2048x1024 .f32) (harg5 : arg5.IsWhole) (arg6 : Memref sig .tc .vmem S1x2048x1024 .f32) (harg6 : arg6.IsWhole)
    (arg7 : Memref sig .tc .vmem S512x1024 .bf16) (harg7 : arg7.IsWhole)
    (T0 : S72.Idx → Elt F .i32) (T1 : S1.Idx → Elt F .i32) (hc : ¬renews T0 T1 i = 1#1) (h2 : k0_cond2 i (count T1) = 1#1) (h3 : ¬k0_cond3 i (count T1) = 1#1)
    (x : Vec F S512x2048 .f32) (k l : Vec F S2048x1024 .bf16) (K : PUnit → sProp 𝕄) :
    iprop(owns (c : Thread nD τ) arg4 fullShare x
        ∗ (tabE.view.loc (c : Thread nD τ) ↦{fullShare.right} T0) ∗ (tabN.view.loc (c : Thread nD τ) ↦{fullShare.right} T1)
        ∗ (∃ d, owns (c : Thread nD τ) arg7 fullShare d) ∗ owns (c : Thread nD τ) keep fullShare k ∗ owns (c : Thread nD τ) keepB fullShare l
        ∗ (iprop(owns (c : Thread nD τ) arg4 fullShare x
            ∗ (tabE.view.loc (c : Thread nD τ) ↦{fullShare.right} T0) ∗ (tabN.view.loc (c : Thread nD τ) ↦{fullShare.right} T1)
            ∗ owns (c : Thread nD τ) arg7 fullShare (k0_pay3 x k l) ∗ owns (c : Thread nD τ) keep fullShare k ∗ owns (c : Thread nD τ) keepB fullShare l) -∗ K ⟨⟩))
      ⊢ wp frame (wpE (defs₀ (F := F)) Variants.none c none) Set.univ
          (cc0__moe_up_kernel i tabE (Memref.isWhole_whole _) tabN (Memref.isWhole_whole _) arg4 harg4 arg5 harg5 arg6 harg6 arg7 harg7 keep (Memref.isWhole_whole _) keepB (Memref.isWhole_whole _)) K := by
  have hk : keep.IsWhole := Memref.isWhole_whole _
  have hl : keepB.IsWhole := Memref.isWhole_whole _
  have hE : tabE.IsWhole := Memref.isWhole_whole _
  have hN : tabN.IsWhole := Memref.isWhole_whole _
  rw [cc0__moe_up_kernel_eq_skeleton]; unfold cc0__moe_up_kernel_skel
  unfold owns
  iintro ⟨⟨%f4, %hf4, H4⟩, HE, HN, ⟨%d7, %f7, -, H7⟩, ⟨%f8, %hf8, H8⟩, ⟨%f9, %hf9, H9⟩, Hk⟩
  obtain rfl := harg4.eq_unread hf4; obtain rfl := hk.eq_unread hf8; obtain rfl := hl.eq_unread hf9
  sl_exec (disch := first | sl_exact hc | sl_exact h2 | sl_exact h3)
  sl_step
  have l4 := (View.readAt_full arg4.view (harg4.unread x) inb_S512x2048_S512x2048_0_0).trans (harg4.read_unread x)
  have l8 := (View.readAt_full keep.view (hk.unread k) inb_S2048x1024_S2048x1024_0_0).trans (hk.read_unread k)
  have l9 := (View.readAt_full keepB.view (hl.unread l) inb_S2048x1024_S2048x1024_0_0).trans (hl.read_unread l)
  iapply Hk
  isplitl [H4]
  · iexists _; isplitr; · ipureintro; exact harg4.read_unread _
    iexact H4
  isplitl [HE]; · iexact HE
  isplitl [HN]; · iexact HN
  isplitl [H7]
  · iexists _; isplitr
    swap; · iexact H7
    ipureintro
    exact (View.read_writes_full _ _ _ _ _).trans (pay3_congr l4 l8 l9)
  isplitl [H8]
  · iexists _; isplitr; · ipureintro; exact hk.read_unread _
    iexact H8
  iexists _; isplitr; · ipureintro; exact hl.read_unread _
  iexact H9

set_option maxHeartbeats 2000000 in
/-- A point whose tile is not in use: zeros are stored. -/
theorem run_idle (c : Dev nD) (i : grid0.Coords) (arg4 : Memref sig .tc .vmem S512x2048 .f32) (harg4 : arg4.IsWhole)
    (arg5 : Memref sig .tc .vmem S1x2048x1024 .f32) (harg5 : arg5.IsWhole) (arg6 : Memref sig .tc .vmem S1x2048x1024 .f32) (harg6 : arg6.IsWhole)
    (arg7 : Memref sig .tc .vmem S512x1024 .bf16) (harg7 : arg7.IsWhole)
    (T0 : S72.Idx → Elt F .i32) (T1 : S1.Idx → Elt F .i32) (hc : ¬renews T0 T1 i = 1#1) (h2 : ¬k0_cond2 i (count T1) = 1#1) (h3 : k0_cond3 i (count T1) = 1#1)
    (K : PUnit → sProp 𝕄) :
    iprop((tabE.view.loc (c : Thread nD τ) ↦{fullShare.right} T0) ∗ (tabN.view.loc (c : Thread nD τ) ↦{fullShare.right} T1)
        ∗ (∃ d, owns (c : Thread nD τ) arg7 fullShare d)
        ∗ (iprop((tabE.view.loc (c : Thread nD τ) ↦{fullShare.right} T0) ∗ (tabN.view.loc (c : Thread nD τ) ↦{fullShare.right} T1)
            ∗ owns (c : Thread nD τ) arg7 fullShare (k0_pay4 (F := F))) -∗ K ⟨⟩))
      ⊢ wp frame (wpE (defs₀ (F := F)) Variants.none c none) Set.univ
          (cc0__moe_up_kernel i tabE (Memref.isWhole_whole _) tabN (Memref.isWhole_whole _) arg4 harg4 arg5 harg5 arg6 harg6 arg7 harg7 keep (Memref.isWhole_whole _) keepB (Memref.isWhole_whole _)) K := by
  have hE : tabE.IsWhole := Memref.isWhole_whole _
  have hN : tabN.IsWhole := Memref.isWhole_whole _
  rw [cc0__moe_up_kernel_eq_skeleton]; unfold cc0__moe_up_kernel_skel
  unfold owns
  iintro ⟨HE, HN, ⟨%d7, %f7, -, H7⟩, Hk⟩
  sl_exec (disch := first | sl_exact hc | sl_exact h2 | sl_exact h3)
  sl_step
  iapply Hk
  isplitl [HE]; · iexact HE
  isplitl [HN]; · iexact HN
  iexists _; isplitr
  swap; · iexact H7
  ipureintro
  exact View.read_writes_full _ _ _ _ _

end Cert.UpIdeal.Hand
-- ==== Proof.UpDat.lean ====
module

public import proofs.«01_k».proof.Proof.UpBody

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

/-- The experts of the tiles and the number of tiles in use. -/
abbrev experts : S72.Idx → Elt F .i32 := a.1 0
abbrev counts : S1.Idx → Elt F .i32 := a.1 1

abbrev crd (t : Fin (cfgA a).N) : grid0.Coords := (cfgA a).grid.coords t

theorem crd_val : ∀ t : Fin grid0.N, (grid0.coords t 0).val = t.val / 72 ∧ (grid0.coords t 1).val = t.val % 72 := by decide +kernel

theorem crd0 (t : Fin (cfgA a).N) : (crd a t 0).val = t.val / 72 := (crd_val t).1
theorem crd1 (t : Fin (cfgA a).N) : (crd a t 1).val = t.val % 72 := (crd_val t).2

theorem points (t : Fin (cfgA a).N) : t.val < 504 := Nat.lt_of_lt_of_eq t.isLt (show grid0.N = 504 from N_0)

/-- A word of the experts' table where a point reads it. -/
theorem expert_eq (T : S72.Idx → Elt F .i32) (i : grid0.Coords) (k : Fin 72) (hk : k.val = (i 1).val) : expert T i = T (ix1 k) := by
  have h : ∀ i : grid0.Coords, k0_off1 i 0 = (i 1).val := by decide +kernel
  refine congrArg T (funext fun e => ?_)
  fin_cases e
  refine Fin.ext ?_
  show k0_off1 i 0 + _ = k.val
  rw [h i, hk]; rfl

theorem before_eq (T : S72.Idx → Elt F .i32) (i : grid0.Coords) (k : Fin 72) (hk : k.val = (i 1).val - 1) : before T i = T (ix1 k) := by
  have h : ∀ i : grid0.Coords, k0_off2 i 0 = (i 1).val - 1 := by decide +kernel
  refine congrArg T (funext fun e => ?_)
  fin_cases e
  refine Fin.ext ?_
  show k0_off2 i 0 + _ = k.val
  rw [h i, hk]; rfl

theorem count_eq (T : S1.Idx → Elt F .i32) : count T = T (ix1 0) := by
  refine congrArg T (funext fun e => ?_)
  fin_cases e; rfl

/-- The blocks of weights a point fetches: its tile's expert, its block of columns in each half. -/
theorem index1 (t : Fin (cfgA a).N) : ((cfgA a).win 1).index t = ![(expert (experts a) (crd a t)).toNat, 0, (crd a t 0).val] := by
  have h : ∀ i : grid0.Coords, (BitVec.ofNat 32 (i 0).val).toNat = (i 0).val := by decide +kernel
  show cc0_transform_1 k0_off1_inb numel1_S1 a.1 (crd a t) = _
  unfold cc0_transform_1
  dsimp only
  rw [h]
  rfl

theorem index2 (t : Fin (cfgA a).N) : ((cfgA a).win 2).index t = ![(expert (experts a) (crd a t)).toNat, 0, (crd a t 0).val + 7] := by
  have h : ∀ i : grid0.Coords, (Scalar.addi (BitVec.ofNat 32 (i 0).val) 7#32).toNat = (i 0).val + 7 := by decide +kernel
  show cc0_transform_2 k0_off1_inb numel1_S1 a.1 (crd a t) = _
  unfold cc0_transform_2
  dsimp only
  rw [h]
  rfl

theorem index3 (t : Fin (cfgA a).N) : ((cfgA a).win 3).index t = ![t.val % 72, t.val / 72] := by
  have h : ∀ t : Fin grid0.N, cc0_transform_3 (grid0.coords t) = ![t.val % 72, t.val / 72] := by decide +kernel
  exact h t

variable (m : (ℓ : Loc nD τ sig) → Buf (Elt F) ℓ) (ρ : Dev nD → PrngReg)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- Two points with the same block index fetch the same weights. -/
theorem iblk1_congr (c : Dev nD) (t t' : Fin (cfgA a).N) (h : ((cfgA a).win 1).index t = ((cfgA a).win 1).index t') :
    (iblk a m c 1 t : S1x2048x1024.Idx → Elt F .f32) = iblk a m c 1 t' := by
  funext y
  refine congrArg (m (((cfgA a).win 1).arr.view.loc (c : Thread nD τ))) (funext fun e => Fin.ext ?_)
  show ((cfgA a).win 1).index t e * _ + _ = ((cfgA a).win 1).index t' e * _ + _
  rw [h]; rfl

theorem iblk2_congr (c : Dev nD) (t t' : Fin (cfgA a).N) (h : ((cfgA a).win 2).index t = ((cfgA a).win 2).index t') :
    (iblk a m c 2 t : S1x2048x1024.Idx → Elt F .f32) = iblk a m c 2 t' := by
  funext y
  refine congrArg (m (((cfgA a).win 2).arr.view.loc (c : Thread nD τ))) (funext fun e => Fin.ext ?_)
  show ((cfgA a).win 2).index t e * _ + _ = ((cfgA a).win 2).index t' e * _ + _
  rw [h]; rfl

/-- The block of the result at point `t`. -/
def part (c : Dev nD) (t : Fin (cfgA a).N) : Vec F S512x1024 .bf16 :=
  if inUse (counts a) (crd a t) then k0_pay3 (iblk a m c 0 t) (k0_pay1 (iblk a m c 1 t)) (k0_pay2 (iblk a m c 2 t)) else k0_pay4

/-- The staging buffers at a point. -/
abbrev st0 (t : Fin (cfgA a).N) : Memref sig .tc .vmem S512x2048 .f32 := spec0_0.stage ((cfgA a).slots t (0 : Fin 4))
abbrev hst0 (t : Fin (cfgA a).N) : (st0 a t).IsWhole := hstage0_0 (((cfgA a).slots t (0 : Fin 4)).cast nbuf0_0)
abbrev st1 (t : Fin (cfgA a).N) : Memref sig .tc .vmem S1x2048x1024 .f32 := spec0_1.stage ((cfgA a).slots t (1 : Fin 4))
abbrev hst1 (t : Fin (cfgA a).N) : (st1 a t).IsWhole := hstage0_1 (((cfgA a).slots t (1 : Fin 4)).cast nbuf0_1)
abbrev st2 (t : Fin (cfgA a).N) : Memref sig .tc .vmem S1x2048x1024 .f32 := spec0_2.stage ((cfgA a).slots t (2 : Fin 4))
abbrev hst2 (t : Fin (cfgA a).N) : (st2 a t).IsWhole := hstage0_2 (((cfgA a).slots t (2 : Fin 4)).cast nbuf0_2)
abbrev st3 (t : Fin (cfgA a).N) : Memref sig .tc .vmem S512x1024 .bf16 := spec0_3.stage ((cfgA a).slots t (3 : Fin 4))
abbrev hst3 (t : Fin (cfgA a).N) : (st3 a t).IsWhole := hstage0_3 (((cfgA a).slots t (3 : Fin 4)).cast nbuf0_3)

/-- No point leaves the result's block unwritten. -/
theorem live (t : Fin (cfgA a).N) (w : Fin 4) : (cfgA a).idle w ((cfgA a).grid.coords t) = false := by
  match w with
  | 0 => rfl
  | 1 => rfl
  | 2 => rfl
  | 3 =>
    show (!(k0_cond2 (crd a t) (a.1.atD 1 ![0]) == 1#1) && !(k0_cond3 (crd a t) (a.1.atD 1 ![0]) == 1#1)) = false
    have h := cond3_iff (crd a t) (a.1.atD 1 ![0])
    by_cases h2 : k0_cond2 (crd a t) (a.1.atD 1 ![0]) = 1#1
    · rw [h2]; rfl
    · rw [h.mpr h2]; simp

/-! ## What is kept between points -/

/-- What the kept block is known to be before point `n`: if the point before worked on a tile in use, its weights, rounded. -/
def Known (c : Dev nD) (n : ℕ) (k l : Vec F S2048x1024 .bf16) : Prop :=
  ∀ (h : n - 1 < (cfgA a).N), n ≠ 0 → inUse (counts a) (crd a ⟨n - 1, h⟩) → k = k0_pay1 (iblk a m c 1 ⟨n - 1, h⟩) ∧ l = k0_pay2 (iblk a m c 2 ⟨n - 1, h⟩)

def Held (c : Dev nD) (n : ℕ) : sProp 𝕄 :=
  iprop((∃ k, ∃ l, ⌜Known a m c n k l⌝ ∗ owns (c : Thread nD τ) keep fullShare k ∗ owns (c : Thread nD τ) keepB fullShare l)
    ∗ (tabE.view.loc (c : Thread nD τ) ↦{fullShare.right} experts a) ∗ (tabN.view.loc (c : Thread nD τ) ↦{fullShare.right} counts a))

/-- The proof data of the pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => part a m c t
  Φ t := Held a m c t.val
  q w := Pipeline.shareOf spec0 w
  owed _ := 0

theorem after0 (c : Dev nD) (t : Fin (cfgA a).N) : (dats a m 0 c).after (0 : Fin 4) t = iblk a m c (0 : Fin 4) t := rfl
theorem after1 (c : Dev nD) (t : Fin (cfgA a).N) : (dats a m 0 c).after (1 : Fin 4) t = iblk a m c (1 : Fin 4) t := rfl
theorem after2 (c : Dev nD) (t : Fin (cfgA a).N) : (dats a m 0 c).after (2 : Fin 4) t = iblk a m c (2 : Fin 4) t := rfl
theorem after3 (c : Dev nD) (t : Fin (cfgA a).N) : (dats a m 0 c).after (3 : Fin 4) t = part a m c t := rfl

theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after2]; unfold Dat.blockOf iblk; rfl) t d).trans
    (by unfold Dat.fetched Dat.blockOf iblk; rfl)

end Cert.UpIdeal.Hand
-- ==== Proof.UpSame.lean ====
module

public import proofs.«01_k».proof.Proof.UpDat

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

theorem ne_word (x y : BitVec 32) (h : x ≠ y) : Scalar.cmpi .ne x y = 1#1 := by
  show BitVec.ofBool (x != y) = 1#1
  rw [bne_iff_ne.mpr h]; rfl

theorem slt_word (x y : BitVec 32) : Scalar.cmpi .slt x y = 1#1 ↔ x.toInt < y.toInt := by
  show BitVec.ofBool (x.slt y) = 1#1 ↔ _
  rw [← BitVec.slt_iff_toInt_lt]
  cases x.slt y <;> decide

/-- A number below two to the thirty-one, as a word, read back. -/
theorem toInt_word (q : ℕ) (h : q < 2 ^ 31) : (BitVec.ofNat 32 q).toInt = (q : ℤ) := by
  rw [BitVec.toInt_eq_toNat_of_lt (by rw [BitVec.toNat_ofNat]; omega), BitVec.toNat_ofNat]; omega

/-- At a tile in use that keeps nothing new, the kept block is that of the point's own weights. -/
theorem known_same (c : Dev nD) (t : Fin (cfgA a).N) (k l : Vec F S2048x1024 .bf16) (hk : Known a m c t.val k l)
    (hr : ¬renews (experts a) (counts a) (crd a t) = 1#1) (hu : inUse (counts a) (crd a t)) : k = k0_pay1 (iblk a m c 1 t) ∧ l = k0_pay2 (iblk a m c 2 t) := by
  obtain ⟨h1, h2⟩ := same_of_not_renews _ _ _ hr hu
  have hlt := points a t
  have hm : t.val % 72 ≠ 0 := fun e => h1 (by rw [crd1 a t, e]; rfl)
  have hp : t.val - 1 < (cfgA a).N := Nat.lt_of_le_of_lt (Nat.sub_le _ _) t.isLt
  have hprev : inUse (counts a) (crd a ⟨t.val - 1, hp⟩) := by
    have z := (cond2_iff _ _).mp hu
    refine (cond2_iff _ _).mpr ?_
    rw [crd1] at z ⊢
    have hq : (t.val - 1) % 72 = t.val % 72 - 1 := by omega
    show Scalar.cmpi .slt (BitVec.ofNat 32 ((t.val - 1) % 72)) _ = 1#1
    rw [hq]
    have hb : t.val % 72 < 72 := Nat.mod_lt _ (by decide)
    revert z
    generalize t.val % 72 = q at *
    generalize count (counts a) = v
    intro z
    rw [slt_word, toInt_word _ (by omega)] at *
    omega
  obtain ⟨hk1, hk2⟩ := hk hp (fun e => hm (by rw [e])) hprev
  have e0 : (crd a ⟨t.val - 1, hp⟩ 0).val = (crd a t 0).val := by
    rw [crd0, crd0]; show (t.val - 1) / 72 = t.val / 72; omega
  have ee : expert (experts a) (crd a ⟨t.val - 1, hp⟩) = expert (experts a) (crd a t) := by
    have hbt : before (experts a) (crd a t) = expert (experts a) (crd a t) := by
      by_contra hn
      exact h2 (ne_word _ _ fun e => hn e.symm)
    rw [← hbt, expert_eq (experts a) (crd a ⟨t.val - 1, hp⟩) ⟨t.val % 72 - 1, by omega⟩ (by rw [crd1]; show t.val % 72 - 1 = (t.val - 1) % 72; omega),
      before_eq (experts a) (crd a t) ⟨t.val % 72 - 1, by omega⟩ (by rw [crd1])]
  rw [hk1, hk2]
  constructor
  · refine congrArg k0_pay1 (iblk1_congr a m c _ t ?_)
    rw [index1, index1, e0, ee]
  · refine congrArg k0_pay2 (iblk2_congr a m c _ t ?_)
    rw [index2, index2, e0, ee]

end Cert.UpIdeal.Hand
-- ==== Proof.UpOk.lean ====
module

public import proofs.«01_k».proof.Proof.UpSame

@[expose] public section

set_option maxRecDepth 16384
set_option synthInstance.maxSize 4096

noncomputable section

open Idealize.ShloMosaic Idealize.ShloMosaic.TcCoe Idealize.SL.Sem

namespace Cert.UpIdeal.Hand

open Cert.UpIdeal Cert.UpIdeal.Gen

variable {F : FTy → Type} [FloatOps F]

/-- The row block a point fetches: its tile, or the last tile in use if that comes earlier. -/
theorem minsi_word (q : ℕ) (v : BitVec 32) (hq : q < 72) (h1 : 1 ≤ v.toNat) (h72 : v.toNat ≤ 72) :
    (Scalar.minsi (BitVec.ofNat 32 q) (Scalar.subi v 1#32)).toNat = min q (v.toNat - 1) := by
  have hs : (Scalar.subi v 1#32 : BitVec 32).toNat = v.toNat - 1 := by
    show (v - 1#32).toNat = _
    rw [BitVec.toNat_sub]
    simp only [BitVec.toNat_ofNat]
    omega
  have hs' : (Scalar.subi v 1#32 : BitVec 32) = BitVec.ofNat 32 (v.toNat - 1) := by
    apply BitVec.eq_of_toNat_eq
    rw [hs, BitVec.toNat_ofNat]; omega
  rw [hs']
  generalize hn : v.toNat - 1 = n
  have hlt : n < 72 := by omega
  show (if (BitVec.ofNat 32 q).slt (BitVec.ofNat 32 n) then BitVec.ofNat 32 q else BitVec.ofNat 32 n).toNat = min q n
  have hc : (BitVec.ofNat 32 q).slt (BitVec.ofNat 32 n) = true ↔ q < n := by
    rw [BitVec.slt_iff_toInt_lt, toInt_word _ (by omega), toInt_word _ (by omega)]; omega
  split
  · rename_i h
    rw [hc] at h
    rw [BitVec.toNat_ofNat]; omega
  · rename_i h
    rw [hc] at h
    rw [BitVec.toNat_ofNat]; omega

/-- Tables in range keep every block inside its array. -/
theorem ok_of_range (pf : pre0.Contents (Elt F)) (hE : ∀ i : S72.Idx, (pf 0 i : BitVec 32).toNat < 8)
    (hN : ∀ i : S1.Idx, 1 ≤ (pf 1 i : BitVec 32).toNat ∧ (pf 1 i : BitVec 32).toNat ≤ 72) : ok0 pf := by
  have hi : ∀ i : grid0.Coords, (i 0).val < 7 ∧ (i 1).val < 72 := fun i => ⟨(i 0).isLt, (i 1).isLt⟩
  have hs : ∀ i : grid0.Coords, (Scalar.addi (BitVec.ofNat 32 (i 0).val) 7#32).toNat = (i 0).val + 7 := by decide +kernel
  refine ⟨fun i => ?_, fun i => ?_, fun i => ?_⟩
  · have h : ∀ a, (cc0_transform_0 inb_S1_S1_0 numel1_S1 pf i a + 1) * S512x2048.size a ≤ S36864x2048.size a := by
      intro a
      match a with
      | ⟨0, _⟩ =>
        have e : cc0_transform_0 inb_S1_S1_0 numel1_S1 pf i 0 = min (i 1).val ((pf.at 1 (Rect.unit (s := S1) ![0] S1.size inb_S1_S1_0) numel1_S1 : BitVec 32).toNat - 1) :=
          minsi_word _ _ (hi i).2 (hN _).1 (hN _).2
        show (cc0_transform_0 inb_S1_S1_0 numel1_S1 pf i 0 + 1) * 512 ≤ 36864
        have := (hi i).2
        rw [e]; omega
      | ⟨1, _⟩ => show (0 + 1) * 2048 ≤ 2048; omega
    exact ⟨h, .inl rfl⟩
  · have h : ∀ a, (cc0_transform_1 k0_off1_inb numel1_S1 pf i a + 1) * S1x2048x1024.size a ≤ S8x2048x14336.size a := by
      intro a
      match a with
      | ⟨0, _⟩ =>
        show ((pf.at 0 (Rect.unit (s := S72) (k0_off1 i) S1.size (k0_off1_inb i)) numel1_S1 : BitVec 32).toNat + 1) * 1 ≤ 8
        have : (expert (pf 0) i : BitVec 32).toNat < 8 := hE _
        exact (Nat.mul_one _).le.trans this
      | ⟨1, _⟩ => show (0 + 1) * 2048 ≤ 2048; omega
      | ⟨2, _⟩ =>
        show ((BitVec.ofNat 32 (i 0).val).toNat + 1) * 1024 ≤ 14336
        have := (hi i).1
        rw [BitVec.toNat_ofNat]; omega
    exact ⟨h, .inl rfl⟩
  · have h : ∀ a, (cc0_transform_2 k0_off1_inb numel1_S1 pf i a + 1) * S1x2048x1024.size a ≤ S8x2048x14336.size a := by
      intro a
      match a with
      | ⟨0, _⟩ =>
        show ((pf.at 0 (Rect.unit (s := S72) (k0_off1 i) S1.size (k0_off1_inb i)) numel1_S1 : BitVec 32).toNat + 1) * 1 ≤ 8
        have : (expert (pf 0) i : BitVec 32).toNat < 8 := hE _
        exact (Nat.mul_one _).le.trans this
      | ⟨1, _⟩ => show (0 + 1) * 2048 ≤ 2048; omega
      | ⟨2, _⟩ =>
        show ((Scalar.addi (BitVec.ofNat 32 (i 0).val) 7#32).toNat + 1) * 1024 ≤ 14336
        have := (hi i).1
        rw [show (Scalar.addi (BitVec.ofNat 32 (i 0).val) 7#32).toNat = (i 0).val + 7 from hs i]; omega
    exact ⟨h, .inl rfl⟩

end Cert.UpIdeal.Hand
-- ==== Proof.UpStep.lean ====
module

public import proofs.«01_k».proof.Proof.UpBody

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

/-- The body at a point, whatever the memrefs: each of its three paths in one statement. -/
theorem step (c : Dev nD) (i : grid0.Coords) (arg4 : Memref sig .tc .vmem S512x2048 .f32) (harg4 : arg4.IsWhole)
    (arg5 : Memref sig .tc .vmem S1x2048x1024 .f32) (harg5 : arg5.IsWhole) (arg6 : Memref sig .tc .vmem S1x2048x1024 .f32) (harg6 : arg6.IsWhole)
    (arg7 : Memref sig .tc .vmem S512x1024 .bf16) (harg7 : arg7.IsWhole)
    (T0 : S72.Idx → Elt F .i32) (T1 : S1.Idx → Elt F .i32) (x : Vec F S512x2048 .f32) (w v : Vec F S1x2048x1024 .f32) (out : Vec F S512x1024 .bf16)
    (P P' : Vec F S2048x1024 .bf16 → Vec F S2048x1024 .bf16 → Prop)
    (hsame : ¬renews T0 T1 i = 1#1 → inUse T1 i → ∀ k l, P k l → k = k0_pay1 w ∧ l = k0_pay2 v)
    (hout : inUse T1 i → out = k0_pay3 x (k0_pay1 w) (k0_pay2 v)) (hzero : ¬inUse T1 i → out = k0_pay4)
    (hkept : inUse T1 i → P' (k0_pay1 w) (k0_pay2 v)) (hany : ¬inUse T1 i → ∀ k l, P' k l) (K : PUnit → sProp 𝕄) :
    iprop(((∃ k, ∃ l, ⌜P k l⌝ ∗ owns (c : Thread nD τ) keep fullShare k ∗ owns (c : Thread nD τ) keepB fullShare l)
          ∗ (tabE.view.loc (c : Thread nD τ) ↦{fullShare.right} T0) ∗ (tabN.view.loc (c : Thread nD τ) ↦{fullShare.right} T1))
        ∗ owns (c : Thread nD τ) arg4 fullShare x ∗ owns (c : Thread nD τ) arg5 fullShare w ∗ owns (c : Thread nD τ) arg6 fullShare v
        ∗ (∃ d, owns (c : Thread nD τ) arg7 fullShare d)
        ∗ (iprop(((∃ k, ∃ l, ⌜P' k l⌝ ∗ owns (c : Thread nD τ) keep fullShare k ∗ owns (c : Thread nD τ) keepB fullShare l)
              ∗ (tabE.view.loc (c : Thread nD τ) ↦{fullShare.right} T0) ∗ (tabN.view.loc (c : Thread nD τ) ↦{fullShare.right} T1))
            ∗ owns (c : Thread nD τ) arg4 fullShare x ∗ owns (c : Thread nD τ) arg5 fullShare w ∗ owns (c : Thread nD τ) arg6 fullShare v
            ∗ owns (c : Thread nD τ) arg7 fullShare out) -∗ K ⟨⟩))
      ⊢ wp frame (wpE (defs₀ (F := F)) Variants.none c none) Set.univ
          (cc0__moe_up_kernel i tabE (Memref.isWhole_whole _) tabN (Memref.isWhole_whole _) arg4 harg4 arg5 harg5 arg6 harg6 arg7 harg7 keep (Memref.isWhole_whole _) keepB (Memref.isWhole_whole _)) K := by
  by_cases hu : inUse T1 i
  · have h3 : ¬k0_cond3 i (count T1) = 1#1 := fun h => (cond3_iff _ _).mp h hu
    rw [hout hu]
    by_cases hr : renews T0 T1 i = 1#1
    · iintro ⟨⟨⟨%k, %l, -, HS, HT⟩, HE, HN⟩, H0, H1, H2, H3, Hk⟩
      iapply (run_new c i arg4 harg4 arg5 harg5 arg6 harg6 arg7 harg7 T0 T1 hr hu h3 x w v K)
      isplitl [H0]; · iexact H0
      isplitl [H1]; · iexact H1
      isplitl [H2]; · iexact H2
      isplitl [HE]; · iexact HE
      isplitl [HN]; · iexact HN
      isplitl [H3]; · iexact H3
      isplitl [HS]; · iexists _; iexact HS
      isplitl [HT]; · iexists _; iexact HT
      iintro ⟨H0, H1, H2, HE, HN, H3, HS, HT⟩
      iapply Hk
      isplitl [HS HT HE HN]
      · isplitl [HS HT]
        · iexists _, _; isplitr; swap
          · isplitl [HS]; · iexact HS
            iexact HT
          · ipureintro; exact hkept hu
        isplitl [HE]; · iexact HE
        iexact HN
      isplitl [H0]; · iexact H0
      isplitl [H1]; · iexact H1
      isplitl [H2]; · iexact H2
      iexact H3
    · iintro ⟨⟨⟨%k, %l, %hk, HS, HT⟩, HE, HN⟩, H0, H1, H2, H3, Hk⟩
      obtain ⟨rfl, rfl⟩ := hsame hr hu k l hk
      iapply (run_same c i arg4 harg4 arg5 harg5 arg6 harg6 arg7 harg7 T0 T1 hr hu h3 x (k0_pay1 w) (k0_pay2 v) K)
      isplitl [H0]; · iexact H0
      isplitl [HE]; · iexact HE
      isplitl [HN]; · iexact HN
      isplitl [H3]; · iexact H3
      isplitl [HS]; · iexact HS
      isplitl [HT]; · iexact HT
      iintro ⟨H0, HE, HN, H3, HS, HT⟩
      iapply Hk
      isplitl [HS HT HE HN]
      · isplitl [HS HT]
        · iexists _, _; isplitr; swap
          · isplitl [HS]; · iexact HS
            iexact HT
          · ipureintro; exact hkept hu
        isplitl [HE]; · iexact HE
        iexact HN
      isplitl [H0]; · iexact H0
      isplitl [H1]; · iexact H1
      isplitl [H2]; · iexact H2
      iexact H3
  · have h3 : k0_cond3 i (count T1) = 1#1 := (cond3_iff _ _).mpr hu
    have hr : ¬renews T0 T1 i = 1#1 := fun h => hu (inUse_of_renews _ _ _ h)
    rw [hzero hu]
    iintro ⟨⟨⟨%k, %l, -, HS, HT⟩, HE, HN⟩, H0, H1, H2, H3, Hk⟩
    iapply (run_idle c i arg4 harg4 arg5 harg5 arg6 harg6 arg7 harg7 T0 T1 hr hu h3 K)
    isplitl [HE]; · iexact HE
    isplitl [HN]; · iexact HN
    isplitl [H3]; · iexact H3
    iintro ⟨HE, HN, H3⟩
    iapply Hk
    isplitl [HS HT HE HN]
    · isplitl [HS HT]
      · iexists _, _; isplitr; swap
        · isplitl [HS]; · iexact HS
          iexact HT
        · ipureintro; exact hany hu k l
      isplitl [HE]; · iexact HE
      iexact HN
    isplitl [H0]; · iexact H0
    isplitl [H1]; · iexact H1
    isplitl [H2]; · iexact H2
    iexact H3

end Cert.UpIdeal.Hand
-- ==== Proof.UpPoint.lean ====
module

public import proofs.«01_k».proof.Proof.UpSame
public import proofs.«01_k».proof.Proof.UpStep

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-! ## The body at a point -/

abbrev bodyAt0 (t : Fin (cfgA a).N) : Prog (TpuEff nD τ sig (Elt F) Λ₀ .tc) PUnit :=
  cc0__moe_up_kernel (crd a t) tabE (Memref.isWhole_whole _) tabN (Memref.isWhole_whole _) (st0 a t) (hst0 a t) (st1 a t) (hst1 a t) (st2 a t) (hst2 a t) (st3 a t) (hst3 a t) keep (Memref.isWhole_whole _) keepB (Memref.isWhole_whole _)

def bodyPre (c : Dev nD) (t : Fin (cfgA a).N) : sProp 𝕄 :=
  iprop((dats a m 0 c).Φ t.castSucc ∗ (dats a m 0 c).owesAt () t.castSucc
    ∗ (∃ d, owns (c : Thread nD τ) (st0 a t) fullShare ((dats a m 0 c).before (0 : Fin 4) t d))
    ∗ (∃ d, owns (c : Thread nD τ) (st1 a t) fullShare ((dats a m 0 c).before (1 : Fin 4) t d))
    ∗ (∃ d, owns (c : Thread nD τ) (st2 a t) fullShare ((dats a m 0 c).before (2 : Fin 4) t d))
    ∗ (∃ d, owns (c : Thread nD τ) (st3 a t) fullShare ((dats a m 0 c).before (3 : Fin 4) t d)))

def bodyPost (c : Dev nD) (t : Fin (cfgA a).N) : sProp 𝕄 :=
  iprop((dats a m 0 c).Φ t.succ ∗ (dats a m 0 c).owesAt () t.succ
    ∗ (dats a m 0 c).leavesExact (0 : Fin 4) t ∗ (dats a m 0 c).leavesExact (1 : Fin 4) t ∗ (dats a m 0 c).leavesExact (2 : Fin 4) t ∗ (dats a m 0 c).leavesExact (3 : Fin 4) t)

theorem leaves (c : Dev nD) (t : Fin (cfgA a).N) (w : Fin 4) : (dats a m 0 c).leavesExact w t
    = owns (c : Thread nD τ) (((cfgA a).win w).stage ((cfgA a).slots t w)) fullShare ((dats a m 0 c).after w t) := by
  unfold Dat.leavesExact; rw [live a t w]

/-- The body at a point, from the resources as the pipeline states them. -/
theorem sound_step (c : Dev nD) (t : Fin (cfgA a).N) (R : sProp 𝕄) :
    iprop(Held a m c t.val ∗ R
        ∗ owns (c : Thread nD τ) (st0 a t) fullShare (iblk a m c 0 t) ∗ owns (c : Thread nD τ) (st1 a t) fullShare (iblk a m c 1 t) ∗ owns (c : Thread nD τ) (st2 a t) fullShare (iblk a m c 2 t)
        ∗ (∃ d, owns (c : Thread nD τ) (st3 a t) fullShare d))
      ⊢ wp frame (wpE (defs₀ (F := F)) Variants.none c none) Set.univ (bodyAt0 a t) (fun _ => iprop(Held a m c (t.val + 1) ∗ R
        ∗ owns (c : Thread nD τ) (st0 a t) fullShare (iblk a m c 0 t) ∗ owns (c : Thread nD τ) (st1 a t) fullShare (iblk a m c 1 t) ∗ owns (c : Thread nD τ) (st2 a t) fullShare (iblk a m c 2 t)
        ∗ owns (c : Thread nD τ) (st3 a t) fullShare (part a m c t))) := by
  unfold Held
  iintro ⟨HH, Ho, H0, H1, H2, H3⟩
  iapply (step c (crd a t) (st0 a t) (hst0 a t) (st1 a t) (hst1 a t) (st2 a t) (hst2 a t) (st3 a t) (hst3 a t) (experts a) (counts a)
    (iblk a m c 0 t) (iblk a m c 1 t) (iblk a m c 2 t) (part a m c t) (Known a m c t.val) (Known a m c (t.val + 1))
    (fun hr hu k l hk => known_same a m c t k l hk hr hu) (fun hu => if_pos hu) (fun hu => if_neg hu)
    (fun _ _ _ _ => ⟨rfl, rfl⟩) (fun hu _ _ _ _ h => absurd h hu) _)
  isplitl [HH]; · iexact HH
  isplitl [H0]; · iexact H0
  isplitl [H1]; · iexact H1
  isplitl [H2]; · iexact H2
  isplitl [H3]; · iexact H3
  iintro ⟨HH, H0, H1, H2, H3⟩
  isplitl [HH]; · iexact HH
  isplitl [Ho]; · iexact Ho
  isplitl [H0]; · iexact H0
  isplitl [H1]; · iexact H1
  isplitl [H2]; · iexact H2
  iexact H3

theorem held_at (c : Dev nD) (n : Fin ((cfgA a).N + 1)) : (dats a m 0 c).Φ n = Held a m c n.val := rfl

theorem owes_at (c : Dev nD) (n n' : Fin ((cfgA a).N + 1)) : (dats a m 0 c).owesAt () n = (dats a m 0 c).owesAt () n' := rfl

theorem pre_of (c : Dev nD) (t : Fin (cfgA a).N) : bodyPre a m c t ⊢ iprop(Held a m c t.val ∗ (dats a m 0 c).owesAt () t.castSucc
        ∗ owns (c : Thread nD τ) (st0 a t) fullShare (iblk a m c 0 t) ∗ owns (c : Thread nD τ) (st1 a t) fullShare (iblk a m c 1 t) ∗ owns (c : Thread nD τ) (st2 a t) fullShare (iblk a m c 2 t)
        ∗ (∃ d, owns (c : Thread nD τ) (st3 a t) fullShare d)) := by
  unfold bodyPre
  simp only [before0, before1, before2]
  rw [held_at, Fin.val_castSucc]
  iintro ⟨HH, Ho, ⟨%d0, H0⟩, ⟨%d1, H1⟩, ⟨%d2, H2⟩, ⟨%d3, H3⟩⟩
  isplitl [HH]; · iexact HH
  isplitl [Ho]; · iexact Ho
  isplitl [H0]; · iexact H0
  isplitl [H1]; · iexact H1
  isplitl [H2]; · iexact H2
  iexists _; iexact H3

theorem post_eq (c : Dev nD) (t : Fin (cfgA a).N) : bodyPost a m c t = iprop(Held a m c (t.val + 1) ∗ (dats a m 0 c).owesAt () t.castSucc
        ∗ owns (c : Thread nD τ) (st0 a t) fullShare (iblk a m c 0 t) ∗ owns (c : Thread nD τ) (st1 a t) fullShare (iblk a m c 1 t) ∗ owns (c : Thread nD τ) (st2 a t) fullShare (iblk a m c 2 t)
        ∗ owns (c : Thread nD τ) (st3 a t) fullShare (part a m c t)) := by
  unfold bodyPost
  rw [leaves, leaves, leaves, leaves, after0, after1, after2, after3, held_at, Fin.val_succ, owes_at a m c t.succ t.castSucc]

theorem sound_body (c : Dev nD) (t : Fin (cfgA a).N) :
    bodyPre a m c t ⊢ wp frame (wpE (defs₀ (F := F)) Variants.none c none) Set.univ (bodyAt0 a t) (fun _ => bodyPost a m c t) := by
  rw [post_eq]
  exact (pre_of a m c t).trans (sound_step a m c t _)

theorem row_eq (t : Fin (cfgA a).N) : defs₀ (F := F) .tc (cfgA a).body ((cfgA a).bodyArgs t ((cfgA a).slots t)) = bodyAt0 a t := by
  unfold defs₀; rw [Defs.onTc_tc]

theorem body_obligation (c : Dev nD) : BodyObligation (dats (F := F) a m 0 c) (defs₀ (F := F)) Variants.none () Set.univ := fun t => by
  rw [bigSep_W0, bigSep_W0, row_eq]
  exact triple_restated (sound_body a m c t) rfl .rfl fun _ => .rfl

end Cert.UpIdeal.Hand
-- ==== Proof.UpRun.lean ====
module

public import proofs.«01_k».proof.Proof.UpPoint

@[expose] public section

set_option maxRecDepth 16384
set_option synthInstance.maxSize 4096

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Hand

open Cert.UpIdeal Cert.UpIdeal.Gen

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-! ## The launch -/

abbrev EP : Emb (UR sig nD τ) 𝕄 := emb₁

def u₀ : UR sig nD τ :=
  initOf (Pipeline.cells (pcs a) ((launch₀0 (F := F)).cellOf_inj fun _ => a)) (Pipeline.launchToks (pcs a) ((launch₀0 (F := F)).cellOf_inj fun _ => a))

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Held a m c 0 from rfl]
  unfold Held
  simp only [owns_whole]
  iintro ⟨-, ⟨HE, HN⟩, ⟨%k, HS⟩, ⟨%l, HT⟩⟩
  isplitl [HS HT]
  · iexists k, l; isplitr; swap
    · isplitl [HS]; · iexact HS
      iexact HT
    · ipureintro; exact fun _ h => absurd rfl h
  isplitl [HE]; · iexact HE
  iexact HN

theorem held_exit (c : Dev nD) : (dats a m 0 c).Φ (Fin.last (cfgA a).N) ⊢ iprop(BI.emp ∗ Pipeline.scopedRest spec0 c) := by
  rw [scopedRest0_eq, show (dats a m 0 c).Φ (Fin.last (cfgA a).N) = Held a m c (cfgA a).N from rfl]
  unfold Held
  simp only [owns_whole]
  iintro ⟨⟨%k, %l, -, HS, HT⟩, -, -⟩
  isplitr; · iempintro
  isplitl [HS]; · iexists k; iexact HS
  iexists l; iexact HT

/-- What memory holds at the end: every array as computed, every table as it was. -/
def Ends : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- Launched with admissible tables, the program terminates with the arrays as computed and every counter at zero. -/
theorem run_main (hpf : ∀ (c : Dev nD) j, m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch₀0 (F := F)).cellOf_inj fun _ => a) (0 : Fin 1)
    winFacts₀0 preFacts0 EP defs₀ Variants.none m ρ main
    (hbody := fun c => (body_obligation a m c).loose) (hne := (launch₀0 (F := F)).block_pos)
    (harr := (launch₀0 (F := F)).arr_whole) (hstage := (launch₀0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m 0 c).arrays_split_shared sharedIn0 arr_whole0 (fun _ _ => rfl) _ _ fun _ => rfl)
    (hpf := hpf)
    (X := fun _ => iprop(emp)) (Y := fun _ => iprop(emp)) (Z := fun _ => iprop(emp))
    (hX := fun c => by rw [unscopedRestP0_eq]; iintro -; isplitr <;> iempintro)
    (hin := held_intro a m)
    (hout := held_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.UpIdeal.Hand
-- ==== Proof.UpFinal.lean ====
module

public import proofs.«01_k».proof.Proof.UpOk
public import proofs.«01_k».proof.Proof.UpRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpIdeal.Tiles

open Cert.UpIdeal Cert.UpIdeal.Gen Cert.UpIdeal.Hand

/-- The tile of a row, and the expert a word names. -/
def tileOf (r : Fin 36864) : Fin 72 := ⟨r.val / 512, by omega⟩
def named (v : BitVec 32) : Fin 8 := ⟨v.toNat % 8, Nat.mod_lt _ (by decide)⟩

/-- The gate: `a` times its logistic, times `b`. -/
def gate (a b : EReal) : EReal := a * Ideal.div 1 (1 + Ideal.exp (-a)) * b

theorem one_word : Ideal.ofBits .f32 0x3F800000#32 = 1 := by
  have h : ((8388608 : ℝ) : EReal) * (((2 ^ 23 : ℝ)⁻¹ : ℝ) : EReal) = 1 := by
    rw [← EReal.coe_mul]
    norm_num
  simpa [Ideal.ofBits, Ideal.ieee] using h

/-- Row `r` against column `f` of its tile's expert. -/
def dotted (x : FVec Ideal S36864x2048 .f32) (te : IVec S72 32) (w : FVec Ideal S8x2048x14336 .f32) (r : Fin 36864) (f : Fin 14336) : EReal :=
  ∑ p : Fin 2048, x (ix2 r p) * w (ix3 (named (te (ix1 (tileOf r)))) p f)

/-- The result at row `r`, column `k`: the row's products with column `k` of each half, gated, if the tile is in use, 0 otherwise. -/
def result (x : FVec Ideal S36864x2048 .f32) (te : IVec S72 32) (nt : IVec S1 32) (w : FVec Ideal S8x2048x14336 .f32) (r : Fin 36864) (k : Fin 7168) : EReal :=
  if r.val / 512 < (nt (ix1 0)).toNat then gate (dotted x te w r ⟨k.val, by omega⟩) (dotted x te w r ⟨7168 + k.val, by omega⟩) else 0

theorem pay3_at (x : Vec Ideal S512x2048 .f32) (w v : Vec Ideal S1x2048x1024 .f32) (r : Fin 512) (k : Fin 1024) :
    k0_pay3 (F := Ideal) x (k0_pay1 w) (k0_pay2 v) (ix2 r k)
      = gate (∑ p : Fin 2048, x (ix2 r p) * w (ix3 0 p k)) (∑ p : Fin 2048, x (ix2 r p) * v (ix3 0 p k)) := by
  simp only [gate, ← one_word]
  pointwise [k0_pay3, k0_pay1, k0_pay2]
  simp only [zero_sub]

theorem pay4_at (r : Fin 512) (k : Fin 1024) : k0_pay4 (F := Ideal) (ix2 r k) = 0 := by
  pointwise [k0_pay4]

/-- Below the number of tiles in use, as words and as numbers. -/
theorem slt_count (q : ℕ) (v : BitVec 32) (hq : q < 72) (hv : v.toNat ≤ 72) : Scalar.cmpi .slt (BitVec.ofNat 32 q) v = 1#1 ↔ q < v.toNat := by
  rw [slt_word, toInt_word _ (by omega), BitVec.toInt_eq_toNat_of_lt (by omega)]
  omega

variable (a : (pcfg0 (F := Ideal)).Adm)
variable (hE : ∀ i : S72.Idx, (experts a i : BitVec 32).toNat < 8)
variable (hN : ∀ i : S1.Idx, 1 ≤ (counts a i : BitVec 32).toNat ∧ (counts a i : BitVec 32).toNat ≤ 72)
variable (m : (ℓ : Loc nD τ sig) → Buf (Elt Ideal) ℓ) (c : Dev nD)

/-- The windows' block indices at a point. -/
def place0 (t : Fin (cfgA a).N) : Fin 2 → ℕ := ((cfgA a).win 0).index t
def place1 (t : Fin (cfgA a).N) : Fin 3 → ℕ := ((cfgA a).win 1).index t
def place2 (t : Fin (cfgA a).N) : Fin 3 → ℕ := ((cfgA a).win 2).index t
def place3 (t : Fin (cfgA a).N) : Fin 2 → ℕ := ((cfgA a).win 3).index t

include hN in
theorem inUse_iff (t : Fin (cfgA a).N) : inUse (counts a) (crd a t) ↔ t.val % 72 < (counts a (ix1 0) : BitVec 32).toNat := by
  refine (cond2_iff _ _).trans ?_
  rw [crd1, count_eq]
  exact slt_count _ _ (Nat.mod_lt _ (by decide)) (hN _).2

include hN in
theorem read_x (t : Fin (cfgA a).N) (hu : t.val % 72 < (counts a (ix1 0) : BitVec 32).toNat) (r : Fin 512) (p : Fin 2048) (R : Fin 36864)
    (hR : R.val = t.val % 72 * 512 + r.val) : (iblk a m c 0 t : Vec Ideal S512x2048 .f32) (ix2 r p) = m ((c : Thread nD τ).loc main_arg0) (ix2 R p) := by
  have e0 : place0 a t 0 = t.val % 72 := by
    have h := minsi_word (t.val % 72) (counts a (ix1 0)) (Nat.mod_lt _ (by decide)) (hN _).1 (hN _).2
    refine Eq.trans ?_ (h.trans (by omega))
    rw [← crd1 a t, ← count_eq (counts a)]
    rfl
  have e1 : place0 a t 1 = 0 := rfl
  refine congrArg (m ((c : Thread nD τ).loc main_arg0)) (funext fun e => Fin.ext ?_)
  match e with
  | ⟨0, _⟩ =>
    show place0 a t 0 * 512 + 1 * r.val = R.val
    rw [e0]; omega
  | ⟨1, _⟩ =>
    show place0 a t 1 * 2048 + 1 * p.val = p.val
    rw [e1]; omega

include hE in
theorem read_w (t : Fin (cfgA a).N) (p : Fin 2048) (q : Fin 1024) (T : Fin 72) (K : Fin 14336) (hT : T.val = t.val % 72)
    (hK : K.val = t.val / 72 * 1024 + q.val) :
    (iblk a m c 1 t : Vec Ideal S1x2048x1024 .f32) (ix3 0 p q) = m ((c : Thread nD τ).loc main_arg3) (ix3 (named (experts a (ix1 T))) p K) := by
  have e : place1 a t = _ := index1 a t
  rw [expert_eq (experts a) (crd a t) T (by rw [crd1]; exact hT), crd0] at e
  refine congrArg (m ((c : Thread nD τ).loc main_arg3)) (funext fun x => Fin.ext ?_)
  match x with
  | ⟨0, _⟩ =>
    show place1 a t 0 * 1 + 1 * 0 = (experts a (ix1 T) : BitVec 32).toNat % 8
    rw [e, Nat.mod_eq_of_lt (hE _)]
    show (experts a (ix1 T) : BitVec 32).toNat * 1 + 1 * 0 = _
    omega
  | ⟨1, _⟩ =>
    show place1 a t 1 * 2048 + 1 * p.val = p.val
    rw [e]; show 0 * 2048 + 1 * p.val = p.val; omega
  | ⟨2, _⟩ =>
    show place1 a t 2 * 1024 + 1 * q.val = K.val
    rw [e]; show t.val / 72 * 1024 + 1 * q.val = K.val; omega

include hE in
theorem read_v (t : Fin (cfgA a).N) (p : Fin 2048) (q : Fin 1024) (T : Fin 72) (K : Fin 14336) (hT : T.val = t.val % 72)
    (hK : K.val = (t.val / 72 + 7) * 1024 + q.val) :
    (iblk a m c 2 t : Vec Ideal S1x2048x1024 .f32) (ix3 0 p q) = m ((c : Thread nD τ).loc main_arg3) (ix3 (named (experts a (ix1 T))) p K) := by
  have e : place2 a t = _ := index2 a t
  rw [expert_eq (experts a) (crd a t) T (by rw [crd1]; exact hT), crd0] at e
  refine congrArg (m ((c : Thread nD τ).loc main_arg3)) (funext fun x => Fin.ext ?_)
  match x with
  | ⟨0, _⟩ =>
    show place2 a t 0 * 1 + 1 * 0 = (experts a (ix1 T) : BitVec 32).toNat % 8
    rw [e, Nat.mod_eq_of_lt (hE _)]
    show (experts a (ix1 T) : BitVec 32).toNat * 1 + 1 * 0 = _
    omega
  | ⟨1, _⟩ =>
    show place2 a t 1 * 2048 + 1 * p.val = p.val
    rw [e]; show 0 * 2048 + 1 * p.val = p.val; omega
  | ⟨2, _⟩ =>
    show place2 a t 2 * 1024 + 1 * q.val = K.val
    rw [e]; show (t.val / 72 + 7) * 1024 + 1 * q.val = K.val; omega

include hE hN in
theorem part_at (t : Fin (cfgA a).N) (r : Fin 512) (k : Fin 1024) (R : Fin 36864) (K : Fin 7168) (hR : R.val = t.val % 72 * 512 + r.val)
    (hK : K.val = t.val / 72 * 1024 + k.val) :
    part a m c t (ix2 r k) = result (m ((c : Thread nD τ).loc main_arg0)) (experts a) (counts a) (m ((c : Thread nD τ).loc main_arg3)) R K := by
  have hd : R.val / 512 = t.val % 72 := by omega
  unfold part result
  rw [hd]
  by_cases h : t.val % 72 < (counts a (ix1 0) : BitVec 32).toNat
  · rw [if_pos ((inUse_iff a hN t).mpr h), if_pos h]
    refine (pay3_at _ _ _ r k).trans (congrArg₂ gate (Finset.sum_congr rfl fun p _ => ?_) (Finset.sum_congr rfl fun p _ => ?_))
    · rw [read_x a hN m c t h r p R hR, read_w a hE m c t p k (tileOf R) ⟨K.val, by omega⟩ hd hK]
    · rw [read_x a hN m c t h r p R hR, read_v a hE m c t p k (tileOf R) ⟨7168 + K.val, by omega⟩ hd (by show 7168 + K.val = _; omega)]
  · rw [if_neg fun z => h ((inUse_iff a hN t).mp z), if_neg h]
    exact pay4_at r k

theorem flushes : ∀ t : Fin grid0.N, Pipeline.Window.flushOf grid0 true cc0_transform_3 t = true := by decide +kernel

theorem onto (p : Fin 72) (q : Fin 7) : ∃ t : Fin grid0.N, cc0_transform_3 (grid0.coords t) 0 = p.val ∧ cc0_transform_3 (grid0.coords t) 1 = q.val := by
  revert p q; decide +kernel

theorem covers : ((cfgA a).win 3).Covers := by
  refine ⟨fun x => ?_, fun β => ?_⟩
  · match x with
    | ⟨0, _⟩ => show 0 < 512; decide
    | ⟨1, _⟩ => show 0 < 1024; decide
  · have h0 : (β (0 : Fin 2)).val < (36864 + 512 - 1) / 512 := (β (0 : Fin 2)).isLt
    have h1 : (β (1 : Fin 2)).val < (7168 + 1024 - 1) / 1024 := (β (1 : Fin 2)).isLt
    obtain ⟨t, ht⟩ := onto ⟨(β (0 : Fin 2)).val, by omega⟩ ⟨(β (1 : Fin 2)).val, by omega⟩
    refine ⟨t, flushes t, fun x => ⟨?_, Or.inl rfl⟩⟩
    match x with
    | ⟨0, _⟩ => exact ht.1
    | ⟨1, _⟩ => exact ht.2

include hE hN in
/-- What a point leaves at an entry of its block is the result at the entry of the array the block places it at. -/
theorem point (t : Fin (cfgA a).N) (y : S512x1024.Idx) : part a m c t y
    = result (m ((c : Thread nD τ).loc main_arg0)) (experts a) (counts a) (m ((c : Thread nD τ).loc main_arg3))
        ((((((cfgA a).win 3).blk t).view.emb y : S36864x7168.Idx)) (0 : Fin 2)) ((((((cfgA a).win 3).blk t).view.emb y : S36864x7168.Idx)) (1 : Fin 2)) := by
  have e3 : place3 a t = _ := index3 a t
  have hy : y = ix2 (y 0) (y 1) := (ix2_eta y).symm
  refine (congrArg (part a m c t) hy).trans (part_at a hE hN m c t (y 0) (y 1) _ _ ?_ ?_)
  · show place3 a t 0 * 512 + 1 * (y 0).val = _
    rw [e3]; show t.val % 72 * 512 + 1 * (y 0).val = _; omega
  · show place3 a t 1 * 1024 + 1 * (y 1).val = _
    rw [e3]; show t.val / 72 * 1024 + 1 * (y 1).val = _; omega

include hE hN in
theorem final : (dats a m 0 c).arrAt 3 (cfgA a).N =
    (fun y => result (m ((c : Thread nD τ).loc main_arg0)) (experts a) (counts a) (m ((c : Thread nD τ).loc main_arg3)) (y 0) (y 1) :
      FVec Ideal S36864x7168 .bf16) := by
  refine (dats a m 0 c).arrAt_eq_of_covers 3 _ (covers a) (fun t hf y => ?_) (Memref.isWhole_whole _)
  exact point a hE hN m c t y

end Cert.UpIdeal.Tiles
-- ==== Proof.UpRef.lean ====
module

public import proofs.«01_k».proof.Proof.UpFinal
public import proofs.«01_k».proof.Proof.Gen.UpRefIdeal.Run
public import Idealize.ShloMosaic.Lib.StackMember

@[expose] public section

set_option maxRecDepth 16384

noncomputable section

open Idealize.ShloMosaic Idealize.ShloMosaic.TcCoe Idealize.SL.Sem

namespace Cert.UpRefIdeal.Tiles

open Cert.UpRefIdeal Cert.UpRefIdeal.Gen

variable {F : FTy → Type} [FloatOps F]

/-- The weights of every tile: its expert's page. -/
def pages (te : IVec S72 32) (w : FVec F S8x2048x14336 .f32) : FVec F S72x2048x14336 .f32 :=
  Host.gather gather_S8x2048x14336_S72x1_S72x2048x14336_12_0_n_n_0_1_1204814336 w (broadcastInDim S72x1 ![0] bcast_S72_S72x1_0 (select (cmpi .slt te (broadcastInDim S72 ![] bcast_S_S72 (constantI S_ 32 0#32))) (addi te (broadcastInDim S72 ![] bcast_S_S72 (constantI S_ 32 8#32))) te))

/-- The products, tile by tile. -/
def products (x : FVec F S36864x2048 .f32) (te : IVec S72 32) (w : FVec F S8x2048x14336 .f32) : FVec F S72x512x14336 .f32 :=
  Host.dotGeneral dot_S72x512x2048_S72x2048x14336_S72x512x14336_2_1_1_2_0_0 none (shapeCast _ x shapeCasts_S36864x2048_S72x512x2048) (pages te w)

/-- The gate of the two halves of the products. -/
def gated (P : FVec F S72x512x14336 .f32) : FVec F S72x512x7168 .bf16 :=
  truncf .bf16 (mulf (mulf (extractStridedSlice S72x512x7168 ![0, 0, 0] P slices_S72x512x14336_S72x512x7168_0_0_0) (Host.divf (broadcastInDim S72x512x7168 ![] bcast_S_S72x512x7168 (constant S_ .f32 0x3F800000#32)) (addf (broadcastInDim S72x512x7168 ![] bcast_S_S72x512x7168 (constant S_ .f32 0x3F800000#32)) (Host.exp (Host.negf (extractStridedSlice S72x512x7168 ![0, 0, 0] P slices_S72x512x14336_S72x512x7168_0_0_0)))))) (extractStridedSlice S72x512x7168 ![0, 0, 7168] P slices_S72x512x14336_S72x512x7168_0_0_7168)) bitsLt_bf16_f32

/-- The tiles in use, 0 elsewhere. -/
def kept (nt : IVec S1 32) (P : FVec F S72x512x7168 .bf16) : FVec F S72x512x7168 .bf16 :=
  select (broadcastInDim S72x512x7168 ![0, 1, 2] bcast_S72x1x1_S72x512x7168_0_1_2 (broadcastInDim S72x1x1 ![0] bcast_S72_S72x1x1_0 (cmpi .slt (iotaInDim S72 32 0) (broadcastInDim S72 ![] bcast_S_S72 (shapeCast _ nt shapeCasts_S1_S_))))) P (broadcastInDim S72x512x7168 ![] bcast_S_S72x512x7168 (constant S_ .bf16 0x0000#16))

def out (x : FVec F S36864x2048 .f32) (te : IVec S72 32) (nt : IVec S1 32) (w : FVec F S8x2048x14336 .f32) : FVec F S36864x7168 .bf16 :=
  shapeCast _ (kept nt (gated (products x te w))) shapeCasts_S72x512x7168_S36864x7168

theorem pages_at (te : IVec S72 32) (w : FVec F S8x2048x14336 .f32) (g : Fin 72) (p : Fin 2048) (k : Fin 14336) (hE : (te (ix1 g)).toNat < 8) :
    pages te w (ix3 g p k) = w (ix3 (Cert.UpIdeal.Tiles.named (te (ix1 g))) p k) := by
  unfold pages
  generalize hidx : (broadcastInDim S72x1 ![0] bcast_S72_S72x1_0 (select (cmpi .slt te (broadcastInDim S72 ![] bcast_S_S72 (constantI S_ 32 0#32))) (addi te (broadcastInDim S72 ![] bcast_S_S72 (constantI S_ 32 8#32))) te) : IVec S72x1 32) = idx
  have hi : idx (ix2 g 0) = te (ix1 g) := by
    subst hidx
    have hb : ∀ v : BitVec 32, v.toNat < 8 → Scalar.select (Scalar.cmpi .slt v 0#32) (v + 8#32) v = v := by
      intro v hv
      have : ¬ Scalar.cmpi .slt v 0#32 = 1#1 := by
        rw [Cert.UpIdeal.Hand.slt_word, BitVec.toInt_eq_toNat_of_lt (by omega)]
        have : (0#32 : BitVec 32).toInt = 0 := by decide
        omega
      simp [Scalar.select, this]
    refine Eq.trans ?_ (hb (te (ix1 g)) hE)
    pointwise
    rfl
  unfold Host.gather
  refine congrArg w (funext fun b => Fin.ext ?_)
  match b with
  | ⟨0, _⟩ =>
    show GatherDims.start _ (ix3 g p k) idx 0 + GatherDims.batchCoord _ (ix3 g p k) 0 + GatherDims.offCoord _ (ix3 g p k) 0 = (te (ix1 g)).toNat % 8
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S8x2048x14336_S72x1_S72x2048x14336_12_0_n_n_0_1_1204814336.startIndexMap from List.mem_singleton.mpr rfl)]
    have hs : ∀ h, GatherDims.siIdx gather_S8x2048x14336_S72x1_S72x2048x14336_12_0_n_n_0_1_1204814336 (ix3 g p k) ⟨List.idxOf (0 : Fin 3) [0], h⟩ = ix2 g 0 := by
      intro h
      funext e; refine Fin.ext ?_
      match e with
      | ⟨0, _⟩ => rfl
      | ⟨1, _⟩ => rfl
    refine Eq.trans (congrArg (fun z => min (idx z).toInt.toNat 7 + 0 + 0) (hs _)) ?_
    show min (idx (ix2 g 0)).toInt.toNat 7 + 0 + 0 = _
    rw [hi, BitVec.toInt_eq_toNat_of_lt (by omega)]
    omega
  | ⟨1, _⟩ =>
    show GatherDims.start _ (ix3 g p k) idx 1 + GatherDims.batchCoord _ (ix3 g p k) 1 + GatherDims.offCoord _ (ix3 g p k) 1 = p.val
    rw [GatherDims.batchCoord_eq_zero _ _ _ List.not_mem_nil]
    unfold GatherDims.start
    rw [dif_neg (by decide)]
    simp only [Nat.zero_add]
    rfl
  | ⟨2, _⟩ =>
    show GatherDims.start _ (ix3 g p k) idx 2 + GatherDims.batchCoord _ (ix3 g p k) 2 + GatherDims.offCoord _ (ix3 g p k) 2 = k.val
    rw [GatherDims.batchCoord_eq_zero _ _ _ List.not_mem_nil]
    unfold GatherDims.start
    rw [dif_neg (by decide)]
    simp only [Nat.zero_add]
    rfl

theorem rows_at (x : FVec Ideal S36864x2048 .f32) (g : Fin 72) (s : Fin 512) (p : Fin 2048) (R : Fin 36864) (hR : R.val = g.val * 512 + s.val) :
    (shapeCast S72x512x2048 x shapeCasts_S36864x2048_S72x512x2048 : FVec Ideal S72x512x2048 .f32) (ix3 g s p) = x (ix2 R p) := by
  refine shapeCast_apply _ _ (ix3 g s p) (ix2 R p) ?_
  rw [Shape.rowMajor_val_two, Shape.rowMajor_val_three]
  show R.val * 2048 + p.val = (g.val * 512 + s.val) * 2048 + p.val
  rw [hR]

theorem products_at (x : FVec Ideal S36864x2048 .f32) (te : IVec S72 32) (w : FVec Ideal S8x2048x14336 .f32) (g : Fin 72) (s : Fin 512) (k : Fin 14336) (R : Fin 36864)
    (hR : R.val = g.val * 512 + s.val) (hE : (te (ix1 g)).toNat < 8) :
    products x te w (ix3 g s k) = Cert.UpIdeal.Tiles.dotted x te w R k := by
  have hg : Cert.UpIdeal.Tiles.tileOf R = g := Fin.ext (by have := s.isLt; show R.val / 512 = g.val; omega)
  unfold products Cert.UpIdeal.Tiles.dotted
  rw [hg]
  refine (Idealize.ShloMosaic.StackMember.dotGeneral_stack_apply _ none _ _ g s k).trans (Finset.sum_congr rfl fun p _ => ?_)
  exact congrArg₂ (· * ·) (rows_at x g s p R hR) (pages_at te w g p k hE)

theorem gated_at (P : FVec Ideal S72x512x14336 .f32) (g : Fin 72) (s : Fin 512) (k : Fin 7168) :
    gated P (ix3 g s k) = Cert.UpIdeal.Tiles.gate (P (ix3 g s ⟨k.val, by omega⟩)) (P (ix3 g s ⟨7168 + k.val, by omega⟩)) := by
  unfold Cert.UpIdeal.Tiles.gate
  simp only [← Cert.UpIdeal.Tiles.one_word]
  pointwise [gated]

theorem kept_at (nt : IVec S1 32) (P : FVec Ideal S72x512x7168 .bf16) (g : Fin 72) (s : Fin 512) (k : Fin 7168)
    (hN : (nt (ix1 0)).toNat ≤ 72) : kept nt P (ix3 g s k) = if g.val < (nt (ix1 0)).toNat then P (ix3 g s k) else 0 := by
  have h1 : kept nt P (ix3 g s k) = Scalar.select (Scalar.cmpi .slt (BitVec.ofNat 32 g.val) (nt (ix1 0))) (P (ix3 g s k)) 0 := by
    unfold kept
    dsimp only [id]
    pointwise
    rfl
  rw [h1]
  have h2 := Cert.UpIdeal.Tiles.slt_count g.val (nt (ix1 0)) g.isLt hN
  by_cases h : g.val < (nt (ix1 0)).toNat
  · rw [if_pos h, h2.mpr h]; rfl
  · rw [if_neg h]
    have : ¬ Scalar.cmpi .slt (BitVec.ofNat 32 g.val) (nt (ix1 0)) = 1#1 := fun z => h (h2.mp z)
    simp [Scalar.select, this]

/-- The reference, entry by entry. -/
theorem out_eq (x : FVec Ideal S36864x2048 .f32) (te : IVec S72 32) (nt : IVec S1 32) (w : FVec Ideal S8x2048x14336 .f32)
    (hE : ∀ i, (te i).toNat < 8) (hN : (nt (ix1 0)).toNat ≤ 72) :
    out x te nt w = (fun y => Cert.UpIdeal.Tiles.result x te nt w (y 0) (y 1) : FVec Ideal S36864x7168 .bf16) := by
  funext y
  obtain ⟨r, k, rfl⟩ : ∃ (r : Fin 36864) (k : Fin 7168), y = ix2 r k := ⟨y 0, y 1, (ix2_eta y).symm⟩
  have hr := r.isLt
  have hs : r.val = (Cert.UpIdeal.Tiles.tileOf r).val * 512 + (⟨r.val % 512, Nat.mod_lt _ (by decide)⟩ : Fin 512).val := by
    show r.val = r.val / 512 * 512 + r.val % 512
    omega
  show out x te nt w (ix2 r k) = Cert.UpIdeal.Tiles.result x te nt w r k
  unfold out
  rw [shapeCast_apply (kept nt (gated (products x te w))) _ (ix2 r k) (ix3 (Cert.UpIdeal.Tiles.tileOf r) (⟨r.val % 512, Nat.mod_lt _ (by decide)⟩ : Fin 512) k) (by
    rw [Shape.rowMajor_val_two, Shape.rowMajor_val_three]
    show (r.val / 512 * 512 + r.val % 512) * 7168 + k.val = r.val * 7168 + k.val
    omega)]
  rw [kept_at nt _ _ _ k hN]
  unfold Cert.UpIdeal.Tiles.result
  rw [gated_at, products_at x te w _ _ _ r hs (hE _), products_at x te w _ _ _ r hs (hE _)]
  rfl

end Cert.UpRefIdeal.Tiles
-- ==== Proof.UpPre.lean ====
module

public import proofs.«01_k».proof.Defs
public import proofs.«01_k».proof.Proof.DownPre
public import proofs.«01_k».proof.Proof.Gen.Pre_up_tables_in_range
public import Idealize.ShloMosaic.Lib.ReduceAll
public import Idealize.ShloMosaic.PureOps.Ideal

@[expose] public section

noncomputable section

open Idealize.ShloMosaic Idealize.ShloMosaic.TcCoe Idealize.SL.Sem

namespace Cert.Up.Range

open Cert.Down.Range (below_eight in_tiles)

variable {F : FTy → Type} [FloatOps F]

/-- The precondition says that every tile's expert is one of eight and that 1 to 72 tiles are in use. -/
theorem ranges (x : FVec F Cert.Pre_up_tables_in_range.S36864x2048 .f32) (te : IVec Cert.Pre_up_tables_in_range.S72 32) (nt : IVec Cert.Pre_up_tables_in_range.S1 32)
    (w : FVec F Cert.Pre_up_tables_in_range.S8x2048x14336 .f32) (j : Cert.Pre_up_tables_in_range.S_.Idx)
    (h : (Cert.Pre_up_tables_in_range.fn x te nt w : IVec Cert.Pre_up_tables_in_range.S_ 1) j = 1#1) :
    (∀ i, (te i).toNat < 8) ∧ ∀ i, 1 ≤ (nt i).toNat ∧ (nt i).toNat ≤ 72 := by
  dsimp only [Cert.Pre_up_tables_in_range.fn] at h
  obtain ⟨h12, h4⟩ := IntOp.andi_eq_one.1 h
  obtain ⟨h6, h3⟩ := IntOp.andi_eq_one.1 h12
  obtain ⟨h1, h2⟩ := IntOp.andi_eq_one.1 h6
  haveI : Subsingleton Cert.Pre_up_tables_in_range.S_.Idx := ⟨fun a b => funext fun k => k.elim0⟩
  exact ⟨fun i => below_eight _ (Host.reduce_andi_all _ _ _ _ j h1 i) (Host.reduce_andi_all _ _ _ _ j h2 i),
    fun i => in_tiles _ (Host.reduce_andi_all _ _ _ _ j h3 i) (Host.reduce_andi_all _ _ _ _ j h4 i)⟩

end Cert.Up.Range
-- ==== Proof.UpClaim.lean ====
module

public import proofs.«01_k».proof.Proof.UpRef
public import proofs.«01_k».proof.Proof.UpPre
public import proofs.«01_k».proof.Proof.Gen.Up
public import Idealize.ShloMosaic.Lib.Quiescent
public import Idealize.ShloMosaic.PureOps.BitExact

@[expose] public section

set_option maxRecDepth 16384

noncomputable section

open Idealize.ShloMosaic Idealize.ShloMosaic.TcCoe Idealize.SL.Sem

namespace Cert.UpIdeal.Hand

open Cert.UpIdeal Cert.UpIdeal.Gen

variable {F : FTy → Type} [FloatOps F]
variable (m : (ℓ : Loc nD τ sig) → Buf (Elt F) ℓ) (ρ : Dev nD → PrngReg)

/-- The one core there is. -/
def core : Dev nD := ⟨0, by decide⟩

theorem core_eq (c : Dev nD) : c = core := by
  have h : c.val < 1 := c.isLt
  exact Fin.ext (by show c.val = 0; omega)

/-- The tables in memory are in range. -/
def InRange : Prop :=
  (∀ i : S72.Idx, (m ((core : Thread nD τ).loc main_arg1) i : BitVec 32).toNat < 8)
    ∧ ∀ i : S1.Idx, 1 ≤ (m ((core : Thread nD τ).loc main_arg2) i : BitVec 32).toNat ∧ (m ((core : Thread nD τ).loc main_arg2) i : BitVec 32).toNat ≤ 72

variable (h : InRange m)

/-- The tables in memory, as the pipeline takes them. -/
def tables : (pcfg0 (F := F)).Adm := ⟨fun j => m ((core : Thread nD τ).loc (pre0.ref j)), ok_of_range _ h.1 h.2⟩

/-- From tables in range the program ends with its result as computed, its arguments as they were and every counter at zero. -/
theorem run : θ_run (defs (F := F)) (onTc (τ := τ) (main (F := F))) ⟨m, fun _ => 0, ρ⟩ (fun r => (∀ c : Dev nD,
      r.2.mem ((c : Thread nD τ).loc main_v0) = (dats (tables m h) m 0 c).arrAt 3 (cfgA (tables m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  have hpf : ∀ (c : Dev nD) j, m ((c : Thread nD τ).loc (pre0.ref j)) = (tables m h).1 j := fun c j => by
    obtain rfl := core_eq c; rfl
  refine (θ_run defs _ _).mono (fun r e => ⟨fun c => ?_, e.2⟩) (run_main (tables m h) m ρ hpf)
  obtain ⟨e1, e2⟩ := e.1 c
  exact ⟨e1 (3 : Fin 4), (e1 (0 : Fin 4)).trans ((dats (tables m h) m 0 c).arrAt_in (0 : Fin 4) rfl _),
    (e2 0).trans (hpf c 0).symm, (e2 1).trans (hpf c 1).symm,
    (e1 (1 : Fin 4)).trans ((dats (tables m h) m 0 c).arrAt_in (1 : Fin 4) rfl _)⟩

end Cert.UpIdeal.Hand

namespace Cert.Up.Range

theorem range_ideal (m : (ℓ : Loc Cert.UpIdeal.nD Cert.UpIdeal.τ Cert.UpIdeal.sig) → Buf (Elt Ideal) ℓ) (h : Cert.Pre_UpIdeal m) :
    Cert.UpIdeal.Hand.InRange m :=
  ranges _ _ _ _ (fun a => a.elim0) (congrFun (h Cert.UpIdeal.Hand.core) _)

theorem range_bits (m : (ℓ : Loc Cert.Up.nD Cert.Up.τ Cert.Up.sig) → Buf (Elt Bits) ℓ) (h : Cert.Pre_Up m) :
    Cert.UpIdeal.Hand.InRange (F := Bits) m :=
  ranges _ _ _ _ (fun a => a.elim0) (congrFun (h Cert.UpIdeal.Hand.core) _)

/-- The kernel on ideal numbers. -/
theorem frame_i : Cert.quiescent_UpIdeal := fun m g h =>
  (θ_run Cert.UpIdeal.defs _ _).mono (fun _ e => ⟨fun c => (e.1 c).2, e.2⟩) (Cert.UpIdeal.Hand.run m g (range_ideal m h))

/-- A run of the reference leaves its arguments as they were and every counter at zero. -/
theorem frame_r : Cert.quiescent_UpRefIdeal := fun m ρ _ =>
  (θ_run Cert.UpRefIdeal.defs _ _).mono
    (fun r h => And.intro (fun c => (h c).2) (sem_eq_zero_of_no_sems (by decide) r.2))
    (Cert.UpRefIdeal.Value.run m ρ)

/-- The first product of the experts of the kernel and of the reference end with the same array, for tables in range. -/
theorem value : Cert.algebraic_UpIdeal_UpRefIdeal := by
  intro m g m' g' hpre hagree
  have h := range_ideal m hpre
  refine ⟨fun c => (fun y => Cert.UpIdeal.Tiles.result (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (y 0) (y 1) : FVec Ideal Cert.UpIdeal.S36864x7168 .bf16), ?_, ?_⟩
  · refine (θ_run Cert.UpIdeal.defs _ _).mono (fun r e c => ⟨(e.1 c).1.trans ?_, (e.1 c).2⟩) (Cert.UpIdeal.Hand.run m g h)
    obtain rfl := Cert.UpIdeal.Hand.core_eq c
    exact Cert.UpIdeal.Tiles.final (Cert.UpIdeal.Hand.tables m h) h.1 h.2 m _
  · refine (θ_run Cert.UpRefIdeal.defs _ _).mono (fun r e c => ⟨(e c).1.trans ?_, (e c).2⟩) (Cert.UpRefIdeal.Value.run m' g')
    obtain rfl := Cert.UpIdeal.Hand.core_eq c
    rw [(hagree _).1, (hagree _).2.1, (hagree _).2.2.1, (hagree _).2.2.2]
    exact Cert.UpRefIdeal.Tiles.out_eq _ _ _ _ h.1 (h.2 _).2

end Cert.Up.Range
-- ==== Proof.UpKernel.lean ====
module

public import proofs.«01_k».proof.Proof.UpClaim

@[expose] public section

set_option maxRecDepth 16384

noncomputable section

open Idealize.ShloMosaic Idealize.ShloMosaic.TcCoe Idealize.SL.Sem

namespace Cert.Up.Range

/-- The kernel and its ideal form have the same bodies. -/
theorem bodies_eq : Cert.Up.defs₀ (F := Bits) = Cert.UpIdeal.defs₀ (F := Bits) := by
  unfold Cert.Up.defs₀ Cert.UpIdeal.defs₀
  refine congrArg Defs.onTc ?_
  funext l a
  obtain ⟨l, hl⟩ := l
  obtain _ | l := l
  · rfl
  · exact absurd hl (Nat.not_lt.2 (Nat.le_add_left _ _))

theorem defs_eq : Cert.Up.defs (F := Bits) = Cert.UpIdeal.defs (F := Bits) :=
  congrArg (Pipeline.defs (Cert.Up.pcfgs (F := Bits))) bodies_eq

/-- The kernel as it runs leaves its arguments as they were and every counter at zero. -/
theorem frame_k : Cert.quiescent_Up := by
  intro m g h
  have e := (θ_run Cert.UpIdeal.defs _ _).mono (fun _ e => And.intro (fun c => (e.1 c).2) e.2)
    (Cert.UpIdeal.Hand.run (F := Bits) m g (range_bits m h))
  rw [defs_eq]
  exact e

end Cert.Up.Range
-- ==== Proof.SwaBody.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Swa

open Cert.KernelIdeal Cert.KernelIdeal.Gen

/-- A previous and a current block stacked: 256 rows of 128 lanes. -/
def stack (a b : FVec Ideal S1x128x128 .bf16) : FVec Ideal S256x128 .bf16 :=
  concatenate S256x128 0 [⟨S128x128, shapeCast S128x128 a shapeCasts_S1x128x128_S128x128⟩,
    ⟨S128x128, shapeCast S128x128 b shapeCasts_S1x128x128_S128x128⟩] concatenates_S128x128_S128x128_S256x128_d0

/-- The two halves of the lanes swapped. -/
def swapped (x : FVec Ideal S256x128 .bf16) : FVec Ideal S256x128 .bf16 :=
  truncf .bf16 (dynamicRotate 1 64#32 none (extf .f32 x bitsLt_bf16_f32) rotates_S256x128_d1) bitsLt_bf16_f32

/-- The stacked queries, scaled. -/
def scaled (x : FVec Ideal S256x128 .bf16) : FVec Ideal S256x128 .bf16 :=
  truncf .bf16 (mulf (extf .f32 x bitsLt_bf16_f32) (broadcast S256x128 (Named.named κ "qscale" 0x3E38AA3B#32))) bitsLt_bf16_f32

/-- The lower half of the lanes kept, the rest zero. -/
def low (x : FVec Ideal S256x128 .bf16) : FVec Ideal S256x128 .bf16 :=
  select k0_pay5 x (broadcast S256x128 (Scalar.ofBits .bf16 0x0000#16))

/-- The upper half of the lanes kept, the rest zero. -/
def high (x : FVec Ideal S256x128 .bf16) : FVec Ideal S256x128 .bf16 :=
  select k0_pay5 (broadcast S256x128 (Scalar.ofBits .bf16 0x0000#16)) x

/-- The scores of one half, masked. -/
def scores (i : grid0.Coords) (q k : FVec Ideal S256x128 .bf16) : FVec Ideal S256x256 .f32 :=
  select (k0_pay3 i) (matmul dot_S256x128_S256x128_S256x256_1_1_0_0_n_n none q k (constant S256x256 .f32 0x00000000#32))
    (broadcast S256x256 (Scalar.ofBits .f32 0xFF800000#32))

/-- The two sinks of one half, spread over the rows and scaled. -/
def sinks (a b : FVec Ideal S1x1 .f32) : FVec Ideal S256x128 .f32 :=
  mulf (select k0_pay4
    (broadcastTo S256x128 (shapeCast S1x1 (shapeCast S1x1 a shapeCasts_S1x1_S1x1) shapeCasts_S1x1_S1x1) broadcasts_S1x1_S256x128)
    (broadcastTo S256x128 (shapeCast S1x1 (shapeCast S1x1 b shapeCasts_S1x1_S1x1) shapeCasts_S1x1_S1x1) broadcasts_S1x1_S256x128))
    (broadcast S256x128 (Named.named κ "log2e" 0x3FB8AA3B#32))

/-- The row maxima of scores and sinks. -/
def tops (s : FVec Ideal S256x256 .f32) (z : FVec Ideal S256x128 .f32) : FVec Ideal S256x128 .f32 :=
  maximumf (broadcastTo S256x128 (shapeCast S256x1 (multiReduction .maximumf [1] S256 s 0xFF800000#32 reduces_S256x256_S256 (.inl rfl) rfl)
    shapeCasts_S256_S256x1) broadcasts_S256x1_S256x128) z

/-- The weights of one half. -/
def weights (s : FVec Ideal S256x256 .f32) (m : FVec Ideal S256x128 .f32) : FVec Ideal S256x256 .bf16 :=
  truncf .bf16 (exp2 (subf s (concatenate S256x256 1 [⟨S256x128, m⟩, ⟨S256x128, m⟩] concatenates_S256x128_S256x128_S256x256_d1)))
    bitsLt_bf16_f32

/-- One half's attention: the weighted values over the weights' sum and the sink's weight. -/
def half (i : grid0.Coords) (q k v : FVec Ideal S256x128 .bf16) (a b : FVec Ideal S1x1 .f32) : FVec Ideal S256x128 .f32 :=
  divf (matmul dot_S256x256_S256x128_S256x128_1_0_0_1_n_n none (weights (scores i q k) (tops (scores i q k) (sinks a b))) v
      (constant S256x128 .f32 0x00000000#32))
    (addf (matmul dot_S256x256_S256x128_S256x128_1_0_0_1_n_n none (weights (scores i q k) (tops (scores i q k) (sinks a b)))
        (k0_pay6 (F := Ideal)) (constant S256x128 .f32 0x00000000#32))
      (exp2 (subf (sinks a b) (tops (scores i q k) (sinks a b)))))

/-- Both halves of one pair of query tiles, side by side. -/
def tile (i : grid0.Coords) (q kl kh vl vh : FVec Ideal S256x128 .bf16) (a b a' b' : FVec Ideal S1x1 .f32) :
    FVec Ideal S256x128 .bf16 :=
  truncf .bf16 (select k0_pay5 (half i q kl vl a b) (half i q kh vh a' b')) bitsLt_bf16_f32

/-- The tile of an even key head. -/
def tileE (i : grid0.Coords) (kp kc vp vc qa qb : FVec Ideal S1x128x128 .bf16) (a b a' b' : FVec Ideal S1x1 .f32) :=
  tile i (scaled (stack qa qb)) (low (stack kp kc)) (high (swapped (stack kp kc))) (stack vp vc) (swapped (stack vp vc)) a b a' b'

/-- The tile of an odd key head. -/
def tileO (i : grid0.Coords) (kp kc vp vc qa qb : FVec Ideal S1x128x128 .bf16) (a b a' b' : FVec Ideal S1x1 .f32) :=
  tile i (scaled (stack qa qb)) (low (swapped (stack kp kc))) (high (stack kp kc)) (swapped (stack vp vc)) (stack vp vc) a b a' b'

/-- Row `r` of the first 128, stored. -/
def top (x : FVec Ideal S256x128 .bf16) : FVec Ideal S1x128x128 .bf16 :=
  shapeCast S1x128x128 (extractStridedSlice S128x128 ![0, 0] x slices_S256x128_o0_0_S128x128) shapeCasts_S128x128_S1x128x128

/-- The last 128 rows, stored. -/
def bottom (x : FVec Ideal S256x128 .bf16) : FVec Ideal S1x128x128 .bf16 :=
  shapeCast S1x128x128 (extractStridedSlice S128x128 ![128, 0] x slices_S256x128_o128_0_S128x128) shapeCasts_S128x128_S1x128x128

section
variable (i : grid0.Coords) (x0 : Vec Ideal S1x128x1024 .bf16) (x1 x2 x3 x4 : Vec Ideal S1x128x256 .bf16) (x5 : Vec Ideal S1x16 .f32)

/-- The block the body leaves is eight stores of four tiles. -/
theorem out_eq : out0_6 (F := Ideal) i x0 x1 x2 x3 x4 x5 = View.canon
   [⟨r0_21, bottom (tileO i (View.ld x2 r0_13) (View.ld x1 r0_13) (View.ld x4 r0_13) (View.ld x3 r0_13) (View.ld x0 r0_20) (View.ld x0 r0_21) (View.ld x5 r0_22) (View.ld x5 r0_23) (View.ld x5 r0_24) (View.ld x5 r0_25))⟩,
    ⟨r0_20, top (tileO i (View.ld x2 r0_13) (View.ld x1 r0_13) (View.ld x4 r0_13) (View.ld x3 r0_13) (View.ld x0 r0_20) (View.ld x0 r0_21) (View.ld x5 r0_22) (View.ld x5 r0_23) (View.ld x5 r0_24) (View.ld x5 r0_25))⟩,
    ⟨r0_15, bottom (tileE i (View.ld x2 r0_13) (View.ld x1 r0_13) (View.ld x4 r0_13) (View.ld x3 r0_13) (View.ld x0 r0_14) (View.ld x0 r0_15) (View.ld x5 r0_16) (View.ld x5 r0_17) (View.ld x5 r0_18) (View.ld x5 r0_19))⟩,
    ⟨r0_14, top (tileE i (View.ld x2 r0_13) (View.ld x1 r0_13) (View.ld x4 r0_13) (View.ld x3 r0_13) (View.ld x0 r0_14) (View.ld x0 r0_15) (View.ld x5 r0_16) (View.ld x5 r0_17) (View.ld x5 r0_18) (View.ld x5 r0_19))⟩,
    ⟨r0_8, bottom (tileO i (View.ld x2 r0_0) (View.ld x1 r0_0) (View.ld x4 r0_0) (View.ld x3 r0_0) (View.ld x0 r0_7) (View.ld x0 r0_8) (View.ld x5 r0_9) (View.ld x5 r0_10) (View.ld x5 r0_11) (View.ld x5 r0_12))⟩,
    ⟨r0_7, top (tileO i (View.ld x2 r0_0) (View.ld x1 r0_0) (View.ld x4 r0_0) (View.ld x3 r0_0) (View.ld x0 r0_7) (View.ld x0 r0_8) (View.ld x5 r0_9) (View.ld x5 r0_10) (View.ld x5 r0_11) (View.ld x5 r0_12))⟩,
    ⟨r0_2, bottom (tileE i (View.ld x2 r0_0) (View.ld x1 r0_0) (View.ld x4 r0_0) (View.ld x3 r0_0) (View.ld x0 r0_1) (View.ld x0 r0_2) (View.ld x5 r0_3) (View.ld x5 r0_4) (View.ld x5 r0_5) (View.ld x5 r0_6))⟩,
    ⟨r0_1, top (tileE i (View.ld x2 r0_0) (View.ld x1 r0_0) (View.ld x4 r0_0) (View.ld x3 r0_0) (View.ld x0 r0_1) (View.ld x0 r0_2) (View.ld x5 r0_3) (View.ld x5 r0_4) (View.ld x5 r0_5) (View.ld x5 r0_6))⟩] := rfl
end

/-- Key `t` of the 256 is seen by query `w` of the block: the window and, at the first block, no block before. -/
abbrev seen (n w t : ℕ) : Prop := (w < t ∧ t ≤ w + 128) ∧ (0 < n ∨ 128 ≤ t)

/-- The mask word at an entry. -/
theorem mask_at (i : grid0.Coords) (r t : Fin 256) :
    k0_pay3 i (ix2 r t) = BitVec.ofBool (decide (seen (i 1).val (r.val % 128) t.val)) := by
  pointwise [k0_pay3]
  have hi : (i 1).val < 16 := (i 1).isLt
  have hr := r.isLt
  have ht := t.isLt
  have e1 : IntOp.andi (BitVec.ofNat 32 r.val) 127#32 = BitVec.ofNat 32 (r.val % 128) := by
    apply BitVec.eq_of_toNat_eq
    show (BitVec.ofNat 32 r.val &&& 127#32).toNat = _
    rw [BitVec.toNat_and, BitVec.toNat_ofNat, BitVec.toNat_ofNat, BitVec.toNat_ofNat,
      Nat.mod_eq_of_lt (by omega : r.val < 2 ^ 32), Nat.mod_eq_of_lt (by omega : r.val % 128 < 2 ^ 32)]
    exact Nat.and_two_pow_sub_one_eq_mod r.val 7
  have e2 : IntOp.addi (BitVec.ofNat 32 (r.val % 128)) 128#32 = BitVec.ofNat 32 (r.val % 128 + 128) :=
    (BitVec.ofNat_add _ _).symm
  rw [e1, e2]
  have h1 : r.val % 128 < 128 := Nat.mod_lt _ (by omega)
  generalize r.val % 128 = w at h1 ⊢
  generalize (i 1).val = n at hi ⊢
  obtain ⟨t, ht'⟩ := t
  simp only at ht ⊢
  clear e1 e2 hr
  have a1 : IntOp.cmpi CmpIPredicate.sgt (BitVec.ofNat 32 t) (BitVec.ofNat 32 w) = BitVec.ofBool (decide (w < t)) := by word_cmp
  have a2 : IntOp.cmpi CmpIPredicate.sle (BitVec.ofNat 32 t) (BitVec.ofNat 32 (w + 128)) = BitVec.ofBool (decide (t ≤ w + 128)) := by word_cmp
  have a3 : IntOp.cmpi CmpIPredicate.sge (BitVec.ofNat 32 t) 128#32 = BitVec.ofBool (decide (128 ≤ t)) := by word_cmp
  have a4 : Scalar.cmpi CmpIPredicate.sgt (BitVec.ofNat 32 n) 0#32 = BitVec.ofBool (decide (0 < n)) := by
    show IntOp.cmpi CmpIPredicate.sgt (BitVec.ofNat 32 n) 0#32 = _
    word_cmp
  rw [a1, a2, a3, a4]
  by_cases b1 : w < t <;> by_cases b2 : t ≤ w + 128 <;> by_cases b3 : 128 ≤ t <;> by_cases b4 : 0 < n <;>
    simp only [seen, b1, b2, b3, b4, and_true, true_and, and_false, false_and, or_true, true_or, or_false, false_or, decide_true, decide_false] <;> rfl

/-- Whether a row belongs to the first tile. -/
theorem first_at (r : Fin 256) (c : Fin 128) : k0_pay4 (ix2 r c) = BitVec.ofBool (decide (r.val < 128)) := by
  pointwise [k0_pay4]
  word_cmp

/-- Whether a lane belongs to the lower half. -/
theorem lower_at (r : Fin 256) (c : Fin 128) : k0_pay5 (ix2 r c) = BitVec.ofBool (decide (c.val < 64)) := by
  pointwise [k0_pay5]
  word_cmp

theorem scores_at (i : grid0.Coords) (q k : FVec Ideal S256x128 .bf16) (r t : Fin 256) :
    scores i q k (ix2 r t) = if seen (i 1).val (r.val % 128) t.val then ∑ l : Fin 128, q (ix2 r l) * k (ix2 t l)
      else Ideal.ofBits .f32 0xFF800000#32 := by
  pointwise [scores, mask_at, hlo_ix]

theorem tops_at (s : FVec Ideal S256x256 .f32) (z : FVec Ideal S256x128 .f32) (r : Fin 256) (c : Fin 128) :
    tops s z (ix2 r c) = max (Finset.fold max (Ideal.ofBits .f32 0xFF800000#32) (fun t : Fin 256 => s (ix2 r t)) Finset.univ)
      (z (ix2 r c)) := by
  pointwise [tops]

theorem weights_at (s : FVec Ideal S256x256 .f32) (m : FVec Ideal S256x128 .f32) (M : EReal) (r t : Fin 256)
    (hm : ∀ c : Fin 128, m (ix2 r c) = M) :
    weights s m (ix2 r t) = Ideal.exp2 (s (ix2 r t) - M) := by
  pointwise [weights, hm]
  simp only [hm, dite_eq_ite, ite_self]
  rfl

/-- The exponent's scale, as the table names it. -/
abbrev log2e : EReal := (((Real.log 2)⁻¹ : ℝ) : EReal)
/-- The queries' scale, as the table names it. -/
abbrev qscale : EReal := (((1 / 8) * (Real.log 2)⁻¹ : ℝ) : EReal)

theorem named_log2e : Named.named (F := Ideal) (φ := .f32) κ "log2e" 0x3FB8AA3B#32 = log2e :=
  IdealRules.named_const.ideal_named_scalar κ "log2e" _ _ rfl
theorem named_qscale : Named.named (F := Ideal) (φ := .f32) κ "qscale" 0x3E38AA3B#32 = qscale :=
  IdealRules.named_const.ideal_named_scalar κ "qscale" _ _ rfl

theorem sinks_at (a b : FVec Ideal S1x1 .f32) (r : Fin 256) (c : Fin 128) :
    sinks a b (ix2 r c) = (if r.val < 128 then a (ix2 0 0) else b (ix2 0 0)) * log2e := by
  pointwise [sinks, first_at, hlo_ix, named_log2e]

/-- One half's attention at one query: keys and values as functions of the key. -/
def att (n w : ℕ) (q : Fin 64 → EReal) (k : Fin 256 → Fin 64 → EReal) (v : Fin 256 → EReal) (z : EReal) : EReal :=
  let S : Fin 256 → EReal := fun t => if seen n w t.val then ∑ l : Fin 64, q l * k t l else ⊥
  let Z : EReal := z * log2e
  let M : EReal := max (Finset.fold max ⊥ S Finset.univ) Z
  Ideal.div (∑ t : Fin 256, Ideal.exp2 (S t - M) * v t) ((∑ t : Fin 256, Ideal.exp2 (S t - M)) + Ideal.exp2 (Z - M))

theorem negInf : Ideal.ofBits .f32 0xFF800000#32 = (⊥ : EReal) := by
  simp [Ideal.ofBits, Ideal.ieee]

theorem half_at (i : grid0.Coords) (q k v : FVec Ideal S256x128 .bf16) (a b : FVec Ideal S1x1 .f32) (r : Fin 256) (c : Fin 128)
    (Q : Fin 64 → EReal) (K : Fin 256 → Fin 64 → EReal)
    (h : ∀ t : Fin 256, (∑ l : Fin 128, q (ix2 r l) * k (ix2 t l)) = ∑ l : Fin 64, Q l * K t l) :
    half i q k v a b (ix2 r c) = att (i 1).val (r.val % 128) Q K (fun t => v (ix2 t c))
      (if r.val < 128 then a (ix2 0 0) else b (ix2 0 0)) := by
  have hS : ∀ t : Fin 256, scores i q k (ix2 r t) = if seen (i 1).val (r.val % 128) t.val then ∑ l : Fin 64, Q l * K t l else ⊥ := fun t => by
    rw [scores_at, h, negInf]
  have hM : ∀ c : Fin 128, tops (scores i q k) (sinks a b) (ix2 r c) = max (Finset.fold max ⊥
      (fun t : Fin 256 => if seen (i 1).val (r.val % 128) t.val then ∑ l : Fin 64, Q l * K t l else ⊥) Finset.univ)
      ((if r.val < 128 then a (ix2 0 0) else b (ix2 0 0)) * log2e) := fun c => by
    rw [tops_at, sinks_at, negInf]; simp only [hS]
  have hW := fun t : Fin 256 => weights_at (scores i q k) (tops (scores i q k) (sinks a b)) _ r t hM
  simp only [hS] at hW
  pointwise [half, k0_pay6]
  simp only [hW, hM, sinks_at]
  exact congrArg _ (congrArg₂ _ (by rfl) (by rfl))

/-- Row `t` of the stacked blocks. -/
def cat (a b : FVec Ideal S1x128x128 .bf16) (t : Fin 256) (l : Fin 128) : EReal :=
  if h : t.val < 128 then a (ix3 0 ⟨t.val, h⟩ l) else b (ix3 0 ⟨t.val - 128, by omega⟩ l)

theorem stack_at (a b : FVec Ideal S1x128x128 .bf16) (t : Fin 256) (l : Fin 128) : stack a b (ix2 t l) = cat a b t l := by
  pointwise [stack, cat]

theorem scaled_at (x : FVec Ideal S256x128 .bf16) (t : Fin 256) (l : Fin 128) : scaled x (ix2 t l) = x (ix2 t l) * qscale := by
  pointwise [scaled, named_qscale]

theorem swapped_at (x : FVec Ideal S256x128 .bf16) (t : Fin 256) (l : Fin 128) :
    swapped x (ix2 t l) = x (ix2 t ⟨(l.val + 64) % 128, by omega⟩) := by
  pointwise [swapped]
  have e : (l.val + 128 - 64) % 128 = (l.val + 64) % 128 := by omega
  simp only [e]

theorem low_at (x : FVec Ideal S256x128 .bf16) (t : Fin 256) (l : Fin 128) :
    low x (ix2 t l) = if l.val < 64 then x (ix2 t l) else 0 := by
  pointwise [low, lower_at, hlo_ix]

theorem high_at (x : FVec Ideal S256x128 .bf16) (t : Fin 256) (l : Fin 128) :
    high x (ix2 t l) = if l.val < 64 then 0 else x (ix2 t l) := by
  pointwise [high, lower_at, hlo_ix]

theorem sum_low (f : Fin 128 → EReal) (g : Fin 128 → EReal) :
    (∑ l : Fin 128, f l * if l.val < 64 then g l else 0) = ∑ l : Fin 64, f ⟨l.val, by omega⟩ * g ⟨l.val, by omega⟩ := by
  rw [Fin.sum_univ_two_halves 64 64 rfl]
  have h1 : ∀ l : Fin 64, ¬ (64 + l.val < 64) := fun l => by omega
  simp only [Fin.is_lt, if_true, h1, if_false, mul_zero, Finset.sum_const_zero, add_zero]

theorem sum_high (f : Fin 128 → EReal) (g : Fin 128 → EReal) :
    (∑ l : Fin 128, f l * if l.val < 64 then 0 else g l) = ∑ l : Fin 64, f ⟨64 + l.val, by omega⟩ * g ⟨64 + l.val, by omega⟩ := by
  rw [Fin.sum_univ_two_halves 64 64 rfl]
  have h1 : ∀ l : Fin 64, ¬ (64 + l.val < 64) := fun l => by omega
  simp only [Fin.is_lt, if_true, h1, if_false, mul_zero, Finset.sum_const_zero, zero_add]

theorem tile_at (i : grid0.Coords) (q kl kh vl vh : FVec Ideal S256x128 .bf16) (a b a' b' : FVec Ideal S1x1 .f32)
    (r : Fin 256) (c : Fin 128) :
    tile i q kl kh vl vh a b a' b' (ix2 r c) =
      if c.val < 64 then half i q kl vl a b (ix2 r c) else half i q kh vh a' b' (ix2 r c) := by
  pointwise [tile, lower_at, hlo_ix]

/-- The sink of the half at lane `c` of row `r`. -/
def sinkOf (a b a' b' : FVec Ideal S1x1 .f32) (r : Fin 256) (c : Fin 128) : EReal :=
  if c.val < 64 then (if r.val < 128 then a (ix2 0 0) else b (ix2 0 0)) else (if r.val < 128 then a' (ix2 0 0) else b' (ix2 0 0))

theorem tileE_at (i : grid0.Coords) (kp kc vp vc qa qb : FVec Ideal S1x128x128 .bf16) (a b a' b' : FVec Ideal S1x1 .f32)
    (r : Fin 256) (c : Fin 128) :
    tileE i kp kc vp vc qa qb a b a' b' (ix2 r c) =
      att (i 1).val (r.val % 128) (fun l => cat qa qb r ⟨c.val / 64 * 64 + l.val, by omega⟩ * qscale)
        (fun t l => cat kp kc t ⟨l.val, by omega⟩) (fun t => cat vp vc t ⟨c.val % 64, by omega⟩) (sinkOf a b a' b' r c) := by
  rw [tileE, tile_at, sinkOf]
  by_cases hc : c.val < 64
  · have e1 : c.val / 64 = 0 := by omega
    have e2 : c.val % 64 = c.val := by omega
    rw [if_pos hc, if_pos hc, half_at i _ _ _ _ _ r c (fun l => cat qa qb r ⟨c.val / 64 * 64 + l.val, by omega⟩ * qscale)
      (fun t l => cat kp kc t ⟨l.val, by omega⟩) fun t => ?_]
    · simp only [stack_at, e2]
    · simp only [low_at, scaled_at, stack_at]
      rw [sum_low]
      simp only [e1, Nat.zero_mul, Nat.zero_add]
  · have e1 : c.val / 64 = 1 := by omega
    have e2 : (c.val + 64) % 128 = c.val % 64 := by omega
    rw [if_neg hc, if_neg hc, half_at i _ _ _ _ _ r c (fun l => cat qa qb r ⟨c.val / 64 * 64 + l.val, by omega⟩ * qscale)
      (fun t l => cat kp kc t ⟨l.val, by omega⟩) fun t => ?_]
    · simp only [swapped_at, stack_at, e2]
    · simp only [high_at, scaled_at, swapped_at, stack_at]
      rw [sum_high]
      have e3 : ∀ l : Fin 64, (64 + l.val + 64) % 128 = l.val := fun l => by omega
      simp only [e1, e3, Nat.one_mul]

theorem tileO_at (i : grid0.Coords) (kp kc vp vc qa qb : FVec Ideal S1x128x128 .bf16) (a b a' b' : FVec Ideal S1x1 .f32)
    (r : Fin 256) (c : Fin 128) :
    tileO i kp kc vp vc qa qb a b a' b' (ix2 r c) =
      att (i 1).val (r.val % 128) (fun l => cat qa qb r ⟨c.val / 64 * 64 + l.val, by omega⟩ * qscale)
        (fun t l => cat kp kc t ⟨64 + l.val, by omega⟩) (fun t => cat vp vc t ⟨64 + c.val % 64, by omega⟩) (sinkOf a b a' b' r c) := by
  rw [tileO, tile_at, sinkOf]
  by_cases hc : c.val < 64
  · have e1 : c.val / 64 = 0 := by omega
    have e2 : (c.val + 64) % 128 = 64 + c.val % 64 := by omega
    rw [if_pos hc, if_pos hc, half_at i _ _ _ _ _ r c (fun l => cat qa qb r ⟨c.val / 64 * 64 + l.val, by omega⟩ * qscale)
      (fun t l => cat kp kc t ⟨64 + l.val, by omega⟩) fun t => ?_]
    · simp only [swapped_at, stack_at, e2]
    · simp only [low_at, scaled_at, swapped_at, stack_at]
      rw [sum_low]
      have e3 : ∀ l : Fin 64, (l.val + 64) % 128 = 64 + l.val := fun l => by omega
      simp only [e1, e3, Nat.zero_mul, Nat.zero_add]
  · have e1 : c.val / 64 = 1 := by omega
    have e2 : 64 + c.val % 64 = c.val := by omega
    rw [if_neg hc, if_neg hc, half_at i _ _ _ _ _ r c (fun l => cat qa qb r ⟨c.val / 64 * 64 + l.val, by omega⟩ * qscale)
      (fun t l => cat kp kc t ⟨64 + l.val, by omega⟩) fun t => ?_]
    · simp only [stack_at, e2]
    · simp only [high_at, scaled_at, stack_at]
      rw [sum_high]
      simp only [e1, Nat.one_mul]

/-- Row `t` of the window: a previous block's, then a current one's. -/
def win (p c : FVec Ideal S1x128x256 .bf16) (t : Fin 256) (l : Fin 256) : EReal :=
  if h : t.val < 128 then p (ix3 0 ⟨t.val, h⟩ l) else c (ix3 0 ⟨t.val - 128, by omega⟩ l)

/-- What the body leaves at row `w`, column `c` of its block. -/
def blockAt (n : ℕ) (x0 : FVec Ideal S1x128x1024 .bf16) (x1 x2 x3 x4 : FVec Ideal S1x128x256 .bf16) (x5 : FVec Ideal S1x16 .f32)
    (w : Fin 128) (c : Fin 1024) : EReal :=
  att n w.val (fun l => x0 (ix3 0 w ⟨c.val / 64 * 64 + l.val, by omega⟩) * qscale)
    (fun t l => win x2 x1 t ⟨c.val / 256 * 64 + l.val, by omega⟩) (fun t => win x4 x3 t ⟨c.val / 256 * 64 + c.val % 64, by omega⟩)
    (x5 (ix2 0 ⟨c.val / 64, by omega⟩))

theorem top_at (x : FVec Ideal S256x128 .bf16) (a : Fin 1) (w c : Fin 128) : top x (ix3 a w c) = x (ix2 ⟨w.val, by omega⟩ c) := by
  pointwise [top]
theorem bottom_at (x : FVec Ideal S256x128 .bf16) (a : Fin 1) (w c : Fin 128) : bottom x (ix3 a w c) = x (ix2 ⟨128 + w.val, by omega⟩ c) := by
  pointwise [bottom]

end Cert.KernelIdeal.Swa
-- ==== Proof.SwaBlock.lean ====
module

public import proofs.«01_k».proof.Proof.SwaBody
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Swa

open Cert.KernelIdeal Cert.KernelIdeal.Gen

theorem att_congr {n w w' : ℕ} {q q' : Fin 64 → EReal} {k k' : Fin 256 → Fin 64 → EReal} {v v' : Fin 256 → EReal} {z z' : EReal}
    (hw : w = w') (hq : ∀ l, q l = q' l) (hk : ∀ t l, k t l = k' t l) (hv : ∀ t, v t = v' t) (hz : z = z') :
    att n w q k v z = att n w' q' k' v' z' := by
  obtain rfl := hw
  obtain rfl := funext hq
  obtain rfl : k = k' := funext fun t => funext (hk t)
  obtain rfl := funext hv
  obtain rfl := hz
  rfl

set_option maxHeartbeats 1600000 in
/-- The whole block the body leaves, at its row and column. -/
theorem out_at (i : grid0.Coords) (q : FVec Ideal S1x128x1024 .bf16) (kc kp vc vp : FVec Ideal S1x128x256 .bf16) (z : FVec Ideal S1x16 .f32)
    (y : S1x128x1024.Idx) : out0_6 (F := Ideal) i q kc kp vc vp z y = blockAt (i 1).val q kc kp vc vp z (y 1) (y 2) := by
  idx_vars y
  rw [out_eq]
  canon_tiles x h
  all_goals
    idx_vars x
    first | rw [bottom_at] | rw [top_at]
    first | rw [tileE_at] | rw [tileO_at]
    refine att_congr (by simp only; omega) (fun l => congrArg (· * qscale) ?_) (fun t l => ?_) (fun t => ?_) ?_
    · pointwise [cat]; blk_ext
    · pointwise [cat, win]
      by_cases ht : t.val < 128
      · rw [dif_pos ht, dif_pos ht]; blk_ext
      · rw [dif_neg ht, dif_neg ht]; blk_ext
    · pointwise [cat, win]
      by_cases ht : t.val < 128
      · rw [dif_pos ht, dif_pos ht]; blk_ext
      · rw [dif_neg ht, dif_neg ht]; blk_ext
    · pointwise [sinkOf]
      by_cases hc : x2.val < 64
      · rw [if_pos hc]; exact congrArg (fun k => z (ix2 0 k)) (Fin.ext (by first | (simp only [Fin.isValue]; omega) | (show 0 = y2.val / 64; omega) | (show 1 = y2.val / 64; omega)))
      · rw [if_neg hc]; exact congrArg (fun k => z (ix2 0 k)) (Fin.ext (by first | (simp only [Fin.isValue]; omega) | (show 0 = y2.val / 64; omega) | (show 1 = y2.val / 64; omega)))

end Cert.KernelIdeal.Swa
-- ==== Proof.SwaPack.lean ====
module

public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Swa

open Cert.KernelIdeal Cert.KernelIdeal.Gen

variable (m : (ℓ : Loc nD τ sig) → Buf (Elt Ideal) ℓ)

/-- The pieces of the packed columns. -/
def pieces (u : FVec Ideal S8x2048x16216 .f32) : List ((s : Shape) × (s.Idx → Elt Ideal .f32)) :=
  [
    ⟨S8x2048x3072, extractStridedSlice S8x2048x3072 ![0, 0, 0] u slices_S8x2048x16216_S8x2048x3072_0_0_0⟩,
    ⟨S8x2048x1024, extractStridedSlice S8x2048x1024 ![0, 0, 3080] u slices_S8x2048x16216_S8x2048x1024_0_0_3080⟩,
    ⟨S8x2048x1024, extractStridedSlice S8x2048x1024 ![0, 0, 4104] u slices_S8x2048x16216_S8x2048x1024_0_0_4104⟩,
    ⟨S8x2048x1024, extractStridedSlice S8x2048x1024 ![0, 0, 6488] u slices_S8x2048x16216_S8x2048x1024_0_0_6488⟩,
    ⟨S8x2048x512, extractStridedSlice S8x2048x512 ![0, 0, 5128] u slices_S8x2048x16216_S8x2048x512_0_0_5128⟩,
    ⟨S8x2048x768, extractStridedSlice S8x2048x768 ![0, 0, 5656] u slices_S8x2048x16216_S8x2048x768_0_0_5656⟩,
    ⟨S8x2048x512, extractStridedSlice S8x2048x512 ![0, 0, 7512] u slices_S8x2048x16216_S8x2048x512_0_0_7512⟩,
    ⟨S8x2048x64, extractStridedSlice S8x2048x64 ![0, 0, 6424] u slices_S8x2048x16216_S8x2048x64_0_0_6424⟩,
    ⟨S8x2048x64, concatenate S8x2048x64 2 [⟨S8x2048x32, Host.negf (extractStridedSlice S8x2048x32 ![0, 0, 32] (extractStridedSlice S8x2048x64 ![0, 0, 6424] u slices_S8x2048x16216_S8x2048x64_0_0_6424) slices_S8x2048x64_S8x2048x32_0_0_32)⟩, ⟨S8x2048x32, extractStridedSlice S8x2048x32 ![0, 0, 0] (extractStridedSlice S8x2048x64 ![0, 0, 6424] u slices_S8x2048x16216_S8x2048x64_0_0_6424) slices_S8x2048x64_S8x2048x32_0_0_0⟩] concatenates_S8x2048x32_S8x2048x32_S8x2048x64_d2⟩,
    ⟨S8x2048x128, broadcastInDim S8x2048x128 ![] bcast_S_S8x2048x128 (constant (F := Ideal) S_ .f32 0x00000000#32)⟩,
    ⟨S8x2048x8192, extractStridedSlice S8x2048x8192 ![0, 0, 8024] u slices_S8x2048x16216_S8x2048x8192_0_0_8024⟩]

/-- The columns of the projection in the order of the packed weight. -/
def columns (u : FVec Ideal S8x2048x16216 .f32) : FVec Ideal S8x2048x16384 .f32 :=
  concatenate S8x2048x16384 2 (pieces u) concatenates_S8x2048x3072_S8x2048x1024_S8x2048x1024_S8x2048x1024_S8x2048x512_S8x2048x768_S8x2048x512_S8x2048x64_S8x2048x64_S8x2048x128_S8x2048x8192_S8x2048x16384_d2

/-- The same, in the kernel's format. -/
def packed (u : FVec Ideal S8x2048x16216 .f32) : FVec Ideal S8x2048x16384 .bf16 := truncf .bf16 (columns u) bitsLt_bf16_f32

theorem packed_eq (c : Dev nD) : V m c main_v15 = packed (m ((c : Thread nD τ).loc main_arg0)) := rfl

theorem packed_q_col (u : FVec Ideal S8x2048x16216 .f32) (b : Fin 8) (s : Fin 2048) (j : ℕ) (hj : j < 1024) :
    columns u (ix3 b s ⟨5120 + j, by omega⟩) = u (ix3 b s ⟨6488 + j, by omega⟩) := by
  unfold columns
  refine Eq.trans (concatenate_apply_piece (t := S8x2048x16384) (2 : Fin 3) (pieces u) _ _ 3 (show 3 < 11 by decide) S8x2048x1024
    (extractStridedSlice S8x2048x1024 ![0, 0, 6488] u slices_S8x2048x16216_S8x2048x1024_0_0_6488) rfl rfl 5120 rfl (ix3 b s ⟨0 + j, by omega⟩)
    (fun b hb => ?_) ?_) ?_
  · fin_cases b
    · rfl
    · rfl
    · exact absurd rfl hb
  · show 5120 + (0 + j) = 5120 + j; omega
  · pointwise
    blk_ext

theorem packed_q (c : Dev nD) (b : Fin 8) (s : Fin 2048) (j : ℕ) (hj : j < 1024) :
    V m c main_v15 (ix3 b s ⟨5120 + j, by omega⟩) = m ((c : Thread nD τ).loc main_arg0) (ix3 b s ⟨6488 + j, by omega⟩) :=
  (congrFun (packed_eq m c) _).trans (packed_q_col _ b s j hj)

theorem packed_k_col (u : FVec Ideal S8x2048x16216 .f32) (b : Fin 8) (s : Fin 2048) (j : ℕ) (hj : j < 256) :
    columns u (ix3 b s ⟨7424 + j, by omega⟩) = u (ix3 b s ⟨7512 + j, by omega⟩) := by
  unfold columns
  refine Eq.trans (concatenate_apply_piece (t := S8x2048x16384) (2 : Fin 3) (pieces u) _ _ 6 (show 6 < 11 by decide) S8x2048x512
    (extractStridedSlice S8x2048x512 ![0, 0, 7512] u slices_S8x2048x16216_S8x2048x512_0_0_7512) rfl rfl 7424 rfl (ix3 b s ⟨0 + j, by omega⟩)
    (fun b hb => ?_) ?_) ?_
  · fin_cases b
    · rfl
    · rfl
    · exact absurd rfl hb
  · show 7424 + (0 + j) = 7424 + j; omega
  · pointwise
    blk_ext

theorem packed_k (c : Dev nD) (b : Fin 8) (s : Fin 2048) (j : ℕ) (hj : j < 256) :
    V m c main_v15 (ix3 b s ⟨7424 + j, by omega⟩) = m ((c : Thread nD τ).loc main_arg0) (ix3 b s ⟨7512 + j, by omega⟩) :=
  (congrFun (packed_eq m c) _).trans (packed_k_col _ b s j hj)

theorem packed_v_col (u : FVec Ideal S8x2048x16216 .f32) (b : Fin 8) (s : Fin 2048) (j : ℕ) (hj : j < 256) :
    columns u (ix3 b s ⟨7680 + j, by omega⟩) = u (ix3 b s ⟨7768 + j, by omega⟩) := by
  unfold columns
  refine Eq.trans (concatenate_apply_piece (t := S8x2048x16384) (2 : Fin 3) (pieces u) _ _ 6 (show 6 < 11 by decide) S8x2048x512
    (extractStridedSlice S8x2048x512 ![0, 0, 7512] u slices_S8x2048x16216_S8x2048x512_0_0_7512) rfl rfl 7424 rfl (ix3 b s ⟨256 + j, by omega⟩)
    (fun b hb => ?_) ?_) ?_
  · fin_cases b
    · rfl
    · rfl
    · exact absurd rfl hb
  · show 7424 + (256 + j) = 7680 + j; omega
  · pointwise
    blk_ext

theorem packed_v (c : Dev nD) (b : Fin 8) (s : Fin 2048) (j : ℕ) (hj : j < 256) :
    V m c main_v15 (ix3 b s ⟨7680 + j, by omega⟩) = m ((c : Thread nD τ).loc main_arg0) (ix3 b s ⟨7768 + j, by omega⟩) :=
  (congrFun (packed_eq m c) _).trans (packed_v_col _ b s j hj)

end Cert.KernelIdeal.Swa
-- ==== Proof.SwaFinal.lean ====
module

public import proofs.«01_k».proof.Proof.Gen.KernelIdeal.Value
public import proofs.«01_k».proof.Proof.SwaBlock
public import proofs.«01_k».proof.Proof.SwaPack

@[expose] public section

set_option maxRecDepth 16384

noncomputable section

open Idealize.ShloMosaic Idealize.ShloMosaic.TcCoe Idealize.SL.Sem

namespace Cert.KernelIdeal.Swa

open Cert.KernelIdeal Cert.KernelIdeal.Gen

variable (m : (ℓ : Loc nD τ sig) → Buf (Elt Ideal) ℓ)

theorem idx : ∀ t : Fin cfg0.N, win0_0.index t = ![t.val / 16, t.val % 16, 5] ∧ win0_1.index t = ![t.val / 16, t.val % 16, 29] ∧
    win0_2.index t = ![t.val / 16, t.val % 16 - 1, 29] ∧ win0_3.index t = ![t.val / 16, t.val % 16, 30] ∧
    win0_4.index t = ![t.val / 16, t.val % 16 - 1, 30] ∧ win0_5.index t = ![0, 0] ∧ win0_6.index t = ![t.val / 16, t.val % 16, 0] ∧
    (grid0.coords t 1).val = t.val % 16 ∧ t.val / 16 < 8 :=
  (by decide +kernel : ∀ t : Fin grid0.N, _)

/-- The row of the sequence that is row `t` of the window of block `n`; the first block stands before itself. -/
def krow (n t : ℕ) : ℕ := if t < 128 then (n - 1) * 128 + t else n * 128 + (t - 128)

theorem krow_lt (n t : ℕ) (hn : n < 16) (ht : t < 256) : krow n t < 2048 := by
  unfold krow
  split <;> omega

/-- The result at batch `b`, row `s`, column `c`. -/
def result (u : FVec Ideal S8x2048x16216 .f32) (z : FVec Ideal S16 .f32) (b : Fin 8) (s : Fin 2048) (c : Fin 1024) : EReal :=
  att (s.val / 128) (s.val % 128) (fun l => u (ix3 b s ⟨6488 + (c.val / 64 * 64 + l.val), by omega⟩) * qscale)
    (fun t l => u (ix3 b ⟨krow (s.val / 128) t.val, krow_lt _ _ (by omega) t.isLt⟩ ⟨7512 + (c.val / 256 * 64 + l.val), by omega⟩))
    (fun t => u (ix3 b ⟨krow (s.val / 128) t.val, krow_lt _ _ (by omega) t.isLt⟩ ⟨7768 + (c.val / 256 * 64 + c.val % 64), by omega⟩))
    (z (ix1 ⟨c.val / 64, by omega⟩))

theorem sinks_read (c : Dev nD) (h : Fin 16) :
    V m c main_v16 (ix2 0 h) = m ((c : Thread nD τ).loc main_arg1) (ix1 h) := by
  entry_read
  pointwise

theorem read_q (c : Dev nD) (t : Fin cfg0.N) (w : Fin 128) (j : Fin 1024) :
    iblk m c 0 t (ix3 0 w j) = V m c main_v15 (ix3 (⟨t.val / 16, (idx t).2.2.2.2.2.2.2.2⟩ : Fin 8) (⟨t.val % 16 * 128 + w.val, by omega⟩ : Fin 2048) (⟨5120 + j.val, by omega⟩ : Fin 16384)) := by
  obtain ⟨e0, e1, e2, e3, e4, e5, e6, e7, e8⟩ := idx t
  blk_ext [iblk, e0]

theorem read_kc (c : Dev nD) (t : Fin cfg0.N) (w : Fin 128) (j : Fin 256) :
    iblk m c 1 t (ix3 0 w j) = V m c main_v15 (ix3 (⟨t.val / 16, (idx t).2.2.2.2.2.2.2.2⟩ : Fin 8) (⟨t.val % 16 * 128 + w.val, by omega⟩ : Fin 2048) (⟨7424 + j.val, by omega⟩ : Fin 16384)) := by
  obtain ⟨e0, e1, e2, e3, e4, e5, e6, e7, e8⟩ := idx t
  blk_ext [iblk, e1]

theorem read_kp (c : Dev nD) (t : Fin cfg0.N) (w : Fin 128) (j : Fin 256) :
    iblk m c 2 t (ix3 0 w j) = V m c main_v15 (ix3 (⟨t.val / 16, (idx t).2.2.2.2.2.2.2.2⟩ : Fin 8) (⟨(t.val % 16 - 1) * 128 + w.val, by omega⟩ : Fin 2048) (⟨7424 + j.val, by omega⟩ : Fin 16384)) := by
  obtain ⟨e0, e1, e2, e3, e4, e5, e6, e7, e8⟩ := idx t
  blk_ext [iblk, e2]

theorem read_vc (c : Dev nD) (t : Fin cfg0.N) (w : Fin 128) (j : Fin 256) :
    iblk m c 3 t (ix3 0 w j) = V m c main_v15 (ix3 (⟨t.val / 16, (idx t).2.2.2.2.2.2.2.2⟩ : Fin 8) (⟨t.val % 16 * 128 + w.val, by omega⟩ : Fin 2048) (⟨7680 + j.val, by omega⟩ : Fin 16384)) := by
  obtain ⟨e0, e1, e2, e3, e4, e5, e6, e7, e8⟩ := idx t
  blk_ext [iblk, e3]

theorem read_vp (c : Dev nD) (t : Fin cfg0.N) (w : Fin 128) (j : Fin 256) :
    iblk m c 4 t (ix3 0 w j) = V m c main_v15 (ix3 (⟨t.val / 16, (idx t).2.2.2.2.2.2.2.2⟩ : Fin 8) (⟨(t.val % 16 - 1) * 128 + w.val, by omega⟩ : Fin 2048) (⟨7680 + j.val, by omega⟩ : Fin 16384)) := by
  obtain ⟨e0, e1, e2, e3, e4, e5, e6, e7, e8⟩ := idx t
  blk_ext [iblk, e4]

theorem read_z (c : Dev nD) (t : Fin cfg0.N) (h : Fin 16) : iblk m c 5 t (ix2 0 h) = V m c main_v16 (ix2 0 h) := by
  obtain ⟨e0, e1, e2, e3, e4, e5, e6, e7, e8⟩ := idx t
  blk_ext [iblk, e5]

theorem ix3_congr {n0 n1 n2 : ℕ} (X : (⟨3, ![n0, n1, n2]⟩ : Shape).Idx → EReal) {a a' : Fin n0} {b b' : Fin n1} {d d' : Fin n2}
    (ha : a.val = a'.val) (hb : b.val = b'.val) (hd : d.val = d'.val) : X (ix3 a b d) = X (ix3 a' b' d') := by
  obtain rfl := Fin.ext ha
  obtain rfl := Fin.ext hb
  obtain rfl := Fin.ext hd
  rfl

theorem win_k (c : Dev nD) (t : Fin cfg0.N) (r j : Fin 256) : win (iblk m c 2 t) (iblk m c 1 t) r j =
    m ((c : Thread nD τ).loc main_arg0) (ix3 (⟨t.val / 16, (idx t).2.2.2.2.2.2.2.2⟩ : Fin 8)
      (⟨krow (t.val % 16) r.val, krow_lt _ _ (by omega) r.isLt⟩ : Fin 2048) (⟨7512 + j.val, by omega⟩ : Fin 16216)) := by
  unfold win
  by_cases h : r.val < 128
  · have hr : krow (t.val % 16) r.val = (t.val % 16 - 1) * 128 + r.val := if_pos h
    rw [dif_pos h, read_kp, packed_k _ _ _ _ _ j.isLt]
    exact ix3_congr _ rfl hr.symm rfl
  · have hr : krow (t.val % 16) r.val = t.val % 16 * 128 + (r.val - 128) := if_neg h
    rw [dif_neg h, read_kc, packed_k _ _ _ _ _ j.isLt]
    exact ix3_congr _ rfl hr.symm rfl

theorem win_v (c : Dev nD) (t : Fin cfg0.N) (r j : Fin 256) : win (iblk m c 4 t) (iblk m c 3 t) r j =
    m ((c : Thread nD τ).loc main_arg0) (ix3 (⟨t.val / 16, (idx t).2.2.2.2.2.2.2.2⟩ : Fin 8)
      (⟨krow (t.val % 16) r.val, krow_lt _ _ (by omega) r.isLt⟩ : Fin 2048) (⟨7768 + j.val, by omega⟩ : Fin 16216)) := by
  unfold win
  by_cases h : r.val < 128
  · have hr : krow (t.val % 16) r.val = (t.val % 16 - 1) * 128 + r.val := if_pos h
    rw [dif_pos h, read_vp, packed_v _ _ _ _ _ j.isLt]
    exact ix3_congr _ rfl hr.symm rfl
  · have hr : krow (t.val % 16) r.val = t.val % 16 * 128 + (r.val - 128) := if_neg h
    rw [dif_neg h, read_vc, packed_v _ _ _ _ _ j.isLt]
    exact ix3_congr _ rfl hr.symm rfl

theorem block_result (c : Dev nD) (t : Fin cfg0.N) (w : Fin 128) (x : Fin 1024) (B : Fin 8) (S : Fin 2048) (C : Fin 1024)
    (hB : B.val = t.val / 16) (hS : S.val = t.val % 16 * 128 + w.val) (hC : C.val = x.val) :
    blockAt (t.val % 16) (iblk m c 0 t) (iblk m c 1 t) (iblk m c 2 t) (iblk m c 3 t) (iblk m c 4 t) (iblk m c 5 t) w x =
      result (m ((c : Thread nD τ).loc main_arg0)) (m ((c : Thread nD τ).loc main_arg1)) B S C := by
  have g1 : S.val / 128 = t.val % 16 := by omega
  have g2 : S.val % 128 = w.val := by omega
  have hk : ∀ r : Fin 256, krow (t.val % 16) r.val = krow (S.val / 128) r.val := fun r => by rw [g1]
  obtain rfl := Fin.ext hC
  unfold blockAt result
  refine Eq.trans ?_ (congrArg (fun n => att n _ _ _ _ _) g1.symm)
  refine att_congr g2.symm (fun l => congrArg (fun x => x * qscale) ?_) (fun r l => ?_) (fun r => ?_) ?_
  · rw [read_q, packed_q _ _ _ _ _ (by show C.val / 64 * 64 + l.val < 1024; omega)]
    exact ix3_congr _ hB.symm hS.symm rfl
  · rw [win_k]
    exact ix3_congr _ hB.symm (hk r) rfl
  · rw [win_v]
    exact ix3_congr _ hB.symm (hk r) rfl
  · rw [read_z, sinks_read]

theorem final (c : Dev nD) : (dats m 0 c).arrAt 6 (cfgs 0).N =
    (fun y => result (m ((c : Thread nD τ).loc main_arg0)) (m ((c : Thread nD τ).loc main_arg1)) (y 0) (y 1) (y 2) : FVec Ideal S8x2048x1024 .bf16) := by
  refine (dats m 0 c).arrAt_eq_of_covers 6 _ (by decide +kernel) fun t _ y => ?_
  blk_simp
  rw [after0_6]
  refine (out_at _ _ _ _ _ _ _ y).trans ?_
  have e6 : win0_6.index t = ![t.val / 16, t.val % 16, 0] := (idx t).2.2.2.2.2.2.1
  have e7 : (grid0.coords t 1).val = t.val % 16 := (idx t).2.2.2.2.2.2.2.1
  have f0 : (((cfg0.win 6).blk t).view.emb y 0).val = t.val / 16 := by blk_simp [e6]
  have f1 : (((cfg0.win 6).blk t).view.emb y 1).val = t.val % 16 * 128 + (y 1).val := by blk_simp [e6]
  have f2 : (((cfg0.win 6).blk t).view.emb y 2).val = (y 2).val := by blk_simp [e6]
  rw [e7]
  exact block_result m c t (y 1) (y 2) _ _ _ f0 f1 f2

end Cert.KernelIdeal.Swa
-- ==== Proof.SwaRefDefs.lean ====
module

public import proofs.«01_k».proof.Proof.Gen.ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

/-- The keys of the projection, in 16 blocks of 128 rows. -/
def keys (u : FVec Ideal S8x2048x16216 .f32) : FVec Ideal S8x16x128x4x64 .f32 :=
  shapeCast S8x16x128x4x64 (shapeCast S8x2048x4x64 (extractStridedSlice S8x2048x256 ![0, 0, 7512] u slices_S8x2048x16216_S8x2048x256_0_0_7512)
    shapeCasts_S8x2048x256_S8x2048x4x64) shapeCasts_S8x2048x4x64_S8x16x128x4x64

/-- The values of the projection, in 16 blocks of 128 rows. -/
def vals (u : FVec Ideal S8x2048x16216 .f32) : FVec Ideal S8x16x128x4x64 .f32 :=
  shapeCast S8x16x128x4x64 (shapeCast S8x2048x4x64 (extractStridedSlice S8x2048x256 ![0, 0, 7768] u slices_S8x2048x16216_S8x2048x256_0_0_7768)
    shapeCasts_S8x2048x256_S8x2048x4x64) shapeCasts_S8x2048x4x64_S8x16x128x4x64

/-- The queries of the projection, by block, key head and query head of that key head. -/
def queries (u : FVec Ideal S8x2048x16216 .f32) : FVec Ideal S8x16x128x4x4x64 .f32 :=
  shapeCast S8x16x128x4x4x64 (shapeCast S8x2048x16x64 (extractStridedSlice S8x2048x1024 ![0, 0, 6488] u slices_S8x2048x16216_S8x2048x1024_0_0_6488)
    shapeCasts_S8x2048x1024_S8x2048x16x64) shapeCasts_S8x2048x16x64_S8x16x128x4x4x64

/-- Each block behind the one before it, zeros before the first. -/
def pairs (x : FVec Ideal S8x16x128x4x64 .f32) : FVec Ideal S8x16x256x4x64 .f32 :=
  concatenate S8x16x256x4x64 2 [⟨S8x16x128x4x64, (concatenate S8x16x128x4x64 1 [⟨S8x1x128x4x64,
    (broadcastInDim S8x1x128x4x64 ![] bcast_S_S8x1x128x4x64 (constant S_ .f32 0x00000000#32))⟩, ⟨S8x15x128x4x64,
    (extractStridedSlice S8x15x128x4x64 ![0, 0, 0, 0, 0] x slices_S8x16x128x4x64_S8x15x128x4x64_0_0_0_0_0)⟩]
    concatenates_S8x1x128x4x64_S8x15x128x4x64_S8x16x128x4x64_d1)⟩, ⟨S8x16x128x4x64, x⟩]
    concatenates_S8x16x128x4x64_S8x16x128x4x64_S8x16x256x4x64_d2

/-- The row and column numbers of a window: a key at most the query's place, and less than 128 behind it. -/
def near : IVec S128x256 1 :=
  andi (cmpi .sle (broadcastInDim S128x256 ![0, 1] bcast_S1x256_S128x256_0_1 (broadcastInDim S1x256 ![1] bcast_S256_S1x256_1 (iotaInDim S256 32 0)))
      (broadcastInDim S128x256 ![0, 1] bcast_S128x1_S128x256_0_1 (addi (broadcastInDim S128x1 ![0] bcast_S128_S128x1_0 (iotaInDim S128 32 0))
        (broadcastInDim S128x1 ![] bcast_S_S128x1 (constantI S_ 32 128#32)))))
    (cmpi .slt (subi (broadcastInDim S128x256 ![0, 1] bcast_S128x1_S128x256_0_1 (addi (broadcastInDim S128x1 ![0] bcast_S128_S128x1_0 (iotaInDim S128 32 0))
        (broadcastInDim S128x1 ![] bcast_S_S128x1 (constantI S_ 32 128#32))))
        (broadcastInDim S128x256 ![0, 1] bcast_S1x256_S128x256_0_1 (broadcastInDim S1x256 ![1] bcast_S256_S1x256_1 (iotaInDim S256 32 0))))
      (broadcastInDim S128x256 ![] bcast_S_S128x256 (constantI S_ 32 128#32)))

/-- A key that lies in the sequence. -/
def inside : IVec S16x1x256 1 :=
  cmpi .sge (subi (addi (broadcastInDim S16x1x256 ![0, 1, 2] bcast_S16x1x1_S16x1x256_0_1_2
      (muli (broadcastInDim S16x1x1 ![0] bcast_S16_S16x1x1_0 (iotaInDim S16 32 0)) (broadcastInDim S16x1x1 ![] bcast_S_S16x1x1 (constantI S_ 32 128#32))))
      (broadcastInDim S16x1x256 ![0, 1, 2] bcast_S1x1x256_S16x1x256_0_1_2 (broadcastInDim S1x1x256 ![1, 2] bcast_S1x256_S1x1x256_1_2
        (broadcastInDim S1x256 ![1] bcast_S256_S1x256_1 (iotaInDim S256 32 0)))))
      (broadcastInDim S16x1x256 ![] bcast_S_S16x1x256 (constantI S_ 32 128#32)))
    (broadcastInDim S16x1x256 ![] bcast_S_S16x1x256 (constantI S_ 32 0#32))

/-- The mask of the window. -/
def mask : IVec S8x16x4x4x128x256 1 :=
  broadcastInDim S8x16x4x4x128x256 ![0, 1, 2, 3, 4, 5] bcast_S1x16x1x1x128x256_S8x16x4x4x128x256_0_1_2_3_4_5
    (broadcastInDim S1x16x1x1x128x256 ![1, 4, 5] bcast_S16x128x256_S1x16x1x1x128x256_1_4_5
      (andi (broadcastInDim S16x128x256 ![0, 1, 2] bcast_S1x128x256_S16x128x256_0_1_2 (broadcastInDim S1x128x256 ![1, 2] bcast_S128x256_S1x128x256_1_2 near))
        (broadcastInDim S16x128x256 ![0, 1, 2] bcast_S16x1x256_S16x128x256_0_1_2 inside)))

/-- The products of queries and keys. -/
def dots (u : FVec Ideal S8x2048x16216 .f32) : FVec Ideal S8x16x4x256x128x4 .f32 :=
  Host.dotGeneral dot_S8x16x256x4x64_S8x16x128x4x4x64_S8x16x4x256x128x4_4_5_2_24_013_013 none (pairs (keys u)) (queries u)

/-- The scores, masked, and the sinks behind them. -/
def scores (u : FVec Ideal S8x2048x16216 .f32) (z : FVec Ideal S16 .f32) : FVec Ideal S8x16x4x4x128x257 .f32 :=
  concatenate S8x16x4x4x128x257 5 [⟨S8x16x4x4x128x256, (select mask
      (mulf (transpose S8x16x4x4x128x256 [0, 1, 2, 5, 4, 3] (dots u) transposes_S8x16x4x256x128x4_S8x16x4x4x128x256_0_1_2_5_4_3)
        (broadcastInDim S8x16x4x4x128x256 ![] bcast_S_S8x16x4x4x128x256 (constant S_ .f32 0x3E000000#32)))
      (broadcastInDim S8x16x4x4x128x256 ![] bcast_S_S8x16x4x4x128x256 (id (constant S_ .f32 0xFF800000#32))))⟩,
    ⟨S8x16x4x4x128x1, (broadcastInDim S8x16x4x4x128x1 ![0, 1, 2, 3, 4, 5] bcast_S1x1x4x4x1x1_S8x16x4x4x128x1_0_1_2_3_4_5
      (shapeCast S1x1x4x4x1x1 z shapeCasts_S16_S1x1x4x4x1x1))⟩] concatenates_S8x16x4x4x128x256_S8x16x4x4x128x1_S8x16x4x4x128x257_d5

/-- The greatest of each row. -/
def tops (x : FVec Ideal S8x16x4x4x128x257 .f32) : FVec Ideal S8x16x4x4x128 .f32 :=
  maximumf (broadcastInDim S8x16x4x4x128 ![] bcast_S_S8x16x4x4x128 (constant S_ .f32 0xFF800000#32))
    (Host.reduce FloatOps.maximumf x (constant S_ .f32 0xFF800000#32) reducesTo_S8x16x4x4x128x257_S8x16x4x4x128_d5 h_S_)

/-- A row's value at every place of it. -/
def spread (x : FVec Ideal S8x16x4x4x128 .f32) : FVec Ideal S8x16x4x4x128x257 .f32 :=
  broadcastInDim S8x16x4x4x128x257 ![0, 1, 2, 3, 4, 5] bcast_S8x16x4x4x128x1_S8x16x4x4x128x257_0_1_2_3_4_5
    (broadcastInDim S8x16x4x4x128x1 ![0, 1, 2, 3, 4] bcast_S8x16x4x4x128_S8x16x4x4x128x1_0_1_2_3_4 x)

/-- The exponentials of a softmax. -/
def exps (x : FVec Ideal S8x16x4x4x128x257 .f32) : FVec Ideal S8x16x4x4x128x257 .f32 := Host.exp (subf x (spread (tops x)))

/-- The sums of rows. -/
def sums (x : FVec Ideal S8x16x4x4x128x257 .f32) : FVec Ideal S8x16x4x4x128 .f32 :=
  Host.reduceAdd x (constant S_ .f32 0x00000000#32) reducesTo_S8x16x4x4x128x257_S8x16x4x4x128_d5 h_S_

/-- The weights of the keys, the sink's left off. -/
def probs (e : FVec Ideal S8x16x4x4x128x257 .f32) : FVec Ideal S8x16x4x4x128x256 .f32 :=
  extractStridedSlice S8x16x4x4x128x256 ![0, 0, 0, 0, 0, 0] (Host.divf e (spread (sums e))) slices_S8x16x4x4x128x257_S8x16x4x4x128x256_0_0_0_0_0_0

/-- The result out of the weights. -/
def mixed (u : FVec Ideal S8x2048x16216 .f32) (p : FVec Ideal S8x16x4x4x128x256 .f32) : FVec Ideal S8x2048x1024 .bf16 :=
  truncf .bf16 (shapeCast S8x2048x1024 (transpose S8x16x128x4x4x64 [0, 1, 5, 2, 4, 3]
    (Host.dotGeneral dot_S8x16x256x4x64_S8x16x4x4x128x256_S8x16x4x64x4x128_2_5_4_34_013_012 none (pairs (vals u)) p)
    transposes_S8x16x4x64x4x128_S8x16x128x4x4x64_0_1_5_2_4_3) shapeCasts_S8x16x128x4x4x64_S8x2048x1024) bitsLt_bf16_f32

end Cert.ReferenceIdeal.Swa
-- ==== Proof.SwaRefRun.lean ====
module

public import proofs.«01_k».proof.Proof.Gen.ReferenceIdeal.Run
public import proofs.«01_k».proof.Proof.SwaRefDefs
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem res_eq (m : (ℓ : Loc nD τ sig) → Buf (Elt Ideal) ℓ) (c : Dev nD) :
    Value.res_main_v74 m c = mixed (m ((c.tc : Thread nD τ).loc main_arg0))
      (probs (exps (scores (m ((c.tc : Thread nD τ).loc main_arg0)) (m ((c.tc : Thread nD τ).loc main_arg1))))) := rfl

end Cert.ReferenceIdeal.Swa
-- ==== Proof.SwaMath.lean ====
module

public import Idealize.ShloMosaic.PureOps.Ideal
public import Mathlib.Analysis.SpecialFunctions.Pow.Real

@[expose] public section

noncomputable section

open Idealize.ShloMosaic

namespace Cert.Soft

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The greatest of values below infinity, one of them a real number, is a real number. -/
theorem fold_real {ι : Type} [Fintype ι] (S : ι → EReal) (h : ∀ i, S i < ⊤) (a : ι) (z : ℝ) (ha : S a = z) :
    ∃ M : ℝ, Finset.fold max ⊥ S Finset.univ = (M : EReal) := by
  have h1 : Finset.fold max ⊥ S Finset.univ < ⊤ := (Finset.fold_max_lt _).2 ⟨bot_lt_top, fun i _ => h i⟩
  have h2 : (z : EReal) ≤ Finset.fold max ⊥ S Finset.univ := (Finset.le_fold_max _).2 (Or.inr ⟨a, Finset.mem_univ _, ha.ge⟩)
  refine ⟨(Finset.fold max ⊥ S Finset.univ).toReal, (EReal.coe_toReal h1.ne fun e => ?_).symm⟩
  rw [e] at h2
  exact absurd h2 (not_le.2 (EReal.bot_lt_coe z))

theorem max_real {ι : Type} [Fintype ι] (S : ι → EReal) (h : ∀ i, S i < ⊤) (z : ℝ) :
    ∃ M : ℝ, max (Finset.fold max ⊥ S Finset.univ) (z : EReal) = (M : EReal) := by
  have h1 : Finset.fold max ⊥ S Finset.univ < ⊤ := (Finset.fold_max_lt _).2 ⟨bot_lt_top, fun i _ => h i⟩
  have h2 : (z : EReal) ≤ max (Finset.fold max ⊥ S Finset.univ) (z : EReal) := le_max_right _ _
  have h3 : max (Finset.fold max ⊥ S Finset.univ) (z : EReal) < ⊤ := max_lt h1 (EReal.coe_lt_top z)
  refine ⟨(max (Finset.fold max ⊥ S Finset.univ) (z : EReal)).toReal, (EReal.coe_toReal h3.ne fun e => ?_).symm⟩
  rw [e] at h2
  exact absurd h2 (not_le.2 (EReal.bot_lt_coe z))

/-- Softmax over the places with `P`, with a sink `z` in the denominator, of the values `v`. -/
def soft {N : ℕ} (P : Fin N → Prop) [DecidablePred P] (x v : Fin N → ℝ) (z : ℝ) : ℝ :=
  (∑ t, (if P t then Real.exp (x t) else 0) * v t) / ((∑ t, if P t then Real.exp (x t) else 0) + Real.exp z)

theorem den_pos {N : ℕ} (P : Fin N → Prop) [DecidablePred P] (x : Fin N → ℝ) (z : ℝ) :
    0 < (∑ t, if P t then Real.exp (x t) else 0) + Real.exp z := by
  refine add_pos_of_nonneg_of_pos (Finset.sum_nonneg fun t _ => ?_) (Real.exp_pos z)
  split
  · exact (Real.exp_pos _).le
  · exact le_rfl

theorem div_real (a b : ℝ) (h : b ≠ 0) : Ideal.div (a : EReal) (b : EReal) = ((a / b : ℝ) : EReal) := by
  rw [Ideal.div_coe h, ← EReal.coe_mul, mul_one_div]

theorem exp2_log (y M : ℝ) : Ideal.exp2 ((y * (Real.log 2)⁻¹ : ℝ) - (M : EReal)) = ((Real.exp y * Real.exp (-(Real.log 2 * M)) : ℝ) : EReal) := by
  have h : Real.log 2 ≠ 0 := (Real.log_pos one_lt_two).ne'
  rw [← EReal.coe_sub, Ideal.exp2_coe]
  refine congrArg _ ?_
  rw [← Real.exp_add]
  refine (Real.rpow_def_of_pos two_pos _).trans (congrArg Real.exp ?_)
  field_simp
  ring

theorem exp_sub (y M : ℝ) : Ideal.exp ((y : EReal) - (M : EReal)) = ((Real.exp y * Real.exp (-M) : ℝ) : EReal) := by
  rw [← EReal.coe_sub, Ideal.exp_coe, ← Real.exp_add, sub_eq_add_neg]

theorem ratio {N : ℕ} (P : Fin N → Prop) [DecidablePred P] (x v : Fin N → ℝ) (z c : ℝ) (hc : c ≠ 0) :
    (∑ t, (if P t then Real.exp (x t) else 0) * c * v t) / ((∑ t, (if P t then Real.exp (x t) else 0) * c) + Real.exp z * c) = soft P x v z := by
  have e1 : (∑ t, (if P t then Real.exp (x t) else 0) * c * v t) = (∑ t, (if P t then Real.exp (x t) else 0) * v t) * c := by
    rw [Finset.sum_mul]; exact Finset.sum_congr rfl fun t _ => by ring
  rw [e1, ← Finset.sum_mul, ← add_mul, mul_div_mul_right _ _ hc, soft]

/-- Softmax by powers of two and a shift by any real number, divided at the end. -/
theorem kernel_soft {N : ℕ} (P : Fin N → Prop) [DecidablePred P] (x v : Fin N → ℝ) (z M : ℝ) (S : Fin N → EReal)
    (hS : ∀ t, S t = if P t then ((x t * (Real.log 2)⁻¹ : ℝ) : EReal) else ⊥) :
    Ideal.div (∑ t, Ideal.exp2 (S t - (M : EReal)) * (v t : EReal))
      ((∑ t, Ideal.exp2 (S t - (M : EReal))) + Ideal.exp2 (((z * (Real.log 2)⁻¹ : ℝ) : EReal) - (M : EReal))) = (soft P x v z : EReal) := by
  have e : ∀ t, Ideal.exp2 (S t - (M : EReal)) = (((if P t then Real.exp (x t) else 0) * Real.exp (-(Real.log 2 * M)) : ℝ) : EReal) := fun t => by
    rw [hS t]
    by_cases h : P t
    · rw [if_pos h, if_pos h, exp2_log]
    · rw [if_neg h, if_neg h, zero_mul, EReal.bot_sub, Ideal.exp2_bot]; rfl
  simp only [e, exp2_log, ← EReal.coe_mul]
  rw [coe_sum, coe_sum, ← EReal.coe_add, div_real, ratio _ _ _ _ _ (Real.exp_pos _).ne']
  rw [← Finset.sum_mul, ← add_mul]
  exact (mul_pos (den_pos P x z) (Real.exp_pos _)).ne'

/-- Softmax by exponentials and a shift by any real number, divided first. -/
theorem host_soft {N : ℕ} (P : Fin N → Prop) [DecidablePred P] (x v v' : Fin N → ℝ) (z M : ℝ) (S : Fin N → EReal)
    (hS : ∀ t, S t = if P t then (x t : EReal) else ⊥) (hv : ∀ t, P t → v' t = v t) :
    ∑ t, (v' t : EReal) * Ideal.div (Ideal.exp (S t - (M : EReal))) ((∑ t, Ideal.exp (S t - (M : EReal))) + Ideal.exp ((z : EReal) - (M : EReal))) =
      (soft P x v z : EReal) := by
  have e : ∀ t, Ideal.exp (S t - (M : EReal)) = (((if P t then Real.exp (x t) else 0) * Real.exp (-M) : ℝ) : EReal) := fun t => by
    rw [hS t]
    by_cases h : P t
    · rw [if_pos h, if_pos h, exp_sub]
    · rw [if_neg h, if_neg h, zero_mul, EReal.bot_sub, Ideal.exp_bot]; rfl
  have d : (∑ t, (if P t then Real.exp (x t) else 0) * Real.exp (-M)) + Real.exp z * Real.exp (-M) ≠ 0 := by
    rw [← Finset.sum_mul, ← add_mul]
    exact (mul_pos (den_pos P x z) (Real.exp_pos _)).ne'
  simp only [e, exp_sub]
  rw [coe_sum, ← EReal.coe_add]
  simp only [div_real _ _ d, ← EReal.coe_mul]
  rw [coe_sum, ← ratio P x v z (Real.exp (-M)) (Real.exp_pos _).ne', Finset.sum_div]
  refine congrArg _ (Finset.sum_congr rfl fun t _ => ?_)
  by_cases h : P t
  · rw [hv t h]; ring
  · rw [if_neg h]; ring

end Cert.Soft
-- ==== Proof.SwaRefA.lean ====
module

public import proofs.«01_k».proof.Proof.SwaRefDefs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem keys_at (u : FVec Ideal S8x2048x16216 .f32) (b : Fin 8) (n : Fin 16) (t : Fin 128) (h : Fin 4) (l : Fin 64) :
    keys u (ix5 b n t h l) = u (ix3 b ⟨n.val * 128 + t.val, by omega⟩ ⟨7512 + (h.val * 64 + l.val), by omega⟩) := by
  pointwise [keys]
  blk_ext

theorem vals_at (u : FVec Ideal S8x2048x16216 .f32) (b : Fin 8) (n : Fin 16) (t : Fin 128) (h : Fin 4) (l : Fin 64) :
    vals u (ix5 b n t h l) = u (ix3 b ⟨n.val * 128 + t.val, by omega⟩ ⟨7768 + (h.val * 64 + l.val), by omega⟩) := by
  pointwise [vals]
  blk_ext

theorem queries_at (u : FVec Ideal S8x2048x16216 .f32) (b : Fin 8) (n : Fin 16) (w : Fin 128) (h g : Fin 4) (l : Fin 64) :
    queries u (ix6 b n w h g l) =
      u (ix3 b ⟨n.val * 128 + w.val, by omega⟩ ⟨6488 + ((h.val * 4 + g.val) * 64 + l.val), by omega⟩) := by
  pointwise [queries]
  blk_ext

/-- A row of a window: of the block before (zero before the first), or of the block itself. -/
def row (x : Fin 16 → Fin 128 → EReal) (n : Fin 16) (t : Fin 256) : EReal :=
  if ht : t.val < 128 then (if n.val < 1 then 0 else x ⟨n.val - 1, by omega⟩ ⟨t.val, ht⟩) else x n ⟨t.val - 128, by omega⟩

theorem pairs_at (x : FVec Ideal S8x16x128x4x64 .f32) (b : Fin 8) (n : Fin 16) (t : Fin 256) (h : Fin 4) (l : Fin 64) :
    pairs x (ix5 b n t h l) = row (fun n t => x (ix5 b n t h l)) n t := by
  pointwise [pairs, row]
  by_cases ht : t.val < 128
  · by_cases hn : n.val < 1
    · simp only [dif_pos ht, dif_pos hn, if_pos hn]
    · simp only [dif_pos ht, dif_neg hn, if_neg hn]
  · simp only [dif_neg ht]

end Cert.ReferenceIdeal.Swa
-- ==== Proof.SwaRefB.lean ====
module

public import proofs.«01_k».proof.Proof.SwaRefDefs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem dots_at (u : FVec Ideal S8x2048x16216 .f32) (b : Fin 8) (n : Fin 16) (h g : Fin 4) (w : Fin 128) (t : Fin 256) :
    dots u (ix6 b n h t w g) = ∑ l : Fin 64, pairs (keys u) (ix5 b n t h l) * queries u (ix6 b n w h g l) := by
  pointwise [dots]

theorem scores_at (u : FVec Ideal S8x2048x16216 .f32) (z : FVec Ideal S16 .f32) (b : Fin 8) (n : Fin 16) (h g : Fin 4) (w : Fin 128) (t : Fin 257) :
    scores u z (ix6 b n h g w t) = if ht : t.val < 256 then Scalar.select (mask (ix6 b n h g w ⟨t.val, ht⟩))
      (dots u (ix6 b n h ⟨t.val, ht⟩ w g) * Ideal.ofBits .f32 0x3E000000#32) (Ideal.ofBits .f32 0xFF800000#32)
      else z (ix1 ⟨h.val * 4 + g.val, by omega⟩) := by
  pointwise [scores]
  rfl

theorem spread_at (x : FVec Ideal S8x16x4x4x128 .f32) (b : Fin 8) (n : Fin 16) (h g : Fin 4) (w : Fin 128) (t : Fin 257) :
    spread x (ix6 b n h g w t) = x (ix5 b n h g w) := by
  pointwise [spread]

end Cert.ReferenceIdeal.Swa
-- ==== Proof.SwaRefC.lean ====
module

public import proofs.«01_k».proof.Proof.SwaRefDefs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem reduces : S8x16x4x4x128x257.Reduces [5] S8x16x4x4x128 := by decide

theorem lift_at (b : Fin 8) (n : Fin 16) (h g : Fin 4) (w : Fin 128) (t : Fin 257) :
    reduces.lift (ix5 b n h g w) t = ix6 b n h g w t := by
  funext a
  fin_cases a <;> rfl

theorem tops_at (x : FVec Ideal S8x16x4x4x128x257 .f32) (b : Fin 8) (n : Fin 16) (h g : Fin 4) (w : Fin 128) :
    tops x (ix5 b n h g w) = Finset.fold max ⊥ (fun t : Fin 257 => x (ix6 b n h g w t)) Finset.univ := by
  have z : Ideal.ofBits .f32 0xFF800000#32 = ⊥ := by simp [Ideal.ofBits, Ideal.ieee]
  have f : (x ∘ reduces.lift (ix5 b n h g w)) = fun t : Fin 257 => x (ix6 b n h g w t) := funext fun t => congrArg x (lift_at b n h g w t)
  unfold tops
  rw [maximumf_apply, Host.reduce_eq_fold_single FloatOps.maximumf x _ _ reduces, f]
  change max (Ideal.ofBits .f32 0xFF800000#32) (Finset.fold max (Ideal.ofBits .f32 0xFF800000#32) (fun t : Fin 257 => x (ix6 b n h g w t)) Finset.univ) = _
  rw [z]
  exact max_eq_right bot_le

theorem sums_at (x : FVec Ideal S8x16x4x4x128x257 .f32) (b : Fin 8) (n : Fin 16) (h g : Fin 4) (w : Fin 128) :
    sums x (ix5 b n h g w) = ∑ t : Fin 257, x (ix6 b n h g w t) := by
  pointwise [sums]
  refine (congrArg (fun q : EReal => 0 + q) (reduces.sum_filter_drop_single x (ix5 b n h g w))).trans ?_
  rw [zero_add]
  exact Finset.sum_congr rfl fun t _ => congrArg x (lift_at b n h g w t)

end Cert.ReferenceIdeal.Swa
-- ==== Proof.SwaRefD.lean ====
module

public import proofs.«01_k».proof.Proof.SwaRefDefs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem mixed_at (u : FVec Ideal S8x2048x16216 .f32) (p : FVec Ideal S8x16x4x4x128x256 .f32) (b : Fin 8) (n : Fin 16) (w : Fin 128) (h g : Fin 4) (d : Fin 64) :
    mixed u p (ix3 b ⟨n.val * 128 + w.val, by omega⟩ ⟨h.val * 256 + g.val * 64 + d.val, by omega⟩) =
      ∑ t : Fin 256, pairs (vals u) (ix5 b n t h d) * p (ix6 b n h g w t) := by
  pointwise [mixed]

end Cert.ReferenceIdeal.Swa
-- ==== Proof.SwaRefMask.lean ====
module

public import proofs.«01_k».proof.Proof.SwaRefDefs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen

theorem le_word (w t : ℕ) (hw : w < 128) (ht : t < 256) :
    IntOp.cmpi CmpIPredicate.sle (BitVec.ofNat 32 t) (IntOp.addi (BitVec.ofNat 32 w) 128#32) = BitVec.ofBool (decide (t ≤ w + 128)) := by
  simp only [IntOp.cmpi, IntOp.addi]
  congr 1
  rw [BitVec.sle, decide_eq_decide]
  simp only [BitVec.toInt_eq_toNat_cond, BitVec.toNat_add, BitVec.toNat_ofNat]
  omega

theorem lt_word (w t : ℕ) (hw : w < 128) (ht : t < 256) :
    IntOp.cmpi CmpIPredicate.slt (IntOp.subi (IntOp.addi (BitVec.ofNat 32 w) 128#32) (BitVec.ofNat 32 t)) 128#32 = BitVec.ofBool (decide (w < t)) := by
  simp only [IntOp.cmpi, IntOp.addi, IntOp.subi]
  congr 1
  rw [BitVec.slt, decide_eq_decide]
  simp only [BitVec.toInt_eq_toNat_cond, BitVec.toNat_add, BitVec.toNat_sub, BitVec.toNat_ofNat]
  omega

theorem ge_word (n t : ℕ) (hn : n < 16) (ht : t < 256) :
    IntOp.cmpi CmpIPredicate.sge (IntOp.subi (IntOp.addi (IntOp.muli (BitVec.ofNat 32 n) 128#32) (BitVec.ofNat 32 t)) 128#32) 0#32 =
      BitVec.ofBool (decide (0 < n ∨ 128 ≤ t)) := by
  simp only [IntOp.cmpi, IntOp.addi, IntOp.subi, IntOp.muli]
  congr 1
  rw [BitVec.sle, decide_eq_decide]
  simp only [BitVec.toInt_eq_toNat_cond, BitVec.toNat_add, BitVec.toNat_sub, BitVec.toNat_mul, BitVec.toNat_ofNat]
  omega

theorem and_word (p q r : Prop) [Decidable p] [Decidable q] [Decidable r] :
    IntOp.andi (IntOp.andi (BitVec.ofBool (decide p)) (BitVec.ofBool (decide q))) (BitVec.ofBool (decide r)) =
      BitVec.ofBool (decide ((q ∧ p) ∧ r)) := by
  by_cases hp : p <;> by_cases hq : q <;> by_cases hr : r <;> simp only [hp, hq, hr, decide_true, decide_false, and_true, and_false] <;> rfl

theorem mask_at (b : Fin 8) (n : Fin 16) (h g : Fin 4) (w : Fin 128) (t : Fin 256) :
    mask (ix6 b n h g w t) = BitVec.ofBool (decide ((w.val < t.val ∧ t.val ≤ w.val + 128) ∧ (0 < n.val ∨ 128 ≤ t.val))) := by
  pointwise [mask, near, inside, le_word, lt_word, ge_word]
  exact and_word _ _ _

end Cert.ReferenceIdeal.Swa
-- ==== Proof.SwaEq.lean ====
module

public import proofs.«01_k».proof.Proof.SwaFinal
public import proofs.«01_k».proof.Proof.SwaMath
public import proofs.«01_k».proof.Proof.SwaRefA
public import proofs.«01_k».proof.Proof.SwaRefB
public import proofs.«01_k».proof.Proof.SwaRefC
public import proofs.«01_k».proof.Proof.SwaRefD
public import proofs.«01_k».proof.Proof.SwaRefMask

@[expose] public section

set_option maxRecDepth 16384

noncomputable section

open Idealize.ShloMosaic Idealize.ShloMosaic.TcCoe Idealize.SL.Sem

namespace Cert.Swa

open Cert.KernelIdeal.Swa (att seen krow krow_lt result log2e qscale)
open Cert.ReferenceIdeal.Swa

theorem row_eq (X : Fin 2048 → EReal) (n : Fin 16) (t : Fin 256) :
    row (fun n t => X ⟨n.val * 128 + t.val, by omega⟩) n t =
      if t.val < 128 ∧ n.val < 1 then 0 else X ⟨krow n.val t.val, krow_lt _ _ n.isLt t.isLt⟩ := by
  unfold row
  by_cases ht : t.val < 128
  · rw [dif_pos ht]
    by_cases hn : n.val < 1
    · rw [if_pos hn, if_pos ⟨ht, hn⟩]
    · rw [if_neg hn, if_neg fun h => hn h.2]
      exact congrArg X (Fin.ext (if_pos ht).symm)
  · rw [dif_neg ht, if_neg fun h => ht h.1]
    exact congrArg X (Fin.ext (if_neg ht).symm)

theorem exps_at (x : FVec Ideal Cert.ReferenceIdeal.S8x16x4x4x128x257 .f32) (b : Fin 8) (n : Fin 16) (h g : Fin 4) (w : Fin 128) (t : Fin 257) :
    exps x (ix6 b n h g w t) = Ideal.exp (x (ix6 b n h g w t) - tops x (ix5 b n h g w)) := by
  rw [← spread_at (tops x) b n h g w t]
  rfl

theorem probs_at (e : FVec Ideal Cert.ReferenceIdeal.S8x16x4x4x128x257 .f32) (b : Fin 8) (n : Fin 16) (h g : Fin 4) (w : Fin 128) (t : Fin 256) :
    probs e (ix6 b n h g w t) = Ideal.div (e (ix6 b n h g w ⟨t.val, by omega⟩)) (sums e (ix5 b n h g w)) := by
  rw [← spread_at (sums e) b n h g w ⟨t.val, by omega⟩]
  pointwise [probs]

theorem eighth : Ideal.ofBits .f32 0x3E000000#32 = ((1 / 8 : ℝ) : EReal) := by
  have h : ((8388608 : ℝ) : EReal) * (((2 ^ 26 : ℝ)⁻¹ : ℝ) : EReal) = ((8⁻¹ : ℝ) : EReal) := by
    rw [← EReal.coe_mul]
    norm_num
  simpa [Ideal.ofBits, Ideal.ieee] using h

theorem negInf : Ideal.ofBits .f32 0xFF800000#32 = ⊥ := by simp [Ideal.ofBits, Ideal.ieee]

variable (r : (⟨3, ![8, 2048, 16216]⟩ : Shape).Idx → ℝ) (y : (⟨1, ![16]⟩ : Shape).Idx → ℝ)

/-- The scores of a query row, as real numbers. -/
def score (b : Fin 8) (n : Fin 16) (h g : Fin 4) (w : Fin 128) (t : Fin 256) : ℝ :=
  (∑ l : Fin 64, r (ix3 b ⟨n.val * 128 + w.val, by omega⟩ ⟨6488 + ((h.val * 4 + g.val) * 64 + l.val), by omega⟩) *
    r (ix3 b ⟨krow n.val t.val, krow_lt _ _ n.isLt t.isLt⟩ ⟨7512 + (h.val * 64 + l.val), by omega⟩)) * (1 / 8)

/-- A column of the values of a window. -/
def value (b : Fin 8) (n : Fin 16) (h : Fin 4) (d : Fin 64) (t : Fin 256) : ℝ :=
  r (ix3 b ⟨krow n.val t.val, krow_lt _ _ n.isLt t.isLt⟩ ⟨7768 + (h.val * 64 + d.val), by omega⟩)

theorem att_soft (n w : ℕ) (q : Fin 64 → EReal) (k : Fin 256 → Fin 64 → EReal) (v : Fin 256 → EReal) (z : EReal)
    (x v' : Fin 256 → ℝ) (z' : ℝ)
    (hS : ∀ t : Fin 256, (if seen n w t.val then ∑ l : Fin 64, q l * k t l else ⊥) =
      if seen n w t.val then ((x t * (Real.log 2)⁻¹ : ℝ) : EReal) else ⊥)
    (hv : ∀ t, v t = (v' t : EReal)) (hz : z = (z' : EReal)) :
    att n w q k v z = (Cert.Soft.soft (fun t : Fin 256 => seen n w t.val) x v' z' : EReal) := by
  obtain ⟨M, hM⟩ := Cert.Soft.max_real (fun t : Fin 256 => if seen n w t.val then ((x t * (Real.log 2)⁻¹ : ℝ) : EReal) else ⊥)
    (fun t => by split; exacts [EReal.coe_lt_top _, bot_lt_top]) (z' * (Real.log 2)⁻¹)
  obtain rfl : v = fun t => (v' t : EReal) := funext hv
  subst hz
  have hS' := funext hS
  unfold att
  simp only [congrFun hS', log2e, ← EReal.coe_mul (y := (Real.log 2)⁻¹) (x := z')]
  rw [hM]
  exact Cert.Soft.kernel_soft _ _ v' _ M _ fun t => rfl

theorem kernel_at (b : Fin 8) (n : Fin 16) (w : Fin 128) (h g : Fin 4) (d : Fin 64) :
    result (fun i => (r i : EReal)) (fun i => (y i : EReal)) b ⟨n.val * 128 + w.val, by omega⟩ ⟨h.val * 256 + g.val * 64 + d.val, by omega⟩ =
      (Cert.Soft.soft (fun t : Fin 256 => seen n.val w.val t.val) (score r b n h g w) (value r b n h d) (y (ix1 ⟨h.val * 4 + g.val, by omega⟩)) : EReal) := by
  have e1 : (n.val * 128 + w.val) / 128 = n.val := by omega
  have e2 : (n.val * 128 + w.val) % 128 = w.val := by omega
  have e3 : (h.val * 256 + g.val * 64 + d.val) / 64 = h.val * 4 + g.val := by omega
  have e4 : (h.val * 256 + g.val * 64 + d.val) / 256 = h.val := by omega
  have e5 : (h.val * 256 + g.val * 64 + d.val) % 64 = d.val := by omega
  unfold result
  simp only [e1, e2, e3, e4, e5]
  have hS : ∀ t : Fin 256, (if seen n.val w.val t.val then ∑ l : Fin 64, ((r (ix3 b ⟨n.val * 128 + w.val, by omega⟩ ⟨6488 + ((h.val * 4 + g.val) * 64 + l.val), by omega⟩) : ℝ) : EReal) * qscale *
      (r (ix3 b ⟨krow n.val t.val, krow_lt _ _ n.isLt t.isLt⟩ ⟨7512 + (h.val * 64 + l.val), by omega⟩) : EReal) else ⊥) =
      if seen n.val w.val t.val then ((score r b n h g w t * (Real.log 2)⁻¹ : ℝ) : EReal) else ⊥ := fun t => by
    refine congrArg (fun q : EReal => if seen n.val w.val t.val then q else ⊥) ?_
    simp only [qscale, ← EReal.coe_mul]
    rw [Cert.Soft.coe_sum]
    refine congrArg _ ?_
    unfold score
    rw [mul_assoc, Finset.sum_mul]
    exact Finset.sum_congr rfl fun l _ => by ring
  exact att_soft _ _ _ _ _ _ _ (value r b n h d) _ hS (fun _ => rfl) rfl

theorem host_at (b : Fin 8) (n : Fin 16) (w : Fin 128) (h g : Fin 4) (d : Fin 64) :
    mixed (fun i => (r i : EReal)) (probs (exps (scores (fun i => (r i : EReal)) (fun i => (y i : EReal)))))
      (ix3 b ⟨n.val * 128 + w.val, by omega⟩ ⟨h.val * 256 + g.val * 64 + d.val, by omega⟩) =
      (Cert.Soft.soft (fun t : Fin 256 => seen n.val w.val t.val) (score r b n h g w) (value r b n h d) (y (ix1 ⟨h.val * 4 + g.val, by omega⟩)) : EReal) := by
  rw [mixed_at]
  let S : Fin 257 → EReal := fun t => scores (fun i => (r i : EReal)) (fun i => (y i : EReal)) (ix6 b n h g w t)
  have hlast : S (Fin.last 256) = (y (ix1 ⟨h.val * 4 + g.val, by omega⟩) : EReal) := by
    refine (scores_at _ _ b n h g w (Fin.last 256)).trans (dif_neg ?_)
    simp
  have hS : ∀ t : Fin 256, S t.castSucc = if seen n.val w.val t.val then (score r b n h g w t : EReal) else ⊥ := fun t => by
    refine (scores_at _ _ b n h g w t.castSucc).trans ((dif_pos t.isLt).trans ?_)
    rw [show (⟨t.castSucc.val, t.isLt⟩ : Fin 256) = t from rfl, mask_at, dots_at, eighth, negInf]
    by_cases hs : seen n.val w.val t.val
    · rw [if_pos hs, show decide _ = true from decide_eq_true hs]
      refine (show Scalar.select (BitVec.ofBool true) _ _ = _ from rfl).trans ?_
      have : ∀ l : Fin 64, pairs (keys (fun i => (r i : EReal))) (ix5 b n t h l) * queries (fun i => (r i : EReal)) (ix6 b n w h g l) =
          ((r (ix3 b ⟨n.val * 128 + w.val, by omega⟩ ⟨6488 + ((h.val * 4 + g.val) * 64 + l.val), by omega⟩) *
            r (ix3 b ⟨krow n.val t.val, krow_lt _ _ n.isLt t.isLt⟩ ⟨7512 + (h.val * 64 + l.val), by omega⟩) : ℝ) : EReal) := fun l => by
        rw [pairs_at, queries_at]
        simp only [keys_at]
        rw [row_eq (fun k => (r (ix3 b k ⟨7512 + (h.val * 64 + l.val), by omega⟩) : EReal)), if_neg, ← EReal.coe_mul, mul_comm]
        rintro ⟨h1, h2⟩
        rcases hs.2 with h3 | h3 <;> omega
      simp only [this]
      rw [Cert.Soft.coe_sum, ← EReal.coe_mul]
      rfl
    · rw [if_neg hs, show decide _ = false from decide_eq_false hs]
      rfl
  have hlt : ∀ t, S t < ⊤ := Fin.lastCases (by rw [hlast]; exact EReal.coe_lt_top _) fun t => by
    rw [hS t]; split
    exacts [EReal.coe_lt_top _, bot_lt_top]
  obtain ⟨M, hM⟩ := Cert.Soft.fold_real S hlt (Fin.last 256) _ hlast
  have htop : tops (scores (fun i => (r i : EReal)) (fun i => (y i : EReal))) (ix5 b n h g w) = (M : EReal) := (tops_at _ b n h g w).trans hM
  have hsum : sums (exps (scores (fun i => (r i : EReal)) (fun i => (y i : EReal)))) (ix5 b n h g w) =
      (∑ t : Fin 256, Ideal.exp (S t.castSucc - (M : EReal))) + Ideal.exp ((y (ix1 ⟨h.val * 4 + g.val, by omega⟩) : EReal) - (M : EReal)) := by
    rw [sums_at, Fin.sum_univ_castSucc]
    simp only [exps_at, htop]
    exact congrArg (fun q : EReal => _ + Ideal.exp (q - (M : EReal))) hlast
  have hv : ∀ t : Fin 256, pairs (vals (fun i => (r i : EReal))) (ix5 b n t h d) =
      ((if t.val < 128 ∧ n.val < 1 then 0 else value r b n h d t : ℝ) : EReal) := fun t => by
    rw [pairs_at]
    simp only [vals_at]
    rw [row_eq (fun k => (r (ix3 b k ⟨7768 + (h.val * 64 + d.val), by omega⟩) : EReal))]
    split
    · rfl
    · rfl
  refine Eq.trans ?_ (Cert.Soft.host_soft (fun t : Fin 256 => seen n.val w.val t.val) (score r b n h g w) (value r b n h d)
    (fun t => if t.val < 128 ∧ n.val < 1 then 0 else value r b n h d t) (y (ix1 ⟨h.val * 4 + g.val, by omega⟩)) M (fun t => S t.castSucc) hS
    fun t ht => if_neg fun hh => by rcases ht.2 with h3 | h3 <;> omega)
  refine Finset.sum_congr rfl fun t _ => ?_
  rw [hv t, probs_at, hsum, exps_at, htop]
  rfl

/-- The kernel's result is the reference's, for real arguments. -/
theorem agree (u : FVec Ideal Cert.KernelIdeal.S8x2048x16216 .f32) (z : FVec Ideal Cert.KernelIdeal.S16 .f32)
    (hu : ∀ i, ∃ a : ℝ, u i = (a : EReal)) (hz : ∀ i, ∃ a : ℝ, z i = (a : EReal)) :
    (fun j => result u z (j 0) (j 1) (j 2) : FVec Ideal Cert.KernelIdeal.S8x2048x1024 .bf16) = mixed u (probs (exps (scores u z))) := by
  choose r hr using hu
  choose y hy using hz
  obtain rfl : u = fun i => (r i : EReal) := funext hr
  obtain rfl : z = fun i => (y i : EReal) := funext hy
  funext j
  have hn : (j 1).val / 128 < 16 := by have := (j 1).isLt; change (j 1).val < 2048 at this; omega
  have hc : (j 2).val < 1024 := (j 2).isLt
  have es : (j 1) = (⟨(j 1).val / 128 * 128 + (j 1).val % 128, by omega⟩ : Fin 2048) := Fin.ext (Nat.div_add_mod' (j 1).val 128).symm
  have ec : (j 2) = (⟨(j 2).val / 256 * 256 + (j 2).val % 256 / 64 * 64 + (j 2).val % 64, by omega⟩ : Fin 1024) := Fin.ext (show (j 2).val = (j 2).val / 256 * 256 + (j 2).val % 256 / 64 * 64 + (j 2).val % 64 by omega)
  have ej : j = ix3 (j 0) (⟨(j 1).val / 128 * 128 + (j 1).val % 128, by omega⟩ : Fin 2048)
      (⟨(j 2).val / 256 * 256 + (j 2).val % 256 / 64 * 64 + (j 2).val % 64, by omega⟩ : Fin 1024) := by
    funext a
    fin_cases a
    · rfl
    · exact es
    · exact ec
  have k := kernel_at r y (j 0) ⟨(j 1).val / 128, hn⟩ ⟨(j 1).val % 128, by omega⟩ ⟨(j 2).val / 256, by omega⟩ ⟨(j 2).val % 256 / 64, by omega⟩ ⟨(j 2).val % 64, by omega⟩
  have h := host_at r y (j 0) ⟨(j 1).val / 128, hn⟩ ⟨(j 1).val % 128, by omega⟩ ⟨(j 2).val / 256, by omega⟩ ⟨(j 2).val % 256 / 64, by omega⟩ ⟨(j 2).val % 64, by omega⟩
  refine Eq.trans (Eq.trans ?_ (k.trans h.symm)) (congrArg _ ej.symm)
  exact congrArg₂ (fun s c => result _ _ (j 0) s c) es ec

end Cert.Swa
-- ==== Proof.SwaPre.lean ====
module

public import proofs.«01_k».proof.Defs
public import proofs.«01_k».proof.Proof.Gen.Pre_swa_finite
public import Idealize.ShloMosaic.Lib.ReduceAll
public import Idealize.ShloMosaic.PureOps.Ideal

@[expose] public section

noncomputable section

open Idealize.ShloMosaic Idealize.ShloMosaic.TcCoe Idealize.SL.Sem

namespace Cert.Swa

theorem posInf : Ideal.ofBits .f32 0x7F800000#32 = ⊤ := by simp [Ideal.ofBits, Ideal.ieee]

/-- An extended real whose magnitude lies below ∞ is a real. -/
theorem real_of_abs_lt (x : EReal) (h : cmpf (F := Ideal) (s := ⟨0, ![]⟩) (φ := .f32) .olt (fun _ => max x (-x)) (fun _ => Ideal.ofBits .f32 0x7F800000#32) (fun a => a.elim0) = 1#1) :
    ∃ a : ℝ, x = (a : EReal) := by
  rw [posInf] at h
  induction x with
  | bot => simp [cmpf, FloatOps.cmpf, Ideal.cmp] at h
  | top => simp [cmpf, FloatOps.cmpf, Ideal.cmp] at h
  | coe a => exact ⟨a, rfl⟩

/-- The precondition says that every entry of both arguments is a real number. -/
theorem reals (u : FVec Ideal Cert.Pre_swa_finite.S8x2048x16216 .f32) (z : FVec Ideal Cert.Pre_swa_finite.S16 .f32)
    (j : Cert.Pre_swa_finite.S_.Idx) (h : (Cert.Pre_swa_finite.fn u z : IVec Cert.Pre_swa_finite.S_ 1) j = 1#1) :
    (∀ i, ∃ a : ℝ, u i = (a : EReal)) ∧ ∀ i, ∃ a : ℝ, z i = (a : EReal) := by
  dsimp only [Cert.Pre_swa_finite.fn] at h
  obtain ⟨h1, h2⟩ := IntOp.andi_eq_one.1 h
  haveI : Subsingleton Cert.Pre_swa_finite.S_.Idx := ⟨fun a b => funext fun k => k.elim0⟩
  exact ⟨fun i => real_of_abs_lt _ (Host.reduce_andi_all _ _ _ _ j h1 i), fun i => real_of_abs_lt _ (Host.reduce_andi_all _ _ _ _ j h2 i)⟩

end Cert.Swa
-- ==== Proof.lean ====
module

public import proofs.«01_k».proof.Proof.Gen.KernelIdeal.Value
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.FfnRef
public import proofs.«01_k».proof.Proof.Gen.InProj.Frame
public import proofs.«01_k».proof.Proof.Gen.InProjIdeal.Frame
public import proofs.«01_k».proof.Proof.Gen.InProjRefIdeal.Run
public import proofs.«01_k».proof.Proof.InProjDat
public import proofs.«01_k».proof.Proof.InProjIdealDat
public import proofs.«01_k».proof.Proof.InProjFinal
public import proofs.«01_k».proof.Proof.Gen.Merge.Frame
public import proofs.«01_k».proof.Proof.Gen.MergeIdeal.Value
public import proofs.«01_k».proof.Proof.Gen.MergeRefIdeal.Run
public import proofs.«01_k».proof.Proof.MergeFinal
public import proofs.«01_k».proof.Proof.Gen.OutProj.Frame
public import proofs.«01_k».proof.Proof.Gen.OutProjIdeal.Value
public import proofs.«01_k».proof.Proof.Gen.OutProjRefIdeal.Run
public import proofs.«01_k».proof.Proof.OutProjFinal
public import proofs.«01_k».proof.Proof.Gen.Down
public import proofs.«01_k».proof.Proof.Gen.DownIdeal
public import proofs.«01_k».proof.Proof.Gen.DownRefIdeal
public import proofs.«01_k».proof.Proof.Gen.Pre_tables_in_range
public import proofs.«01_k».proof.Proof.DownClaim
public import proofs.«01_k».proof.Proof.DownKernel
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.Pre_up_tables_in_range
public import proofs.«01_k».proof.Proof.UpClaim
public import proofs.«01_k».proof.Proof.UpKernel
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_swa_finite
public import proofs.«01_k».proof.Proof.SwaFinal
public import proofs.«01_k».proof.Proof.SwaRefRun
public import proofs.«01_k».proof.Proof.SwaEq
public import proofs.«01_k».proof.Proof.SwaPre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- A run of the reference leaves its arguments as they were and every counter at zero. -/
theorem frame_r : Cert.quiescent_ReferenceIdeal := fun m ρ _ =>
  (θ_run Cert.ReferenceIdeal.defs _ _).mono
    (fun r h => And.intro (fun c => (h c).2) (sem_eq_zero_of_no_sems (by decide) r.2))
    (Cert.ReferenceIdeal.Value.run m ρ)

open Cert.ReferenceIdeal.Swa in
/-- The sliding-window attention of the kernel and of the reference end with the same array, for real arguments. -/
theorem swa : Cert.algebraic_KernelIdeal_ReferenceIdeal_pre_swa_finite := by
  intro m g m' g' hpre hagree
  refine ⟨fun c => mixed (m ((c.tc : Thread Cert.KernelIdeal.nD Cert.KernelIdeal.τ).loc Cert.KernelIdeal.main_arg0))
    (probs (exps (scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))))), ?_, ?_⟩
  · refine (θ_run Cert.KernelIdeal.defs _ _).mono (fun r h c => ⟨(h c).1.trans ?_, (h c).2⟩) (Cert.KernelIdeal.Value.run_blocks m g)
    obtain ⟨hu, hz⟩ := Cert.Swa.reals _ _ (fun a => a.elim0) (congrFun (hpre c) _)
    exact (Cert.KernelIdeal.Swa.final m c).trans (Cert.Swa.agree _ _ hu hz)
  · refine (θ_run Cert.ReferenceIdeal.defs _ _).mono (fun r h c => ⟨(h c).1.trans ?_, (h c).2⟩) (Cert.ReferenceIdeal.Value.run m' g')
    rw [res_eq, (hagree c).1, (hagree c).2]

/-- A run of the reference of the Ffn pair leaves its arguments as they were and every counter at zero. -/
theorem frame_Ffn : Cert.quiescent_FfnRefIdeal := fun m ρ _ =>
  (θ_run Cert.FfnRefIdeal.defs _ _).mono
    (fun r h => And.intro (fun c => (h c).2) (sem_eq_zero_of_no_sems (by decide) r.2))
    (Cert.FfnRefIdeal.Value.run m ρ)

/-- The gated feed-forward of the kernel and of the reference end with the same array. -/
theorem value_Ffn : Cert.algebraic_FfnIdeal_FfnRefIdeal := by
  intro m g m' g' hpre hagree
  refine ⟨fun c => (fun y => Cert.FfnIdeal.Ffn.result (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (y 0) (y 1) : FVec Ideal Cert.FfnIdeal.S16384x2048 .f32), ?_, ?_⟩
  · exact (θ_run Cert.FfnIdeal.defs _ _).mono (fun r h c => ⟨(h c).1.trans (Cert.FfnIdeal.Ffn.final m c), (h c).2⟩) (Cert.FfnIdeal.Value.run_blocks m g)
  · refine (θ_run Cert.FfnRefIdeal.defs _ _).mono (fun r h c => ⟨(h c).1.trans ?_, (h c).2⟩) (Cert.FfnRefIdeal.Value.run m' g')
    rw [(hagree c).1, (hagree c).2.1, (hagree c).2.2.1, (hagree c).2.2.2]
    exact Cert.FfnRefIdeal.Rows.out_eq _ _ _ _

/-- A run of the reference of the InProj pair leaves its arguments as they were and every counter at zero. -/
theorem frame_InProj : Cert.quiescent_InProjRefIdeal := fun m ρ _ =>
  (θ_run Cert.InProjRefIdeal.defs _ _).mono
    (fun r h => And.intro (fun c => (h c).2.2) (sem_eq_zero_of_no_sems (by decide) r.2))
    (Cert.InProjRefIdeal.Value.run m ρ)

theorem value_InProj : Cert.algebraic_InProjIdeal_InProjRefIdeal := by
  intro m g m' g' hpre hagree
  refine ⟨_, _, Cert.InProjIdeal.Proj.run m g, ?_⟩
  refine (θ_run Cert.InProjRefIdeal.defs _ _).mono (fun r h c => ?_) (Cert.InProjRefIdeal.Value.run m' g')
  obtain ⟨h0, h1, h2⟩ := h c
  refine ⟨h0.trans ?_, h1.trans ?_, h2⟩
  · rw [(hagree c).1, (hagree c).2.1, (hagree c).2.2]
    exact Cert.InProjRefIdeal.Rows.wide_eq _ _ _
  · rw [(hagree c).1, (hagree c).2.1, (hagree c).2.2]
    exact Cert.InProjRefIdeal.Rows.narrow_eq _ _ _
/-- A run of the reference of the Merge pair leaves its arguments as they were and every counter at zero. -/
theorem frame_Merge : Cert.quiescent_MergeRefIdeal := fun m ρ _ =>
  (θ_run Cert.MergeRefIdeal.defs _ _).mono
    (fun r h => And.intro (fun c => (h c).2) (sem_eq_zero_of_no_sems (by decide) r.2))
    (Cert.MergeRefIdeal.Value.run m ρ)

/-- The gated sum of the four branches of the kernel and of the reference end with the same array. -/
theorem value_Merge : Cert.algebraic_MergeIdeal_MergeRefIdeal := by
  intro m g m' g' hpre hagree
  refine ⟨fun c => (fun y => Cert.MergeIdeal.Mix.result (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (y 0) (y 1) : FVec Ideal Cert.MergeIdeal.S16384x2048 .bf16), ?_, ?_⟩
  · exact (θ_run Cert.MergeIdeal.defs _ _).mono (fun r h c => ⟨(h c).1.trans (Cert.MergeIdeal.Mix.final m c), (h c).2⟩) (Cert.MergeIdeal.Value.run_blocks m g)
  · refine (θ_run Cert.MergeRefIdeal.defs _ _).mono (fun r h c => ⟨(h c).1.trans ?_, (h c).2⟩) (Cert.MergeRefIdeal.Value.run m' g')
    rw [(hagree c).1, (hagree c).2.1, (hagree c).2.2.1, (hagree c).2.2.2.1, (hagree c).2.2.2.2.1, (hagree c).2.2.2.2.2]
    exact Cert.MergeRefIdeal.Rows.out_eq _ _ _ _ _ _

/-- A run of the reference of the OutProj pair leaves its arguments as they were and every counter at zero. -/
theorem frame_OutProj : Cert.quiescent_OutProjRefIdeal := fun m ρ _ =>
  (θ_run Cert.OutProjRefIdeal.defs _ _).mono
    (fun r h => And.intro (fun c => (h c).2) (sem_eq_zero_of_no_sems (by decide) r.2))
    (Cert.OutProjRefIdeal.Value.run m ρ)

/-- The output projection of the kernel and of the reference end with the same array. -/
theorem value_OutProj : Cert.algebraic_OutProjIdeal_OutProjRefIdeal := by
  intro m g m' g' hpre hagree
  refine ⟨fun c => (fun y => Cert.OutProjIdeal.Proj.result (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (y 0) (y 1) : FVec Ideal Cert.OutProjIdeal.S16384x2048 .f32), ?_, ?_⟩
  · exact (θ_run Cert.OutProjIdeal.defs _ _).mono (fun r h c => ⟨(h c).1.trans (Cert.OutProjIdeal.Proj.final m c), (h c).2⟩) (Cert.OutProjIdeal.Value.run_blocks m g)
  · refine (θ_run Cert.OutProjRefIdeal.defs _ _).mono (fun r h c => ⟨(h c).1.trans ?_, (h c).2⟩) (Cert.OutProjRefIdeal.Value.run m' g')
    rw [(hagree c).1, (hagree c).2.1, (hagree c).2.2]
    exact Cert.OutProjRefIdeal.Rows.out_eq _ _ _

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Down.Gen.facts, Cert.DownIdeal.Gen.facts, Cert.DownRefIdeal.Gen.facts, Cert.Up.Gen.facts, Cert.UpIdeal.Gen.facts, Cert.UpRefIdeal.Gen.facts, Cert.Pre_swa_finite.Gen.facts, Cert.Pre_tables_in_range.Gen.facts, Cert.Pre_up_tables_in_range.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  fun m ρ _ => Cert.Ffn.Gen.frame m ρ,
  fun m ρ _ => Cert.FfnIdeal.Gen.frame m ρ,
  frame_Ffn,
  fun m ρ _ => Cert.InProj.Hand.frame m ρ,
  fun m ρ _ => Cert.InProjIdeal.Hand.frame m ρ,
  frame_InProj,
  fun m ρ _ => Cert.Merge.Gen.frame m ρ,
  fun m ρ _ => Cert.MergeIdeal.Gen.frame m ρ,
  frame_Merge,
  fun m ρ _ => Cert.OutProj.Gen.frame m ρ,
  fun m ρ _ => Cert.OutProjIdeal.Gen.frame m ρ,
  frame_OutProj,
  Cert.Down.Range.frame_k,
  Cert.Down.Range.frame_i,
  Cert.Down.Range.frame_r,
  fun m ρ _ => Cert.Down.Range.frame_r m ρ trivial,
  Cert.Up.Range.frame_k,
  Cert.Up.Range.frame_i,
  Cert.Up.Range.frame_r,
  fun m ρ _ => Cert.Up.Range.frame_r m ρ trivial,
  ⟨IdealRules.named_const.statement Cert.KernelIdeal.κ "qscale" .f32 0x3E38AA3B#32 _ rfl,
    IdealRules.named_const.statement Cert.KernelIdeal.κ "log2e" .f32 0x3FB8AA3B#32 _ rfl⟩,
  swa,
  trivial,
  value_Ffn,
  trivial,
  value_InProj,
  trivial,
  value_Merge,
  trivial,
  value_OutProj,
  trivial,
  Cert.Down.Range.value,
  trivial,
  Cert.Up.Range.value⟩

end Cert.Proof

end
